-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v141) = v0 c
          ∧ r.2.mem ((c.tc : Thread Cert.Reference4Ideal.nD Cert.Reference4Ideal.τ).loc Cert.Reference4Ideal.main_v142) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v17_0)) (v1 : (c : Dev Cert.Kernel5Ideal.nD) → Buf (Elt Ideal) ((c.tc : Thread Cert.Kernel5Ideal.nD Cert.Kernel5Ideal.τ).loc Cert.Kernel5Ideal.main_v17_1)) (v2 : (c : Dev Cert.Kernel5Ideal.nD) → Buf (Elt Ideal) ((c.tc : Thread Cert.Kernel5Ideal.nD Cert.Kernel5Ideal.τ).loc Cert.Kernel5Ideal.main_v17_2)) (v3 : (c : Dev Cert.Kernel5Ideal.nD) → Buf (Elt Ideal) ((c.tc : Thread Cert.Kernel5Ideal.nD Cert.Kernel5Ideal.τ).loc Cert.Kernel5Ideal.main_v17_3)) (v4 : (c : Dev Cert.Kernel5Ideal.nD) → Buf (Elt Ideal) ((c.tc : Thread Cert.Kernel5Ideal.nD Cert.Kernel5Ideal.τ).loc Cert.Kernel5Ideal.main_v17_4)) (v5 : (c : Dev Cert.Kernel5Ideal.nD) → Buf (Elt Ideal) ((c.tc : Thread Cert.Kernel5Ideal.nD Cert.Kernel5Ideal.τ).loc Cert.Kernel5Ideal.main_v17_5)) (v6 : (c : Dev Cert.Kernel5Ideal.nD) → Buf (Elt Ideal) ((c.tc : Thread Cert.Kernel5Ideal.nD Cert.Kernel5Ideal.τ).loc Cert.Kernel5Ideal.main_v17_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17_0) = v0 c
          ∧ r.2.mem ((c.tc : Thread Cert.Kernel5Ideal.nD Cert.Kernel5Ideal.τ).loc Cert.Kernel5Ideal.main_v17_1) = v1 c
          ∧ r.2.mem ((c.tc : Thread Cert.Kernel5Ideal.nD Cert.Kernel5Ideal.τ).loc Cert.Kernel5Ideal.main_v17_2) = v2 c
          ∧ r.2.mem ((c.tc : Thread Cert.Kernel5Ideal.nD Cert.Kernel5Ideal.τ).loc Cert.Kernel5Ideal.main_v17_3) = v3 c
          ∧ r.2.mem ((c.tc : Thread Cert.Kernel5Ideal.nD Cert.Kernel5Ideal.τ).loc Cert.Kernel5Ideal.main_v17_4) = v4 c
          ∧ r.2.mem ((c.tc : Thread Cert.Kernel5Ideal.nD Cert.Kernel5Ideal.τ).loc Cert.Kernel5Ideal.main_v17_5) = v5 c
          ∧ r.2.mem ((c.tc : Thread Cert.Kernel5Ideal.nD Cert.Kernel5Ideal.τ).loc Cert.Kernel5Ideal.main_v17_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_v34) = v1 c
          ∧ r.2.mem ((c.tc : Thread Cert.Reference5Ideal.nD Cert.Reference5Ideal.τ).loc Cert.Reference5Ideal.main_v35) = v2 c
          ∧ r.2.mem ((c.tc : Thread Cert.Reference5Ideal.nD Cert.Reference5Ideal.τ).loc Cert.Reference5Ideal.main_v37) = v3 c
          ∧ r.2.mem ((c.tc : Thread Cert.Reference5Ideal.nD Cert.Reference5Ideal.τ).loc Cert.Reference5Ideal.main_v38) = v4 c
          ∧ r.2.mem ((c.tc : Thread Cert.Reference5Ideal.nD Cert.Reference5Ideal.τ).loc Cert.Reference5Ideal.main_v39) = v5 c
          ∧ r.2.mem ((c.tc : Thread Cert.Reference5Ideal.nD Cert.Reference5Ideal.τ).loc Cert.Reference5Ideal.main_v30) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v27_0)) (v1 : (c : Dev Cert.Kernel6Ideal.nD) → Buf (Elt Ideal) ((c.tc : Thread Cert.Kernel6Ideal.nD Cert.Kernel6Ideal.τ).loc Cert.Kernel6Ideal.main_v27_1)) (v2 : (c : Dev Cert.Kernel6Ideal.nD) → Buf (Elt Ideal) ((c.tc : Thread Cert.Kernel6Ideal.nD Cert.Kernel6Ideal.τ).loc Cert.Kernel6Ideal.main_v27_2)) (v3 : (c : Dev Cert.Kernel6Ideal.nD) → Buf (Elt Ideal) ((c.tc : Thread Cert.Kernel6Ideal.nD Cert.Kernel6Ideal.τ).loc Cert.Kernel6Ideal.main_v27_3)) (v4 : (c : Dev Cert.Kernel6Ideal.nD) → Buf (Elt Ideal) ((c.tc : Thread Cert.Kernel6Ideal.nD Cert.Kernel6Ideal.τ).loc Cert.Kernel6Ideal.main_v27_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v27_0) = v0 c
          ∧ r.2.mem ((c.tc : Thread Cert.Kernel6Ideal.nD Cert.Kernel6Ideal.τ).loc Cert.Kernel6Ideal.main_v27_1) = v1 c
          ∧ r.2.mem ((c.tc : Thread Cert.Kernel6Ideal.nD Cert.Kernel6Ideal.τ).loc Cert.Kernel6Ideal.main_v27_2) = v2 c
          ∧ r.2.mem ((c.tc : Thread Cert.Kernel6Ideal.nD Cert.Kernel6Ideal.τ).loc Cert.Kernel6Ideal.main_v27_3) = v3 c
          ∧ r.2.mem ((c.tc : Thread Cert.Kernel6Ideal.nD Cert.Kernel6Ideal.τ).loc Cert.Kernel6Ideal.main_v27_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_v35) = v1 c
          ∧ r.2.mem ((c.tc : Thread Cert.Reference6Ideal.nD Cert.Reference6Ideal.τ).loc Cert.Reference6Ideal.main_v36) = v2 c
          ∧ r.2.mem ((c.tc : Thread Cert.Reference6Ideal.nD Cert.Reference6Ideal.τ).loc Cert.Reference6Ideal.main_v38) = v3 c
          ∧ r.2.mem ((c.tc : Thread Cert.Reference6Ideal.nD Cert.Reference6Ideal.τ).loc Cert.Reference6Ideal.main_v39) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8x2048x8x64 : Shape := ⟨4, ![8, 2048, 8, 64]⟩
abbrev S8x2048x8 : Shape := ⟨3, ![8, 2048, 8]⟩
abbrev S_ : Shape := ⟨0, ![]⟩

class Facts : Prop where
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_
  h_S_ : 0 < S_.numel
  bcast_S_S8x2048x8 : S_.BroadcastsInDim S8x2048x8 (![] : Fin 0 → Fin S8x2048x8.rank)
  reducesTo_S8x2048x8_S_d0_1_2 : S8x2048x8.ReducesTo [0, 1, 2] S_

variable [Facts]

def fn {F : FTy → Type} [FloatOps F] (main_arg0 : FVec F S8x2048x8x64 .f32) (main_arg1 : FVec F S8x2048x8x64 .f32) (main_arg2 : FVec F S8x2048x8x64 .f32) (main_arg3 : FVec F S8x2048x8 .f32) : IVec S_ 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_c : IVec S_ 1 := constantI S_ 1 1#1
  let main_v3 : IVec S_ 1 := (fun x v => Host.reduce IntOp.andi x v reducesTo_S8x2048x8x64_S_d0_1_2_3 h_S_) main_v2 main_c
  let main_v4 : FVec F S8x2048x8x64 .f32 := Host.absf main_arg1
  let main_cst_0 : FVec F S_ .f32 := constant S_ .f32 0x7F800000#32
  let main_v5 : FVec F S8x2048x8x64 .f32 := broadcastInDim S8x2048x8x64 ![] bcast_S_S8x2048x8x64 main_cst_0
  let main_v6 : IVec S8x2048x8x64 1 := cmpf .olt main_v4 main_v5
  let main_c_1 : IVec S_ 1 := constantI S_ 1 1#1
  let main_v7 : IVec S_ 1 := (fun x v => Host.reduce IntOp.andi x v reducesTo_S8x2048x8x64_S_d0_1_2_3 h_S_) main_v6 main_c_1
  let main_v8 : IVec S_ 1 := andi main_v3 main_v7
  let main_v9 : FVec F S8x2048x8 .f32 := Host.absf main_arg3
  let main_cst_2 : FVec F S_ .f32 := constant S_ .f32 0x7F800000#32
  let main_v10 : FVec F S8x2048x8 .f32 := broadcastInDim S8x2048x8 ![] bcast_S_S8x2048x8 main_cst_2
  let main_v11 : IVec S8x2048x8 1 := cmpf .olt main_v9 main_v10
  let main_c_3 : IVec S_ 1 := constantI S_ 1 1#1
  let main_v12 : IVec S_ 1 := (fun x v => Host.reduce IntOp.andi x v reducesTo_S8x2048x8_S_d0_1_2 h_S_) main_v11 main_c_3
  let main_v13 : IVec S_ 1 := andi main_v8 main_v12
  main_v13
-- ==== Kernel.lean ====
abbrev S8x2048x8x64 : Shape := ⟨4, ![8, 2048, 8, 64]⟩
abbrev S8x2048x8 : Shape := ⟨3, ![8, 2048, 8]⟩
abbrev S_ : Shape := ⟨0, ![]⟩
abbrev S8x2048x512 : Shape := ⟨3, ![8, 2048, 512]⟩
abbrev S8x512x2048 : Shape := ⟨3, ![8, 512, 2048]⟩
abbrev S8x8x2048 : Shape := ⟨3, ![8, 8, 2048]⟩
abbrev S1x2048x128 : Shape := ⟨3, ![1, 2048, 128]⟩
abbrev S1x128x2048 : Shape := ⟨3, ![1, 128, 2048]⟩
abbrev S1x2048x8 : Shape := ⟨3, ![1, 2048, 8]⟩
abbrev S1x8x2048 : Shape := ⟨3, ![1, 8, 2048]⟩
abbrev S256x256 : Shape := ⟨2, ![256, 256]⟩
abbrev S256x128 : Shape := ⟨2, ![256, 128]⟩
abbrev S2048x8 : Shape := ⟨2, ![2048, 8]⟩
abbrev S2048 : Shape := ⟨1, ![2048]⟩
abbrev S2048x1 : Shape := ⟨2, ![2048, 1]⟩
abbrev S1x1x2048 : Shape := ⟨3, ![1, 1, 2048]⟩
abbrev S1x2048 : Shape := ⟨2, ![1, 2048]⟩
abbrev S1x256x128 : Shape := ⟨3, ![1, 256, 128]⟩
abbrev S256x1 : Shape := ⟨2, ![256, 1]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x128x512 : Shape := ⟨3, ![1, 128, 512]⟩
abbrev S128x512 : Shape := ⟨2, ![128, 512]⟩
abbrev S256x512 : Shape := ⟨2, ![256, 512]⟩
abbrev S1x512 : Shape := ⟨2, ![1, 512]⟩
abbrev S1x512x128 : Shape := ⟨3, ![1, 512, 128]⟩
abbrev S512x128 : Shape := ⟨2, ![512, 128]⟩
abbrev S1x128x768 : Shape := ⟨3, ![1, 128, 768]⟩
abbrev S128x768 : Shape := ⟨2, ![128, 768]⟩
abbrev S256x768 : Shape := ⟨2, ![256, 768]⟩
abbrev S1x768 : Shape := ⟨2, ![1, 768]⟩
abbrev S1x768x128 : Shape := ⟨3, ![1, 768, 128]⟩
abbrev S768x128 : Shape := ⟨2, ![768, 128]⟩
abbrev S1x128x1024 : Shape := ⟨3, ![1, 128, 1024]⟩
abbrev S128x1024 : Shape := ⟨2, ![128, 1024]⟩
abbrev S256x1024 : Shape := ⟨2, ![256, 1024]⟩
abbrev S1x1024 : Shape := ⟨2, ![1, 1024]⟩
abbrev S1x1024x128 : Shape := ⟨3, ![1, 1024, 128]⟩
abbrev S1024x128 : Shape := ⟨2, ![1024, 128]⟩
abbrev S1x128x1280 : Shape := ⟨3, ![1, 128, 1280]⟩
abbrev S128x1280 : Shape := ⟨2, ![128, 1280]⟩
abbrev S256x1280 : Shape := ⟨2, ![256, 1280]⟩
abbrev S1x1280 : Shape := ⟨2, ![1, 1280]⟩
abbrev S1x1280x128 : Shape := ⟨3, ![1, 1280, 128]⟩
abbrev S1280x128 : Shape := ⟨2, ![1280, 128]⟩
abbrev S1x128x1536 : Shape := ⟨3, ![1, 128, 1536]⟩
abbrev S128x1536 : Shape := ⟨2, ![128, 1536]⟩
abbrev S256x1536 : Shape := ⟨2, ![256, 1536]⟩
abbrev S1x1536 : Shape := ⟨2, ![1, 1536]⟩
abbrev S1x1536x128 : Shape := ⟨3, ![1, 1536, 128]⟩
abbrev S1536x128 : Shape := ⟨2, ![1536, 128]⟩
abbrev S1x128x1792 : Shape := ⟨3, ![1, 128, 1792]⟩
abbrev S128x1792 : Shape := ⟨2, ![128, 1792]⟩
abbrev S256x1792 : Shape := ⟨2, ![256, 1792]⟩
abbrev S1x1792 : Shape := ⟨2, ![1, 1792]⟩
abbrev S1x1792x128 : Shape := ⟨3, ![1, 1792, 128]⟩
abbrev S1792x128 : Shape := ⟨2, ![1792, 128]⟩

abbrev nBuf : Space → Nat
  | .hbm => 27
  | .vmem => 12
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x64, .f32⟩
  | .hbm, ⟨2, _⟩ => ⟨S8x2048x8x64, .f32⟩
  | .hbm, ⟨3, _⟩ => ⟨S8x2048x8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x2048x8x64, .f32⟩
  | .hbm, ⟨10, _⟩ => ⟨S8x2048x8x64, .f32⟩
  | .hbm, ⟨11, _⟩ => ⟨S8x2048x8x64, .f32⟩
  | .hbm, ⟨12, _⟩ => ⟨S8x2048x8x64, .f32⟩
  | .hbm, ⟨13, _⟩ => ⟨S8x2048x8x64, .bf16⟩
  | .hbm, ⟨14, _⟩ => ⟨S8x2048x512, .bf16⟩
  | .hbm, ⟨15, _⟩ => ⟨S8x2048x512, .f32⟩
  | .hbm, ⟨16, _⟩ => ⟨S8x512x2048, .f32⟩
  | .hbm, ⟨17, _⟩ => ⟨S8x512x2048, .bf16⟩
  | .hbm, ⟨18, _⟩ => ⟨S8x2048x512, .f32⟩
  | .hbm, ⟨19, _⟩ => ⟨S8x2048x512, .bf16⟩
  | .hbm, ⟨20, _⟩ => ⟨S_, .f32⟩
  | .hbm, ⟨21, _⟩ => ⟨S_, .f32⟩
  | .hbm, ⟨22, _⟩ => ⟨S8x2048x8, .f32⟩
  | .hbm, ⟨23, _⟩ => ⟨S8x2048x8, .f32⟩
  | .hbm, ⟨24, _⟩ => ⟨S8x2048x8, .f32⟩
  | .hbm, ⟨25, _⟩ => ⟨S8x8x2048, .f32⟩
  | .hbm, ⟨26, _⟩ => ⟨S8x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x8, .f32⟩
  | .local _ .vmem, ⟨7, _⟩ => ⟨S1x2048x8, .f32⟩
  | .local _ .vmem, ⟨8, _⟩ => ⟨S1x8x2048, .f32⟩
  | .local _ .vmem, ⟨9, _⟩ => ⟨S1x8x2048, .f32⟩
  | .local _ .vmem, ⟨10, _⟩ => ⟨S1x2048x128, .bf16⟩
  | .local _ .vmem, ⟨11, _⟩ => ⟨S1x2048x128, .bf16⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_call0_cst : Ref sig .tc := ⟨.hbm, 20, rfl⟩
abbrev main_call0_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_off1 (i : grid0.Coords) (c0_i32 : BitVec 32) : Fin 3 → Nat :=
  let c0_3 : Index := 0#32
  let c2_i32 : BitVec 32 := 2#32
  let arg1 : BitVec 32 := BitVec.ofNat 32 (i 1).val
  let v9 : BitVec 32 := Scalar.muli c2_i32 arg1
  let v10 : BitVec 32 := Scalar.addi v9 c0_i32
  let v17 : Index := Scalar.indexCast v10
  let c0_4 : Index := 0#32
  ![0, v17.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x8x64 : Shape := ⟨4, ![8, 2048, 8, 64]⟩
abbrev S8x2048x8 : Shape := ⟨3, ![8, 2048, 8]⟩
abbrev S_ : Shape := ⟨0, ![]⟩
abbrev S8x8x2048 : Shape := ⟨3, ![8, 8, 2048]⟩
abbrev S8x8x2048x2048 : Shape := ⟨4, ![8, 8, 2048, 2048]⟩
abbrev S8x8x2048x1 : Shape := ⟨4, ![8, 8, 2048, 1]⟩
abbrev S8x8x1x2048 : Shape := ⟨4, ![8, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x64x2048 : Shape := ⟨4, ![8, 8, 64, 2048]⟩
abbrev S8x2048x512 : Shape := ⟨3, ![8, 2048, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x64, .f32⟩
  | .hbm, ⟨2, _⟩ => ⟨S8x2048x8x64, .f32⟩
  | .hbm, ⟨3, _⟩ => ⟨S8x2048x8, .f32⟩
  | .hbm, ⟨4, _⟩ => ⟨S_, .f32⟩
  | .hbm, ⟨5, _⟩ => ⟨S_, .f32⟩
  | .hbm, ⟨6, _⟩ => ⟨S8x2048x8, .f32⟩
  | .hbm, ⟨7, _⟩ => ⟨S8x8x2048, .f32⟩
  | .hbm, ⟨8, _⟩ => ⟨S8x8x2048x2048, .f32⟩
  | .hbm, ⟨9, _⟩ => ⟨S_, .f32⟩
  | .hbm, ⟨10, _⟩ => ⟨S8x8x2048x2048, .f32⟩
  | .hbm, ⟨11, _⟩ => ⟨S8x8x2048x2048, .f32⟩
  | .hbm, ⟨12, _⟩ => ⟨S8x8x2048x1, .f32⟩
  | .hbm, ⟨13, _⟩ => ⟨S8x8x1x2048, .f32⟩
  | .hbm, ⟨14, _⟩ => ⟨S8x8x2048x2048, .f32⟩
  | .hbm, ⟨15, _⟩ => ⟨S8x8x2048x2048, .f32⟩
  | .hbm, ⟨16, _⟩ => ⟨S8x8x2048x2048, .f32⟩
  | .hbm, ⟨17, _⟩ => ⟨S8x8x2048x2048, .f32⟩
  | .hbm, ⟨18, _⟩ => ⟨S2048, .i32⟩
  | .hbm, ⟨19, _⟩ => ⟨S1x2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S8x8x2048x2048, .i1⟩
  | .hbm, ⟨27, _⟩ => ⟨S8x8x2048x2048, .f32⟩
  | .hbm, ⟨28, _⟩ => ⟨S8x8x2048x2048, .f32⟩
  | .hbm, ⟨29, _⟩ => ⟨S_, .f32⟩
  | .hbm, ⟨30, _⟩ => ⟨S8x8x2048, .f32⟩
  | .hbm, ⟨31, _⟩ => ⟨S_, .f32⟩
  | .hbm, ⟨32, _⟩ => ⟨S8x8x2048, .f32⟩
  | .hbm, ⟨33, _⟩ => ⟨S8x8x2048, .f32⟩
  | .hbm, ⟨34, _⟩ => ⟨S8x8x2048x1, .f32⟩
  | .hbm, ⟨35, _⟩ => ⟨S8x8x2048x2048, .f32⟩
  | .hbm, ⟨36, _⟩ => ⟨S8x8x2048x2048, .f32⟩
  | .hbm, ⟨37, _⟩ => ⟨S8x8x2048x2048, .f32⟩
  | .hbm, ⟨38, _⟩ => ⟨S_, .f32⟩
  | .hbm, ⟨39, _⟩ => ⟨S8x8x2048, .f32⟩
  | .hbm, ⟨40, _⟩ => ⟨S8x8x2048x1, .f32⟩
  | .hbm, ⟨41, _⟩ => ⟨S8x8x2048x2048, .f32⟩
  | .hbm, ⟨42, _⟩ => ⟨S8x8x2048x2048, .f32⟩
  | .hbm, ⟨43, _⟩ => ⟨S8x8x64x2048, .f32⟩
  | .hbm, ⟨44, _⟩ => ⟨S8x2048x8x64, .f32⟩
  | .hbm, ⟨45, _⟩ => ⟨S8x2048x512, .f32⟩
  | .hbm, ⟨46, _⟩ => ⟨S8x2048x512, .bf16⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 13
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S1x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x2048x1024 : Shape := ⟨3, ![8, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x2816, .f32⟩
  | .hbm, ⟨23, _⟩ => ⟨S8x2048x2816, .f32⟩
  | .hbm, ⟨24, _⟩ => ⟨S8x2048x2816, .f32⟩
  | .hbm, ⟨25, _⟩ => ⟨S_, .f32⟩
  | .hbm, ⟨26, _⟩ => ⟨S8x2048x2816, .f32⟩
  | .hbm, ⟨27, _⟩ => ⟨S8x2048x2816, .f32⟩
  | .hbm, ⟨28, _⟩ => ⟨S_, .f32⟩
  | .hbm, ⟨29, _⟩ => ⟨S8x2048x2816, .f32⟩
  | .hbm, ⟨30, _⟩ => ⟨S8x2048x2816, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S8x2048x1024, .f32⟩
  | .hbm, ⟨47, _⟩ => ⟨S8x2048x1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel3.lean ====
abbrev S32x4x1024 : Shape := ⟨3, ![32, 4, 1024]⟩
abbrev S1024 : Shape := ⟨1, ![1024]⟩
abbrev S1024x2816 : Shape := ⟨2, ![1024, 2816]⟩
abbrev S2816x1024 : Shape := ⟨2, ![2816, 1024]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩
abbrev S1024x1408 : Shape := ⟨2, ![1024, 1408]⟩
abbrev S128x1408 : Shape := ⟨2, ![128, 1408]⟩
abbrev S1408x1024 : Shape := ⟨2, ![1408, 1024]⟩

abbrev nBuf : Space → Nat
  | .hbm => 13
  | .vmem => 7
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S128x1024, .f32⟩
  | .hbm, ⟨7, _⟩ => ⟨S1x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference3Ideal.lean ====
abbrev S32x4x1024 : Shape := ⟨3, ![32, 4, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x2816 : Shape := ⟨3, ![32, 4, 2816]⟩
abbrev S128x1024 : Shape := ⟨2, ![128, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S32x4x1024, .f32⟩
  | .hbm, ⟨7, _⟩ => ⟨S_, .f32⟩
  | .hbm, ⟨8, _⟩ => ⟨S32x4, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S_, .f32⟩
  | .hbm, ⟨14, _⟩ => ⟨S32x4x1, .f32⟩
  | .hbm, ⟨15, _⟩ => ⟨S32x4x1, .f32⟩
  | .hbm, ⟨16, _⟩ => ⟨S32x4x1, .f32⟩
  | .hbm, ⟨17, _⟩ => ⟨S32x4x1024, .f32⟩
  | .hbm, ⟨18, _⟩ => ⟨S32x4x1024, .f32⟩
  | .hbm, ⟨19, _⟩ => ⟨S1x1x1024, .f32⟩
  | .hbm, ⟨20, _⟩ => ⟨S32x4x1024, .f32⟩
  | .hbm, ⟨21, _⟩ => ⟨S32x4x1024, .f32⟩
  | .hbm, ⟨22, _⟩ => ⟨S32x4x2816, .f32⟩
  | .hbm, ⟨23, _⟩ => ⟨S32x4x2816, .f32⟩
  | .hbm, ⟨24, _⟩ => ⟨S32x4x2816, .f32⟩
  | .hbm, ⟨25, _⟩ => ⟨S_, .f32⟩
  | .hbm, ⟨26, _⟩ => ⟨S32x4x2816, .f32⟩
  | .hbm, ⟨27, _⟩ => ⟨S32x4x2816, .f32⟩
  | .hbm, ⟨28, _⟩ => ⟨S_, .f32⟩
  | .hbm, ⟨29, _⟩ => ⟨S32x4x2816, .f32⟩
  | .hbm, ⟨30, _⟩ => ⟨S32x4x2816, .f32⟩
  | .hbm, ⟨31, _⟩ => ⟨S32x4x2816, .f32⟩
  | .hbm, ⟨32, _⟩ => ⟨S32x4x2816, .f32⟩
  | .hbm, ⟨33, _⟩ => ⟨S32x4x2816, .f32⟩
  | .hbm, ⟨34, _⟩ => ⟨S32x4x1024, .f32⟩
  | .hbm, ⟨35, _⟩ => ⟨S32x4x1024, .f32⟩
  | .hbm, ⟨36, _⟩ => ⟨S_, .f32⟩
  | .hbm, ⟨37, _⟩ => ⟨S32x4, .f32⟩
  | .hbm, ⟨38, _⟩ => ⟨S32x4x1, .f32⟩
  | .hbm, ⟨39, _⟩ => ⟨S_, .f32⟩
  | .hbm, ⟨40, _⟩ => ⟨S32x4x1, .f32⟩
  | .hbm, ⟨41, _⟩ => ⟨S32x4x1, .f32⟩
  | .hbm, ⟨42, _⟩ => ⟨S_, .f32⟩
  | .hbm, ⟨43, _⟩ => ⟨S32x4x1, .f32⟩
  | .hbm, ⟨44, _⟩ => ⟨S32x4x1, .f32⟩
  | .hbm, ⟨45, _⟩ => ⟨S32x4x1, .f32⟩
  | .hbm, ⟨46, _⟩ => ⟨S32x4x1024, .f32⟩
  | .hbm, ⟨47, _⟩ => ⟨S32x4x1024, .f32⟩
  | .hbm, ⟨48, _⟩ => ⟨S1x1x1024, .f32⟩
  | .hbm, ⟨49, _⟩ => ⟨S32x4x1024, .f32⟩
  | .hbm, ⟨50, _⟩ => ⟨S32x4x1024, .f32⟩
  | .hbm, ⟨51, _⟩ => ⟨S_, .f32⟩
  | .hbm, ⟨52, _⟩ => ⟨S32x4x1024, .f32⟩
  | .hbm, ⟨53, _⟩ => ⟨S32x4x1024, .f32⟩
  | .hbm, ⟨54, _⟩ => ⟨S32x4x1024, .f32⟩
  | .hbm, ⟨55, _⟩ => ⟨S128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel4.lean ====
abbrev S8x2048x1024 : Shape := ⟨3, ![8, 2048, 1024]⟩
abbrev S1024 : Shape := ⟨1, ![1024]⟩
abbrev S4x256x256 : Shape := ⟨3, ![4, 256, 256]⟩
abbrev S1x1024 : Shape := ⟨2, ![1, 1024]⟩
abbrev S8x16x1024 : Shape := ⟨3, ![8, 16, 1024]⟩
abbrev S1x256x1024 : Shape := ⟨3, ![1, 256, 1024]⟩
abbrev S1x32x1024 : Shape := ⟨3, ![1, 32, 1024]⟩
abbrev S1x16x1024 : Shape := ⟨3, ![1, 16, 1024]⟩
abbrev S288x1024 : Shape := ⟨2, ![288, 1024]⟩
abbrev S256x1024 : Shape := ⟨2, ![256, 1024]⟩
abbrev S256 : Shape := ⟨1, ![256]⟩
abbrev S256x1 : Shape := ⟨2, ![256, 1]⟩
abbrev S32x1024 : Shape := ⟨2, ![32, 1024]⟩
abbrev S32 : Shape := ⟨1, ![32]⟩
abbrev S32x1 : Shape := ⟨2, ![32, 1]⟩
abbrev S16x1024 : Shape := ⟨2, ![16, 1024]⟩
abbrev S280x1024 : Shape := ⟨2, ![280, 1024]⟩
abbrev S272x768 : Shape := ⟨2, ![272, 768]⟩
abbrev S264x512 : Shape := ⟨2, ![264, 512]⟩
abbrev S256x256 : Shape := ⟨2, ![256, 256]⟩
abbrev S1x256x256 : Shape := ⟨3, ![1, 256, 256]⟩

abbrev nBuf : Space → Nat
  | .hbm => 11
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S4x256x256, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4x256x256, .bf16⟩
  | .hbm, ⟨8, _⟩ => ⟨S1x1024, .f32⟩
  | .hbm, ⟨9, _⟩ => ⟨S8x2048x1024, .f32⟩
  | .hbm, ⟨10, _⟩ => ⟨S8x16x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x1024, .f32⟩
  | .local _ .vmem, ⟨5, _⟩ => ⟨S1x1024, .f32⟩
  | .local _ .vmem, ⟨6, _⟩ => ⟨S4x256x256, .bf16⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x16x1024, .f32⟩
  | .local _ .vmem, ⟨11, _⟩ => ⟨S1x16x1024, .f32⟩
  | .local _ .vmem, ⟨12, _⟩ => ⟨S288x1024, .f32⟩
  | .local _ .vmem, ⟨13, _⟩ => ⟨S288x1024, .f32⟩
  | .local _ .vmem, ⟨14, _⟩ => ⟨S288x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_18 : BitVec 32 := 0#32
  let v43 : BitVec 1 := Scalar.cmpi .ne v42 c0_i32_18
  v43

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference4Ideal.lean ====
abbrev S8x2048x1024 : Shape := ⟨3, ![8, 2048, 1024]⟩
abbrev S1024 : Shape := ⟨1, ![1024]⟩
abbrev S4x256x256 : Shape := ⟨3, ![4, 256, 256]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x15x1024 : Shape := ⟨3, ![8, 15, 1024]⟩
abbrev S8x2063x1024 : Shape := ⟨3, ![8, 2063, 1024]⟩
abbrev S2048 : Shape := ⟨1, ![2048]⟩
abbrev S1x2048x1 : Shape := ⟨3, ![1, 2048, 1]⟩
abbrev S8x2048x256 : Shape := ⟨3, ![8, 2048, 256]⟩
abbrev S1x256x256 : Shape := ⟨3, ![1, 256, 256]⟩
abbrev S256x256 : Shape := ⟨2, ![256, 256]⟩
abbrev S8x16x1024 : Shape := ⟨3, ![8, 16, 1024]⟩

abbrev nBuf : Space → Nat
  | .hbm => 163
  | .vmem => 0
  | .smem => 0
  | _ => 0

abbrev hbmTy0_0 (i : Nat) : BufTy := match i % 128 with
  | 0 => ⟨S8x2048x1024, .f32⟩
  | 1 => ⟨S1024, .f32⟩
  | 2 => ⟨S1024, .f32⟩
  | 3 => ⟨S4x256x256, .f32⟩
  | 4 => ⟨S1024, .f32⟩
  | 5 => ⟨S8x2048x1024, .f32⟩
  | 6 => ⟨S_, .f32⟩
  | 7 => ⟨S8x2048, .f32⟩
  | 8 => ⟨S8x2048x1, .f32⟩
  | 9 => ⟨S_, .f32⟩
  | 10 => ⟨S8x2048x1, .f32⟩
  | 11 => ⟨S8x2048x1, .f32⟩
  | 12 => ⟨S_, .f32⟩
  | 13 => ⟨S8x2048x1, .f32⟩
  | 14 => ⟨S8x2048x1, .f32⟩
  | 15 => ⟨S8x2048x1, .f32⟩
  | 16 => ⟨S8x2048x1024, .f32⟩
  | 17 => ⟨S8x2048x1024, .f32⟩
  | 18 => ⟨S1x1x1024, .f32⟩
  | 19 => ⟨S8x2048x1024, .f32⟩
  | 20 => ⟨S8x2048x1024, .f32⟩
  | 21 => ⟨S_, .f32⟩
  | 22 => ⟨S8x15x1024, .f32⟩
  | 23 => ⟨S8x2063x1024, .f32⟩
  | 24 => ⟨S2048, .i32⟩
  | 25 => ⟨S_, .i32⟩
  | 26 => ⟨S2048, .i32⟩
  | 27 => ⟨S2048, .i32⟩
  | 28 => ⟨S_, .i32⟩
  | 29 => ⟨S2048, .i32⟩
  | 30 => ⟨S2048, .i32⟩
  | 31 => ⟨S2048, .f32⟩
  | 32 => ⟨S1x2048x1, .f32⟩
  | 33 => ⟨S8x2048x256, .f32⟩
  | 34 => ⟨S8x2048x256, .f32⟩
  | 35 => ⟨S8x2048x256, .f32⟩
  | 36 => ⟨S8x2048x256, .f32⟩
  | 37 => ⟨S8x2048x256, .f32⟩
  | 38 => ⟨S8x2048x256, .f32⟩
  | 39 => ⟨S8x2048x256, .f32⟩
  | 40 => ⟨S1x256x256, .f32⟩
  | 41 => ⟨S256x256, .f32⟩
  | 42 => ⟨S8x2048x256, .f32⟩
  | 43 => ⟨S_, .i32⟩
  | 44 => ⟨S2048, .i32⟩
  | 45 => ⟨S2048, .i32⟩
  | 46 => ⟨S_, .i32⟩
  | 47 => ⟨S2048, .i32⟩
  | 48 => ⟨S2048, .i32⟩
  | 49 => ⟨S2048, .f32⟩
  | 50 => ⟨S1x2048x1, .f32⟩
  | 51 => ⟨S8x2048x256, .f32⟩
  | 52 => ⟨S8x2048x256, .f32⟩
  | 53 => ⟨S8x2048x256, .f32⟩
  | 54 => ⟨S8x2048x256, .f32⟩
  | 55 => ⟨S8x2048x256, .f32⟩
  | 56 => ⟨S8x2048x256, .f32⟩
  | 57 => ⟨S8x2048x256, .f32⟩
  | 58 => ⟨S8x2048x256, .f32⟩
  | 59 => ⟨S8x2048x256, .f32⟩
  | 60 => ⟨S8x2048x256, .f32⟩
  | 61 => ⟨S8x2048x256, .f32⟩
  | 62 => ⟨S1x256x256, .f32⟩
  | 63 => ⟨S256x256, .f32⟩
  | 64 => ⟨S8x2048x256, .f32⟩
  | 65 => ⟨S_, .i32⟩
  | 66 => ⟨S2048, .i32⟩
  | 67 => ⟨S2048, .i32⟩
  | 68 => ⟨S_, .i32⟩
  | 69 => ⟨S2048, .i32⟩
  | 70 => ⟨S2048, .i32⟩
  | 71 => ⟨S2048, .f32⟩
  | 72 => ⟨S1x2048x1, .f32⟩
  | 73 => ⟨S8x2048x256, .f32⟩
  | 74 => ⟨S8x2048x256, .f32⟩
  | 75 => ⟨S8x2048x256, .f32⟩
  | 76 => ⟨S8x2048x256, .f32⟩
  | 77 => ⟨S8x2048x256, .f32⟩
  | 78 => ⟨S8x2048x256, .f32⟩
  | 79 => ⟨S8x2048x256, .f32⟩
  | 80 => ⟨S8x2048x256, .f32⟩
  | 81 => ⟨S8x2048x256, .f32⟩
  | 82 => ⟨S8x2048x256, .f32⟩
  | 83 => ⟨S8x2048x256, .f32⟩
  | 84 => ⟨S8x2048x256, .f32⟩
  | 85 => ⟨S8x2048x256, .f32⟩
  | 86 => ⟨S8x2048x256, .f32⟩
  | 87 => ⟨S8x2048x256, .f32⟩
  | 88 => ⟨S8x2048x256, .f32⟩
  | 89 => ⟨S8x2048x256, .f32⟩
  | 90 => ⟨S8x2048x256, .f32⟩
  | 91 => ⟨S8x2048x256, .f32⟩
  | 92 => ⟨S1x256x256, .f32⟩
  | 93 => ⟨S256x256, .f32⟩
  | 94 => ⟨S8x2048x256, .f32⟩
  | 95 => ⟨S_, .i32⟩
  | 96 => ⟨S2048, .i32⟩
  | 97 => ⟨S2048, .i32⟩
  | 98 => ⟨S_, .i32⟩
  | 99 => ⟨S2048, .i32⟩
  | 100 => ⟨S2048, .i32⟩
  | 101 => ⟨S2048, .f32⟩
  | 102 => ⟨S1x2048x1, .f32⟩
  | 103 => ⟨S8x2048x256, .f32⟩
  | 104 => ⟨S8x2048x256, .f32⟩
  | 105 => ⟨S8x2048x256, .f32⟩
  | 106 => ⟨S8x2048x256, .f32⟩
  | 107 => ⟨S8x2048x256, .f32⟩
  | 108 => ⟨S8x2048x256, .f32⟩
  | 109 => ⟨S8x2048x256, .f32⟩
  | 110 => ⟨S8x2048x256, .f32⟩
  | 111 => ⟨S8x2048x256, .f32⟩
  | 112 => ⟨S8x2048x256, .f32⟩
  | 113 => ⟨S8x2048x256, .f32⟩
  | 114 => ⟨S8x2048x256, .f32⟩
  | 115 => ⟨S8x2048x256, .f32⟩
  | 116 => ⟨S8x2048x256, .f32⟩
  | 117 => ⟨S8x2048x256, .f32⟩
  | 118 => ⟨S8x2048x256, .f32⟩
  | 119 => ⟨S8x2048x256, .f32⟩
  | 120 => ⟨S8x2048x256, .f32⟩
  | 121 => ⟨S8x2048x256, .f32⟩
  | 122 => ⟨S8x2048x256, .f32⟩
  | 123 => ⟨S8x2048x256, .f32⟩
  | 124 => ⟨S8x2048x256, .f32⟩
  | 125 => ⟨S8x2048x256, .f32⟩
  | 126 => ⟨S8x2048x256, .f32⟩
  | 127 => ⟨S8x2048x256, .f32⟩
  | _ => ⟨S8x2048x1024, .f32⟩

abbrev hbmTy0_1 (i : Nat) : BufTy := match i % 128 with
  | 0 => ⟨S8x2048x256, .f32⟩
  | 1 => ⟨S8x2048x256, .f32⟩
  | 2 => ⟨S8x2048x256, .f32⟩
  | 3 => ⟨S8x2048x256, .f32⟩
  | 4 => ⟨S8x2048x256, .f32⟩
  | 5 => ⟨S8x2048x256, .f32⟩
  | 6 => ⟨S8x2048x256, .f32⟩
  | 7 => ⟨S8x2048x256, .f32⟩
  | 8 => ⟨S8x2048x256, .f32⟩
  | 9 => ⟨S8x2048x256, .f32⟩
  | 10 => ⟨S1x256x256, .f32⟩
  | 11 => ⟨S256x256, .f32⟩
  | 12 => ⟨S8x2048x256, .f32⟩
  | 13 => ⟨S8x2048x1024, .f32⟩
  | 14 => ⟨S1x1x1024, .f32⟩
  | 15 => ⟨S8x2048x1024, .f32⟩
  | 16 => ⟨S8x2048x1024, .f32⟩
  | 17 => ⟨S8x2048x1024, .f32⟩
  | 18 => ⟨S_, .f32⟩
  | 19 => ⟨S8x2048, .f32⟩
  | 20 => ⟨S8x2048x1, .f32⟩
  | 21 => ⟨S_, .f32⟩
  | 22 => ⟨S8x2048x1, .f32⟩
  | 23 => ⟨S8x2048x1, .f32⟩
  | 24 => ⟨S_, .f32⟩
  | 25 => ⟨S8x2048x1, .f32⟩
  | 26 => ⟨S8x2048x1, .f32⟩
  | 27 => ⟨S8x2048x1, .f32⟩
  | 28 => ⟨S8x2048x1024, .f32⟩
  | 29 => ⟨S8x2048x1024, .f32⟩
  | 30 => ⟨S1x1x1024, .f32⟩
  | 31 => ⟨S8x2048x1024, .f32⟩
  | 32 => ⟨S8x2048x1024, .f32⟩
  | 33 => ⟨S8x2048x1024, .f32⟩
  | 34 => ⟨S8x16x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_6 : Ref sig .tc := ⟨.hbm, 65, rfl⟩
abbrev main_v52 : Ref sig .tc := ⟨.hbm, 66, rfl⟩
abbrev main_v53 : Ref sig .tc := ⟨.hbm, 67, rfl⟩
abbrev main_c_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_c_8 : Ref sig .tc := ⟨.hbm, 95, rfl⟩
abbrev main_v80 : Ref sig .tc := ⟨.hbm, 96, rfl⟩
abbrev main_v81 : Ref sig .tc := ⟨.hbm, 97, rfl⟩
abbrev main_c_9 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_cst_10 : Ref sig .tc := ⟨.hbm, 146, rfl⟩
abbrev main_v129 : Ref sig .tc := ⟨.hbm, 147, rfl⟩
abbrev main_v130 : Ref sig .tc := ⟨.hbm, 148, rfl⟩
abbrev main_cst_11 : Ref sig .tc := ⟨.hbm, 149, rfl⟩
abbrev main_v131 : Ref sig .tc := ⟨.hbm, 150, rfl⟩
abbrev main_v132 : Ref sig .tc := ⟨.hbm, 151, rfl⟩
abbrev main_cst_12 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩

abbrev nD : Nat := 1
abbrev τ : Topo := Topo.v7x

variable {F : FTy → Type} [FloatOps F]
-- ==== Kernel5.lean ====
abbrev S8x2048x1024 : Shape := ⟨3, ![8, 2048, 1024]⟩
abbrev S1024 : Shape := ⟨1, ![1024]⟩
abbrev S1024x2568 : Shape := ⟨2, ![1024, 2568]⟩
abbrev S8 : Shape := ⟨1, ![8]⟩
abbrev S1024x1536 : Shape := ⟨2, ![1024, 1536]⟩
abbrev S1024x1024 : Shape := ⟨2, ![1024, 1024]⟩
abbrev S1024x8 : Shape := ⟨2, ![1024, 8]⟩
abbrev S_ : Shape := ⟨0, ![]⟩
abbrev S1024x120 : Shape := ⟨2, ![1024, 120]⟩
abbrev S1024x2688 : Shape := ⟨2, ![1024, 2688]⟩
abbrev S120 : Shape := ⟨1, ![120]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x1024 : Shape := ⟨2, ![1, 1024]⟩
abbrev S8x2048x512 : Shape := ⟨3, ![8, 2048, 512]⟩
abbrev S8x512x2048 : Shape := ⟨3, ![8, 512, 2048]⟩
abbrev S8x8x2048 : Shape := ⟨3, ![8, 8, 2048]⟩
abbrev S8x2048x8 : Shape := ⟨3, ![8, 2048, 8]⟩
abbrev S1x512x1024 : Shape := ⟨3, ![1, 512, 1024]⟩
abbrev S1x512x512 : Shape := ⟨3, ![1, 512, 512]⟩
abbrev S1x8x512 : Shape := ⟨3, ![1, 8, 512]⟩
abbrev S1x512x8 : Shape := ⟨3, ![1, 512, 8]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S512x2688 : Shape := ⟨2, ![512, 2688]⟩
abbrev S512x512 : Shape := ⟨2, ![512, 512]⟩
abbrev S512x128 : Shape := ⟨2, ![512, 128]⟩
abbrev S128x512 : Shape := ⟨2, ![128, 512]⟩
abbrev S8x512 : Shape := ⟨2, ![8, 512]⟩
abbrev S8x1 : Shape := ⟨2, ![8, 1]⟩
abbrev S120x512 : Shape := ⟨2, ![120, 512]⟩
abbrev S512x8 : Shape := ⟨2, ![512, 8]⟩

abbrev nBuf : Space → Nat
  | .hbm => 32
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2568, .f32⟩
  | .hbm, ⟨3, _⟩ => ⟨S8, .f32⟩
  | .hbm, ⟨4, _⟩ => ⟨S1024x1536, .f32⟩
  | .hbm, ⟨5, _⟩ => ⟨S1024x1024, .f32⟩
  | .hbm, ⟨6, _⟩ => ⟨S1024x8, .f32⟩
  | .hbm, ⟨7, _⟩ => ⟨S_, .f32⟩
  | .hbm, ⟨8, _⟩ => ⟨S1024x120, .f32⟩
  | .hbm, ⟨9, _⟩ => ⟨S1024x2688, .f32⟩
  | .hbm, ⟨10, _⟩ => ⟨S1024x2688, .bf16⟩
  | .hbm, ⟨11, _⟩ => ⟨S_, .f32⟩
  | .hbm, ⟨12, _⟩ => ⟨S120, .f32⟩
  | .hbm, ⟨13, _⟩ => ⟨S128, .f32⟩
  | .hbm, ⟨14, _⟩ => ⟨S1x128, .f32⟩
  | .hbm, ⟨15, _⟩ => ⟨S128, .i32⟩
  | .hbm, ⟨16, _⟩ => ⟨S128x1, .i32⟩
  | .hbm, ⟨17, _⟩ => ⟨S1x128, .i32⟩
  | .hbm, ⟨18, _⟩ => ⟨S128x128, .i32⟩
  | .hbm, ⟨19, _⟩ => ⟨S128x128, .i32⟩
  | .hbm, ⟨20, _⟩ => ⟨S128x128, .i1⟩
  | .hbm, ⟨21, _⟩ => ⟨S128x128, .f32⟩
  | .hbm, ⟨22, _⟩ => ⟨S1x1024, .f32⟩
  | .hbm, ⟨23, _⟩ => ⟨S8x2048x512, .bf16⟩
  | .hbm, ⟨24, _⟩ => ⟨S8x512x2048, .f32⟩
  | .hbm, ⟨25, _⟩ => ⟨S8x512x2048, .f32⟩
  | .hbm, ⟨26, _⟩ => ⟨S8x512x2048, .bf16⟩
  | .hbm, ⟨27, _⟩ => ⟨S8x2048x512, .bf16⟩
  | .hbm, ⟨28, _⟩ => ⟨S8x8x2048, .f32⟩
  | .hbm, ⟨29, _⟩ => ⟨S8x2048x512, .f32⟩
  | .hbm, ⟨30, _⟩ => ⟨S8x2048x8, .f32⟩
  | .hbm, ⟨31, _⟩ => ⟨S8x8x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2688, .bf16⟩
  | .local _ .vmem, ⟨4, _⟩ => ⟨S1x128, .f32⟩
  | .local _ .vmem, ⟨5, _⟩ => ⟨S128x128, .f32⟩
  | .local _ .vmem, ⟨6, _⟩ => ⟨S1x512x512, .bf16⟩
  | .local _ .vmem, ⟨7, _⟩ => ⟨S1x512x512, .bf16⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x8x512, .f32⟩
  | .local _ .vmem, ⟨17, _⟩ => ⟨S1x8x512, .f32⟩
  | .local _ .vmem, ⟨18, _⟩ => ⟨S1x512x512, .f32⟩
  | .local _ .vmem, ⟨19, _⟩ => ⟨S1x512x512, .f32⟩
  | .local _ .vmem, ⟨20, _⟩ => ⟨S1x512x8, .f32⟩
  | .local _ .vmem, ⟨21, _⟩ => ⟨S1x512x8, .f32⟩
  | .local _ .vmem, ⟨22, _⟩ => ⟨S1x8x512, .f32⟩
  | .local _ .vmem, ⟨23, _⟩ => ⟨S1x8x512, .f32⟩
  | .local _ .vmem, ⟨24, _⟩ => ⟨S8x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v17_2 : Ref sig .tc := ⟨.hbm, 25, rfl⟩
abbrev main_v17_3 : Ref sig .tc := ⟨.hbm, 26, rfl⟩
abbrev main_v17_4 : Ref sig .tc := ⟨.hbm, 27, rfl⟩
abbrev main_v17_5 : Ref sig .tc := ⟨.hbm, 28, rfl⟩
abbrev main_v17_6 : Ref sig .tc := ⟨.hbm, 29, rfl⟩
abbrev main_v17_7 : Ref sig .tc := ⟨.hbm, 30, rfl⟩
abbrev main_v17_8 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference5Ideal.lean ====
abbrev S8x2048x1024 : Shape := ⟨3, ![8, 2048, 1024]⟩
abbrev S1024 : Shape := ⟨1, ![1024]⟩
abbrev S1024x2568 : Shape := ⟨2, ![1024, 2568]⟩
abbrev S8 : Shape := ⟨1, ![8]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2568 : Shape := ⟨3, ![8, 2048, 2568]⟩
abbrev S8x2048x512 : Shape := ⟨3, ![8, 2048, 512]⟩
abbrev S8x2048x8 : Shape := ⟨3, ![8, 2048, 8]⟩
abbrev S1x1x8 : Shape := ⟨3, ![1, 1, 8]⟩
abbrev S8x512x2048 : Shape := ⟨3, ![8, 512, 2048]⟩
abbrev S8x8x2048 : Shape := ⟨3, ![8, 8, 2048]⟩

abbrev nBuf : Space → Nat
  | .hbm => 65
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2568, .f32⟩
  | .hbm, ⟨3, _⟩ => ⟨S8, .f32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S8x2048x2568, .f32⟩
  | .hbm, ⟨21, _⟩ => ⟨S8x2048x512, .f32⟩
  | .hbm, ⟨22, _⟩ => ⟨S8x2048x512, .f32⟩
  | .hbm, ⟨23, _⟩ => ⟨S8x2048x512, .f32⟩
  | .hbm, ⟨24, _⟩ => ⟨S8x2048x8, .f32⟩
  | .hbm, ⟨25, _⟩ => ⟨S8x2048x512, .f32⟩
  | .hbm, ⟨26, _⟩ => ⟨S8x2048x512, .f32⟩
  | .hbm, ⟨27, _⟩ => ⟨S1x1x8, .f32⟩
  | .hbm, ⟨28, _⟩ => ⟨S8x2048x8, .f32⟩
  | .hbm, ⟨29, _⟩ => ⟨S8x2048x8, .f32⟩
  | .hbm, ⟨30, _⟩ => ⟨S8x2048x8, .f32⟩
  | .hbm, ⟨31, _⟩ => ⟨S_, .f32⟩
  | .hbm, ⟨32, _⟩ => ⟨S8x2048x8, .f32⟩
  | .hbm, ⟨33, _⟩ => ⟨S8x2048x8, .f32⟩
  | .hbm, ⟨34, _⟩ => ⟨S8x2048x8, .f32⟩
  | .hbm, ⟨35, _⟩ => ⟨S8x2048x8, .f32⟩
  | .hbm, ⟨36, _⟩ => ⟨S8x2048x8, .i1⟩
  | .hbm, ⟨37, _⟩ => ⟨S8x2048x8, .f32⟩
  | .hbm, ⟨38, _⟩ => ⟨S8x2048x8, .f32⟩
  | .hbm, ⟨39, _⟩ => ⟨S8x2048x8, .f32⟩
  | .hbm, ⟨40, _⟩ => ⟨S8x2048x8, .f32⟩
  | .hbm, ⟨41, _⟩ => ⟨S8x2048x8, .f32⟩
  | .hbm, ⟨42, _⟩ => ⟨S8x2048x8, .f32⟩
  | .hbm, ⟨43, _⟩ => ⟨S8x2048x8, .f32⟩
  | .hbm, ⟨44, _⟩ => ⟨S8x2048x8, .f32⟩
  | .hbm, ⟨45, _⟩ => ⟨S8x2048x8, .f32⟩
  | .hbm, ⟨46, _⟩ => ⟨S8x2048x512, .f32⟩
  | .hbm, ⟨47, _⟩ => ⟨S8x2048x512, .f32⟩
  | .hbm, ⟨48, _⟩ => ⟨S_, .f32⟩
  | .hbm, ⟨49, _⟩ => ⟨S8x2048x512, .f32⟩
  | .hbm, ⟨50, _⟩ => ⟨S8x2048x512, .f32⟩
  | .hbm, ⟨51, _⟩ => ⟨S_, .f32⟩
  | .hbm, ⟨52, _⟩ => ⟨S8x2048x512, .f32⟩
  | .hbm, ⟨53, _⟩ => ⟨S8x2048x512, .f32⟩
  | .hbm, ⟨54, _⟩ => ⟨S8x2048x512, .f32⟩
  | .hbm, ⟨55, _⟩ => ⟨S_, .f32⟩
  | .hbm, ⟨56, _⟩ => ⟨S8x2048x512, .f32⟩
  | .hbm, ⟨57, _⟩ => ⟨S8x2048x512, .f32⟩
  | .hbm, ⟨58, _⟩ => ⟨S8x2048x512, .bf16⟩
  | .hbm, ⟨59, _⟩ => ⟨S8x512x2048, .f32⟩
  | .hbm, ⟨60, _⟩ => ⟨S8x512x2048, .f32⟩
  | .hbm, ⟨61, _⟩ => ⟨S8x512x2048, .f32⟩
  | .hbm, ⟨62, _⟩ => ⟨S8x512x2048, .bf16⟩
  | .hbm, ⟨63, _⟩ => ⟨S8x2048x512, .bf16⟩
  | .hbm, ⟨64, _⟩ => ⟨S8x8x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩

abbrev nD : Nat := 1
abbrev τ : Topo := Topo.v7x

variable {F : FTy → Type} [FloatOps F]
-- ==== Kernel6.lean ====
abbrev S32x4x1024 : Shape := ⟨3, ![32, 4, 1024]⟩
abbrev S1024 : Shape := ⟨1, ![1024]⟩
abbrev S1024x2568 : Shape := ⟨2, ![1024, 2568]⟩
abbrev S8 : Shape := ⟨1, ![8]⟩
abbrev S1024x1536 : Shape := ⟨2, ![1024, 1536]⟩
abbrev S1024x1024 : Shape := ⟨2, ![1024, 1024]⟩
abbrev S1024x8 : Shape := ⟨2, ![1024, 8]⟩
abbrev S_ : Shape := ⟨0, ![]⟩
abbrev S1024x120 : Shape := ⟨2, ![1024, 120]⟩
abbrev S1024x2688 : Shape := ⟨2, ![1024, 2688]⟩
abbrev S120 : Shape := ⟨1, ![120]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x1024 : Shape := ⟨3, ![1, 128, 1024]⟩
abbrev S1x1024 : Shape := ⟨2, ![1, 1024]⟩
abbrev S1x128x512 : Shape := ⟨3, ![1, 128, 512]⟩
abbrev S1x8x128 : Shape := ⟨3, ![1, 8, 128]⟩
abbrev S1x128x8 : Shape := ⟨3, ![1, 128, 8]⟩
abbrev S8x128 : Shape := ⟨2, ![8, 128]⟩
abbrev S128x1024 : Shape := ⟨2, ![128, 1024]⟩
abbrev S128x2688 : Shape := ⟨2, ![128, 2688]⟩
abbrev S128x512 : Shape := ⟨2, ![128, 512]⟩
abbrev S8x1 : Shape := ⟨2, ![8, 1]⟩
abbrev S120x128 : Shape := ⟨2, ![120, 128]⟩
abbrev S128x8 : Shape := ⟨2, ![128, 8]⟩

abbrev nBuf : Space → Nat
  | .hbm => 74
  | .vmem => 13
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x2568, .f32⟩
  | .hbm, ⟨3, _⟩ => ⟨S8, .f32⟩
  | .hbm, ⟨4, _⟩ => ⟨S1024x1536, .f32⟩
  | .hbm, ⟨5, _⟩ => ⟨S1024x1024, .f32⟩
  | .hbm, ⟨6, _⟩ => ⟨S1024x8, .f32⟩
  | .hbm, ⟨7, _⟩ => ⟨S_, .f32⟩
  | .hbm, ⟨8, _⟩ => ⟨S1024x120, .f32⟩
  | .hbm, ⟨9, _⟩ => ⟨S1024x2688, .f32⟩
  | .hbm, ⟨10, _⟩ => ⟨S1024x2688, .bf16⟩
  | .hbm, ⟨11, _⟩ => ⟨S_, .f32⟩
  | .hbm, ⟨12, _⟩ => ⟨S120, .f32⟩
  | .hbm, ⟨13, _⟩ => ⟨S128, .f32⟩
  | .hbm, ⟨14, _⟩ => ⟨S1x128, .f32⟩
  | .hbm, ⟨15, _⟩ => ⟨S128, .i32⟩
  | .hbm, ⟨16, _⟩ => ⟨S128x1, .i32⟩
  | .hbm, ⟨17, _⟩ => ⟨S1x128, .i32⟩
  | .hbm, ⟨18, _⟩ => ⟨S128x128, .i32⟩
  | .hbm, ⟨19, _⟩ => ⟨S128x128, .i32⟩
  | .hbm, ⟨20, _⟩ => ⟨S128x128, .i1⟩
  | .hbm, ⟨21, _⟩ => ⟨S128x128, .f32⟩
  | .hbm, ⟨22, _⟩ => ⟨S128x1, .i32⟩
  | .hbm, ⟨23, _⟩ => ⟨S_, .i32⟩
  | .hbm, ⟨24, _⟩ => ⟨S_, .i32⟩
  | .hbm, ⟨25, _⟩ => ⟨S128x1, .i32⟩
  | .hbm, ⟨26, _⟩ => ⟨S128x1, .i32⟩
  | .hbm, ⟨27, _⟩ => ⟨S128x1, .i32⟩
  | .hbm, ⟨28, _⟩ => ⟨S_, .i32⟩
  | .hbm, ⟨29, _⟩ => ⟨S128x1, .i32⟩
  | .hbm, ⟨30, _⟩ => ⟨S128x1, .i1⟩
  | .hbm, ⟨31, _⟩ => ⟨S128x1, .i32⟩
  | .hbm, ⟨32, _⟩ => ⟨S128x1, .i32⟩
  | .hbm, ⟨33, _⟩ => ⟨S_, .i32⟩
  | .hbm, ⟨34, _⟩ => ⟨S128x1, .i32⟩
  | .hbm, ⟨35, _⟩ => ⟨S128x1, .i1⟩
  | .hbm, ⟨36, _⟩ => ⟨S128x1, .i1⟩
  | .hbm, ⟨37, _⟩ => ⟨S_, .i32⟩
  | .hbm, ⟨38, _⟩ => ⟨S128x1, .i32⟩
  | .hbm, ⟨39, _⟩ => ⟨S128x1, .i32⟩
  | .hbm, ⟨40, _⟩ => ⟨S128x1, .i32⟩
  | .hbm, ⟨41, _⟩ => ⟨S1x128, .i32⟩
  | .hbm, ⟨42, _⟩ => ⟨S_, .i32⟩
  | .hbm, ⟨43, _⟩ => ⟨S_, .i32⟩
  | .hbm, ⟨44, _⟩ => ⟨S1x128, .i32⟩
  | .hbm, ⟨45, _⟩ => ⟨S1x128, .i32⟩
  | .hbm, ⟨46, _⟩ => ⟨S1x128, .i32⟩
  | .hbm, ⟨47, _⟩ => ⟨S_, .i32⟩
  | .hbm, ⟨48, _⟩ => ⟨S1x128, .i32⟩
  | .hbm, ⟨49, _⟩ => ⟨S1x128, .i1⟩
  | .hbm, ⟨50, _⟩ => ⟨S1x128, .i32⟩
  | .hbm, ⟨51, _⟩ => ⟨S1x128, .i32⟩
  | .hbm, ⟨52, _⟩ => ⟨S_, .i32⟩
  | .hbm, ⟨53, _⟩ => ⟨S1x128, .i32⟩
  | .hbm, ⟨54, _⟩ => ⟨S1x128, .i1⟩
  | .hbm, ⟨55, _⟩ => ⟨S1x128, .i1⟩
  | .hbm, ⟨56, _⟩ => ⟨S_, .i32⟩
  | .hbm, ⟨57, _⟩ => ⟨S1x128, .i32⟩
  | .hbm, ⟨58, _⟩ => ⟨S1x128, .i32⟩
  | .hbm, ⟨59, _⟩ => ⟨S1x128, .i32⟩
  | .hbm, ⟨60, _⟩ => ⟨S128x128, .i32⟩
  | .hbm, ⟨61, _⟩ => ⟨S128x128, .i32⟩
  | .hbm, ⟨62, _⟩ => ⟨S128x128, .i1⟩
  | .hbm, ⟨63, _⟩ => ⟨S128x128, .f32⟩
  | .hbm, ⟨64, _⟩ => ⟨S128x128, .f32⟩
  | .hbm, ⟨65, _⟩ => ⟨S1x128x1024, .f32⟩
  | .hbm, ⟨66, _⟩ => ⟨S1x1024, .f32⟩
  | .hbm, ⟨67, _⟩ => ⟨S1x128x512, .bf16⟩
  | .hbm, ⟨68, _⟩ => ⟨S1x128x512, .f32⟩
  | .hbm, ⟨69, _⟩ => ⟨S1x128x512, .f32⟩
  | .hbm, ⟨70, _⟩ => ⟨S1x8x128, .f32⟩
  | .hbm, ⟨71, _⟩ => ⟨S1x128x512, .f32⟩
  | .hbm, ⟨72, _⟩ => ⟨S1x128x8, .f32⟩
  | .hbm, ⟨73, _⟩ => ⟨S1x8x128, .f32⟩
  | .local _ .vmem, ⟨0, _⟩ => ⟨S1x128x1024, .f32⟩
  | .local _ .vmem, ⟨1, _⟩ => ⟨S1x1024, .f32⟩
  | .local _ .vmem, ⟨2, _⟩ => ⟨S1024x2688, .bf16⟩
  | .local _ .vmem, ⟨3, _⟩ => ⟨S1x128, .f32⟩
  | .local _ .vmem, ⟨4, _⟩ => ⟨S128x128, .f32⟩
  | .local _ .vmem, ⟨5, _⟩ => ⟨S1x128x512, .bf16⟩
  | .local _ .vmem, ⟨6, _⟩ => ⟨S1x128x512, .f32⟩
  | .local _ .vmem, ⟨7, _⟩ => ⟨S1x128x512, .f32⟩
  | .local _ .vmem, ⟨8, _⟩ => ⟨S1x8x128, .f32⟩
  | .local _ .vmem, ⟨9, _⟩ => ⟨S1x128x512, .f32⟩
  | .local _ .vmem, ⟨10, _⟩ => ⟨S1x128x8, .f32⟩
  | .local _ .vmem, ⟨11, _⟩ => ⟨S1x8x128, .f32⟩
  | .local _ .vmem, ⟨12, _⟩ => ⟨S8x128, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v17 : Ref sig .tc := ⟨.hbm, 40, rfl⟩
abbrev main_v18 : Ref sig .tc := ⟨.hbm, 41, rfl⟩
abbrev main_c_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27_0 : Ref sig .tc := ⟨.hbm, 67, rfl⟩
abbrev main_v27_1 : Ref sig .tc := ⟨.hbm, 68, rfl⟩
abbrev main_v27_2 : Ref sig .tc := ⟨.hbm, 69, rfl⟩
abbrev main_v27_3 : Ref sig .tc := ⟨.hbm, 70, rfl⟩
abbrev main_v27_4 : Ref sig .tc := ⟨.hbm, 71, rfl⟩
abbrev main_v27_5 : Ref sig .tc := ⟨.hbm, 72, rfl⟩
abbrev main_v27_6 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x128x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]
-- ==== Reference6Ideal.lean ====
abbrev S32x4x1024 : Shape := ⟨3, ![32, 4, 1024]⟩
abbrev S1024 : Shape := ⟨1, ![1024]⟩
abbrev S1024x2568 : Shape := ⟨2, ![1024, 2568]⟩
abbrev S8 : Shape := ⟨1, ![8]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x2568 : Shape := ⟨3, ![32, 4, 2568]⟩
abbrev S32x4x512 : Shape := ⟨3, ![32, 4, 512]⟩
abbrev S32x4x8 : Shape := ⟨3, ![32, 4, 8]⟩
abbrev S1x1x8 : Shape := ⟨3, ![1, 1, 8]⟩
abbrev S1x128x512 : Shape := ⟨3, ![1, 128, 512]⟩
abbrev S1x128x8 : Shape := ⟨3, ![1, 128, 8]⟩
abbrev S1x8x128 : Shape := ⟨3, ![1, 8, 128]⟩

abbrev nBuf : Space → Nat
  | .hbm => 65
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x2568, .f32⟩
  | .hbm, ⟨3, _⟩ => ⟨S8, .f32⟩
  | .hbm, ⟨4, _⟩ => ⟨S32x4x1024, .f32⟩
  | .hbm, ⟨5, _⟩ => ⟨S_, .f32⟩
  | .hbm, ⟨6, _⟩ => ⟨S32x4, .f32⟩
  | .hbm, ⟨7, _⟩ => ⟨S32x4x1, .f32⟩
  | .hbm, ⟨8, _⟩ => ⟨S_, .f32⟩
  | .hbm, ⟨9, _⟩ => ⟨S32x4x1, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S32x4x1, .f32⟩
  | .hbm, ⟨15, _⟩ => ⟨S32x4x1024, .f32⟩
  | .hbm, ⟨16, _⟩ => ⟨S32x4x1024, .f32⟩
  | .hbm, ⟨17, _⟩ => ⟨S1x1x1024, .f32⟩
  | .hbm, ⟨18, _⟩ => ⟨S32x4x1024, .f32⟩
  | .hbm, ⟨19, _⟩ => ⟨S32x4x1024, .f32⟩
  | .hbm, ⟨20, _⟩ => ⟨S32x4x2568, .f32⟩
  | .hbm, ⟨21, _⟩ => ⟨S32x4x512, .f32⟩
  | .hbm, ⟨22, _⟩ => ⟨S32x4x512, .f32⟩
  | .hbm, ⟨23, _⟩ => ⟨S32x4x512, .f32⟩
  | .hbm, ⟨24, _⟩ => ⟨S32x4x8, .f32⟩
  | .hbm, ⟨25, _⟩ => ⟨S32x4x512, .f32⟩
  | .hbm, ⟨26, _⟩ => ⟨S32x4x512, .f32⟩
  | .hbm, ⟨27, _⟩ => ⟨S1x1x8, .f32⟩
  | .hbm, ⟨28, _⟩ => ⟨S32x4x8, .f32⟩
  | .hbm, ⟨29, _⟩ => ⟨S32x4x8, .f32⟩
  | .hbm, ⟨30, _⟩ => ⟨S32x4x8, .f32⟩
  | .hbm, ⟨31, _⟩ => ⟨S_, .f32⟩
  | .hbm, ⟨32, _⟩ => ⟨S32x4x8, .f32⟩
  | .hbm, ⟨33, _⟩ => ⟨S32x4x8, .f32⟩
  | .hbm, ⟨34, _⟩ => ⟨S32x4x8, .f32⟩
  | .hbm, ⟨35, _⟩ => ⟨S32x4x8, .f32⟩
  | .hbm, ⟨36, _⟩ => ⟨S32x4x8, .i1⟩
  | .hbm, ⟨37, _⟩ => ⟨S32x4x8, .f32⟩
  | .hbm, ⟨38, _⟩ => ⟨S32x4x8, .f32⟩
  | .hbm, ⟨39, _⟩ => ⟨S32x4x8, .f32⟩
  | .hbm, ⟨40, _⟩ => ⟨S32x4x8, .f32⟩
  | .hbm, ⟨41, _⟩ => ⟨S32x4x8, .f32⟩
  | .hbm, ⟨42, _⟩ => ⟨S32x4x8, .f32⟩
  | .hbm, ⟨43, _⟩ => ⟨S32x4x8, .f32⟩
  | .hbm, ⟨44, _⟩ => ⟨S32x4x8, .f32⟩
  | .hbm, ⟨45, _⟩ => ⟨S32x4x8, .f32⟩
  | .hbm, ⟨46, _⟩ => ⟨S32x4x512, .f32⟩
  | .hbm, ⟨47, _⟩ => ⟨S32x4x512, .f32⟩
  | .hbm, ⟨48, _⟩ => ⟨S_, .f32⟩
  | .hbm, ⟨49, _⟩ => ⟨S32x4x512, .f32⟩
  | .hbm, ⟨50, _⟩ => ⟨S32x4x512, .f32⟩
  | .hbm, ⟨51, _⟩ => ⟨S_, .f32⟩
  | .hbm, ⟨52, _⟩ => ⟨S32x4x512, .f32⟩
  | .hbm, ⟨53, _⟩ => ⟨S32x4x512, .f32⟩
  | .hbm, ⟨54, _⟩ => ⟨S32x4x512, .f32⟩
  | .hbm, ⟨55, _⟩ => ⟨S_, .f32⟩
  | .hbm, ⟨56, _⟩ => ⟨S32x4x512, .f32⟩
  | .hbm, ⟨57, _⟩ => ⟨S32x4x512, .f32⟩
  | .hbm, ⟨58, _⟩ => ⟨S32x4x512, .bf16⟩
  | .hbm, ⟨59, _⟩ => ⟨S1x128x512, .bf16⟩
  | .hbm, ⟨60, _⟩ => ⟨S1x128x512, .f32⟩
  | .hbm, ⟨61, _⟩ => ⟨S1x128x512, .f32⟩
  | .hbm, ⟨62, _⟩ => ⟨S1x128x8, .f32⟩
  | .hbm, ⟨63, _⟩ => ⟨S1x8x128, .f32⟩
  | .hbm, ⟨64, _⟩ => ⟨S1x128x512, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩

abbrev nD : Nat := 1
abbrev τ : Topo := Topo.v7x

variable {F : FTy → Type} [FloatOps F]
-- ==== Proof.Block.lean ====
/- One 256-row block of the attention, as the kernel computes it: the masked diagonal scores, the scores of the `K` earlier keys,
   the row maximum over both, the shifted powers of two, their sums, the two products with the values and the final division.
   `attOff` and `attDiag` are those vector operations for any number `K` of earlier keys; the theorems read them at one entry. -/
module

public import Idealize.ShloMosaic.Lib.Pointwise
public import Idealize.ShloMosaic.Lib.MatmulPlain
public import proofs.«01_k».proof.Proof.Gen.KernelIdeal.Skeleton

@[expose] public section

set_option maxRecDepth 16384

noncomputable section

namespace Cert.Attn

open Idealize.ShloMosaic Cert.KernelIdeal Cert.KernelIdeal.Gen
open Cert.KernelIdeal.Facts

/-- A matrix shape. -/
abbrev Mat (a b : Nat) : Shape := ⟨2, ![a, b]⟩

/-- The shifted power of two of a score: `2^(x - M)`. -/
def pw (M x : EReal) : EReal := Ideal.exp2 (x - M)

/-- The block with `K` earlier keys: `s1` the raw scores of the block's own keys, `x2` the scores of the
    earlier ones with their gate sums. -/
def attOff {K : Nat} (v2 : IVec S256x256 1) (mk : Ideal .f32) (s1 : FVec Ideal S256x256 .f32) (x2 : FVec Ideal (Mat 256 K) .f32)
    (cq : FVec Ideal S256x1 .f32) (ck1 : FVec Ideal S1x256 .f32)
    (vd : FVec Ideal S256x128 .bf16) (vo : FVec Ideal (Mat K 128) .bf16)
    (hb' : S256x1.Broadcasts (Mat 256 K)) (hr : (Mat 256 K).Reduces [1] S256) :
    FVec Ideal S256x128 .f32 :=
  let x1 : FVec Ideal S256x256 .f32 := select v2 (addf s1 (subf (broadcastTo S256x256 cq broadcasts_S256x1_S256x256) (broadcastTo S256x256 ck1 broadcasts_S1x256_S256x256))) (broadcast S256x256 mk)
  let m1 : FVec Ideal S256x1 .f32 := shapeCast S256x1 (multiReduction .maximumf [1] S256 x1 0xFF800000#32 reduces_S256x256_S256 (.inl rfl) rfl) shapeCasts_S256_S256x1
  let m2 : FVec Ideal S256x1 .f32 := shapeCast S256x1 (multiReduction .maximumf [1] S256 x2 0xFF800000#32 hr (.inl rfl) rfl) shapeCasts_S256_S256x1
  let mm : FVec Ideal S256x1 .f32 := maximumf m1 m2
  let p1 : FVec Ideal S256x256 .f32 := exp2 (subf x1 (broadcastTo S256x256 mm broadcasts_S256x1_S256x256))
  let l1 : FVec Ideal S256x1 .f32 := shapeCast S256x1 (multiReduction .add [1] S256 p1 0x00000000#32 reduces_S256x256_S256 (.inl rfl) rfl) shapeCasts_S256_S256x1
  let o1 : FVec Ideal S256x128 .f32 := matmul (DotDims.plain 256 256 128) none (truncf .bf16 p1 bitsLt_bf16_f32) vd (constant S256x128 .f32 0x00000000#32)
  let p2 : FVec Ideal (Mat 256 K) .f32 := exp2 (subf x2 (broadcastTo (Mat 256 K) mm hb'))
  let l2 : FVec Ideal S256x1 .f32 := shapeCast S256x1 (multiReduction .add [1] S256 p2 0x00000000#32 hr (.inl rfl) rfl) shapeCasts_S256_S256x1
  let o2 : FVec Ideal S256x128 .f32 := matmul (DotDims.plain 256 K 128) none (truncf .bf16 p2 bitsLt_bf16_f32) vo (constant S256x128 .f32 0x00000000#32)
  mulf (addf o1 o2) (broadcastTo S256x128 (divf (broadcast S256x1 (Scalar.ofBits .f32 0x3F800000#32)) (addf l1 l2)) broadcasts_S256x1_S256x128)

/-- The first block, which has no earlier keys. -/
def attDiag (v2 : IVec S256x256 1) (mk : Ideal .f32) (s1 : FVec Ideal S256x256 .f32)
    (cq : FVec Ideal S256x1 .f32) (ck1 : FVec Ideal S1x256 .f32) (vd : FVec Ideal S256x128 .bf16) : FVec Ideal S256x128 .f32 :=
  let x1 : FVec Ideal S256x256 .f32 := select v2 (addf s1 (subf (broadcastTo S256x256 cq broadcasts_S256x1_S256x256) (broadcastTo S256x256 ck1 broadcasts_S1x256_S256x256))) (broadcast S256x256 mk)
  let m1 : FVec Ideal S256x1 .f32 := shapeCast S256x1 (multiReduction .maximumf [1] S256 x1 0xFF800000#32 reduces_S256x256_S256 (.inl rfl) rfl) shapeCasts_S256_S256x1
  let p1 : FVec Ideal S256x256 .f32 := exp2 (subf x1 (broadcastTo S256x256 m1 broadcasts_S256x1_S256x256))
  let l1 : FVec Ideal S256x1 .f32 := shapeCast S256x1 (multiReduction .add [1] S256 p1 0x00000000#32 reduces_S256x256_S256 (.inl rfl) rfl) shapeCasts_S256_S256x1
  let o1 : FVec Ideal S256x128 .f32 := matmul (DotDims.plain 256 256 128) none (truncf .bf16 p1 bitsLt_bf16_f32) vd (constant S256x128 .f32 0x00000000#32)
  mulf o1 (broadcastTo S256x128 (divf (broadcast S256x1 (Scalar.ofBits .f32 0x3F800000#32)) l1) broadcasts_S256x1_S256x128)

/-- The masked score of the diagonal block at one entry. -/
def dsc (v2 : IVec S256x256 1) (mk : Ideal .f32) (s1 : FVec Ideal S256x256 .f32) (cq : FVec Ideal S256x1 .f32) (ck1 : FVec Ideal S1x256 .f32) (a b : Fin 256) : EReal :=
  Scalar.select (v2 (ix2 a b)) (s1 (ix2 a b) + (cq (ix2 a 0) - ck1 (ix2 0 b))) mk

/-- The largest masked score of the block's own keys in a row. -/
def dmx (v2 : IVec S256x256 1) (mk : Ideal .f32) (s1 : FVec Ideal S256x256 .f32) (cq : FVec Ideal S256x1 .f32) (ck1 : FVec Ideal S1x256 .f32) (a : Fin 256) : EReal :=
  Finset.univ.fold max ⊥ fun b => dsc v2 mk s1 cq ck1 a b

theorem negInf : Ideal.ofBits FTy.f32 4286578688#32 = ⊥ := by
  simp [Ideal.ofBits, Ideal.ieee]

theorem attDiag_apply (v2 : IVec S256x256 1) (mk : Ideal .f32) (s1 : FVec Ideal S256x256 .f32)
    (cq : FVec Ideal S256x1 .f32) (ck1 : FVec Ideal S1x256 .f32) (vd : FVec Ideal S256x128 .bf16) (a : Fin 256) (c : Fin 128) :
    attDiag v2 mk s1 cq ck1 vd (ix2 a c)
      = (∑ b : Fin 256, pw (dmx v2 mk s1 cq ck1 a) (dsc v2 mk s1 cq ck1 a b) * vd (ix2 b c))
        * Ideal.div 1 (∑ b : Fin 256, pw (dmx v2 mk s1 cq ck1 a) (dsc v2 mk s1 cq ck1 a b)) := by
  pointwise [attDiag, negInf]
  rfl

theorem plain_apply {M K N : ℕ} {φ₁ φ₂ : FTy}
    (lhs : FVec Ideal ⟨2, ![M, K]⟩ φ₁) (rhs : FVec Ideal ⟨2, ![K, N]⟩ φ₂) (r : Fin M) (c : Fin N) :
    matmul (DotDims.plain M K N) none lhs rhs (constant (F := Ideal) _ .f32 0x00000000#32) (ix2 r c)
      = ∑ k : Fin K, lhs (ix2 r k) * rhs (ix2 k c) := by
  refine (Ideal.matmul_plain_apply none lhs rhs _ r c).trans ?_
  pointwise
  rfl

theorem attOff_apply {K : Nat} (v2 : IVec S256x256 1) (mk : Ideal .f32) (s1 : FVec Ideal S256x256 .f32) (x2 : FVec Ideal (Mat 256 K) .f32)
    (cq : FVec Ideal S256x1 .f32) (ck1 : FVec Ideal S1x256 .f32)
    (vd : FVec Ideal S256x128 .bf16) (vo : FVec Ideal (Mat K 128) .bf16)
    (hb' : S256x1.Broadcasts (Mat 256 K)) (hr : (Mat 256 K).Reduces [1] S256) (a : Fin 256) (c : Fin 128) (M : EReal)
    (hM : M = max (dmx v2 mk s1 cq ck1 a) (Finset.univ.fold max ⊥ fun k : Fin K => x2 (ix2 a k))) :
    attOff v2 mk s1 x2 cq ck1 vd vo hb' hr (ix2 a c)
      = ((∑ b : Fin 256, pw M (dsc v2 mk s1 cq ck1 a b) * vd (ix2 b c))
          + ∑ k : Fin K, pw M (x2 (ix2 a k)) * vo (ix2 k c))
        * Ideal.div 1 ((∑ b : Fin 256, pw M (dsc v2 mk s1 cq ck1 a b)) + ∑ k : Fin K, pw M (x2 (ix2 a k))) := by
  subst hM
  unfold attOff
  rw [mulf_apply, addf_apply, plain_apply, plain_apply]
  pointwise [negInf]
  rfl

end Cert.Attn
-- ==== Proof.Softmax.lean ====
/- The law behind the attention: a softmax in powers of two, shifted by the largest score, equals the softmax in powers of `e` of
   the same scores in natural units plus any constant; stated over the extended reals for scores that are `⊥` (masked) or real,
   and any values. -/
module

public import Idealize.ShloMosaic.PureOps.Ideal
public import Mathlib.Analysis.SpecialFunctions.Pow.Real

@[expose] public section

noncomputable section

namespace Cert.Attn

open Idealize.ShloMosaic
open scoped BigOperators

/-- The natural weight of a score: `e^z`, `0` for a masked one. -/
def wt (z : EReal) : ℝ := (Ideal.exp z).toReal

theorem wt_bot : wt ⊥ = 0 := by simp [wt]
theorem wt_coe (r : ℝ) : wt (r : EReal) = Real.exp r := by simp [wt]
theorem wt_nonneg (z : EReal) (h : z ≠ ⊤) : 0 ≤ wt z := by
  induction z using EReal.rec with
  | bot => simp [wt_bot]
  | coe r => rw [wt_coe]; exact (Real.exp_pos r).le
  | top => exact absurd rfl h

/-- A nonnegative real factor goes into a finite sum of extended reals. -/
theorem mul_sum' {κ : Type*} (s : Finset κ) (a : ℝ) (ha : 0 ≤ a) (f : κ → EReal) :
    (a : EReal) * ∑ k ∈ s, f k = ∑ k ∈ s, (a : EReal) * f k := by
  classical
  induction s using Finset.induction_on with
  | empty => simp
  | insert k s hk ih =>
    rw [Finset.sum_insert hk, Finset.sum_insert hk,
      EReal.left_distrib_of_nonneg_of_ne_top (by exact_mod_cast ha) (EReal.coe_ne_top a), ih]

theorem coe_sum {κ : Type*} (s : Finset κ) (f : κ → ℝ) : ∑ k ∈ s, (f k : EReal) = ((∑ k ∈ s, f k : ℝ) : EReal) := by
  classical
  induction s using Finset.induction_on with
  | empty => simp
  | insert k s hk ih => rw [Finset.sum_insert hk, Finset.sum_insert hk, ih, EReal.coe_add]

/-- The fold of `max` from `⊥` is the supremum. -/
theorem fold_max_sup {κ : Type*} (s : Finset κ) (f : κ → EReal) : s.fold max ⊥ f = s.sup f := rfl

/-- The largest of finitely many scores, none `⊤` and one real, is real. -/
theorem sup_real {κ : Type*} [Fintype κ] (x : κ → EReal) (ht : ∀ k, x k ≠ ⊤) (k0 : κ) (h0 : x k0 ≠ ⊥) :
    ∃ r : ℝ, Finset.univ.sup x = (r : EReal) := by
  have h1 : Finset.univ.sup x ≠ ⊤ := by
    have : Finset.univ.sup x < ⊤ := (Finset.sup_lt_iff (by simp)).2 fun k _ => lt_top_iff_ne_top.2 (ht k)
    exact this.ne
  have h2 : Finset.univ.sup x ≠ ⊥ := fun h => h0 (le_bot_iff.1 (h ▸ Finset.le_sup (f := x) (Finset.mem_univ k0)))
  exact ⟨_, (EReal.coe_toReal h1 h2).symm⟩

theorem rpow_two (t : ℝ) : Real.rpow 2 t = Real.exp (Real.log 2 * t) := by
  show (2 : ℝ) ^ t = _
  rw [Real.rpow_def_of_pos (by norm_num)]

/-- The power of two of a shifted score is its natural weight times one factor. -/
theorem exp2_shift (x : EReal) (hx : x ≠ ⊤) (M c : ℝ) :
    Ideal.exp2 (x - (M : EReal))
      = ((Real.exp (-c - Real.log 2 * M) * wt (x * ((Real.log 2 : ℝ) : EReal) + (c : EReal)) : ℝ) : EReal) := by
  induction x using EReal.rec with
  | bot =>
    have h2 : (0 : ℝ) < Real.log 2 := Real.log_pos (by norm_num)
    rw [EReal.bot_sub, EReal.bot_mul_coe_of_pos h2, EReal.bot_add, wt_bot]; simp
  | coe r =>
    rw [← EReal.coe_sub, ← EReal.coe_mul, ← EReal.coe_add, wt_coe, Ideal.exp2_coe, rpow_two, ← Real.exp_add]
    congr 2; ring
  | top => exact absurd rfl hx

/-- The natural exponential of a shifted score. -/
theorem exp_shift (y : EReal) (hy : y ≠ ⊤) (M : ℝ) :
    Ideal.exp (y - (M : EReal)) = ((Real.exp (-M) * wt y : ℝ) : EReal) := by
  induction y using EReal.rec with
  | bot => rw [EReal.bot_sub, wt_bot]; simp
  | coe r => rw [← EReal.coe_sub, wt_coe, Ideal.exp_coe, ← Real.exp_add]; congr 2; ring
  | top => exact absurd rfl hy

/-- THE LAW. `x` are the scores in units of `log 2`, `y = x · log 2 + c` the same scores in natural
    units: both softmax averages of the values `v` are one number. -/
theorem softmax_law {κ : Type*} [Fintype κ] (x y v : κ → EReal) (c : ℝ) (hx : ∀ k, x k ≠ ⊤) (k0 : κ) (h0 : x k0 ≠ ⊥)
    (hy : ∀ k, y k = x k * ((Real.log 2 : ℝ) : EReal) + (c : EReal)) :
    (∑ k, Ideal.exp2 (x k - Finset.univ.sup x) * v k)
        * Ideal.div 1 (∑ k, Ideal.exp2 (x k - Finset.univ.sup x))
      = ∑ k, v k * Ideal.div (Ideal.exp (y k - max ⊥ (Finset.univ.sup y))) (0 + ∑ j, Ideal.exp (y j - max ⊥ (Finset.univ.sup y))) := by
  have h2 : (0 : ℝ) < Real.log 2 := Real.log_pos (by norm_num)
  have key : ∀ k, (x k = ⊥ ∧ y k = ⊥) ∨ ∃ r s : ℝ, x k = r ∧ y k = s := by
    intro k
    obtain hk | ⟨r, hk⟩ : x k = ⊥ ∨ ∃ r : ℝ, x k = r := by
      have hz := hx k
      generalize x k = z at hz
      induction z using EReal.rec with
      | bot => exact .inl rfl
      | coe r => exact .inr ⟨r, rfl⟩
      | top => exact absurd rfl hz
    · left; refine ⟨hk, ?_⟩; rw [hy, hk, EReal.bot_mul_coe_of_pos h2, EReal.bot_add]
    · right; exact ⟨r, r * Real.log 2 + c, hk, by rw [hy, hk]; norm_cast⟩
  have hyt : ∀ k, y k ≠ ⊤ := by
    intro k; rcases key k with ⟨_, h⟩ | ⟨r, s, _, h⟩ <;> rw [h] <;> simp
  have hy0 : y k0 ≠ ⊥ := by
    rcases key k0 with ⟨h, _⟩ | ⟨r, s, _, h⟩
    · exact absurd h h0
    · rw [h]; simp
  obtain ⟨M, hM⟩ := sup_real x hx k0 h0
  obtain ⟨M', hM'⟩ := sup_real y hyt k0 hy0
  have hmax : max ⊥ (Finset.univ.sup y) = (M' : EReal) := by rw [hM']; exact max_eq_right bot_le
  rw [hM, hmax]
  have e1 : ∀ k, Ideal.exp2 (x k - (M : EReal)) = ((Real.exp (-c - Real.log 2 * M) * wt (y k) : ℝ) : EReal) :=
    fun k => by rw [exp2_shift _ (hx k) M c, hy]
  have e2 : ∀ k, Ideal.exp (y k - (M' : EReal)) = ((Real.exp (-M') * wt (y k) : ℝ) : EReal) := fun k => exp_shift _ (hyt k) M'
  simp only [e1, e2]
  generalize hα : Real.exp (-c - Real.log 2 * M) = α
  generalize hβ : Real.exp (-M') = β
  have pα : 0 < α := hα ▸ Real.exp_pos _
  have pβ : 0 < β := hβ ▸ Real.exp_pos _
  rw [coe_sum, coe_sum, ← Finset.mul_sum, ← Finset.mul_sum, zero_add]
  have hD : 0 < ∑ k, wt (y k) := by
    refine Finset.sum_pos' (fun k _ => wt_nonneg _ (hyt k)) ⟨k0, Finset.mem_univ _, ?_⟩
    rcases key k0 with ⟨h, _⟩ | ⟨r, s, _, h⟩
    · exact absurd h h0
    · rw [h, wt_coe]; exact Real.exp_pos s
  generalize (∑ k, wt (y k)) = D at hD
  rw [Ideal.div_coe (mul_pos pα hD).ne', one_mul, mul_comm, mul_sum' _ _ (by positivity)]
  refine Finset.sum_congr rfl fun k _ => ?_
  rw [Ideal.div_coe (mul_pos pβ hD).ne', ← mul_assoc, ← EReal.coe_mul, ← EReal.coe_mul, mul_comm]
  congr 2
  field_simp

end Cert.Attn
-- ==== Proof.Rows.lean ====
/- One row of one block, in the words of the mathematics: the scores of a query against all 2048 keys, `⊥` for the keys after it,
   and the average of the values they weigh. The block operations of `Block` compute exactly this, for any number of earlier keys. -/
module

public import proofs.«01_k».proof.Proof.Block
public import proofs.«01_k».proof.Proof.Softmax
public import Idealize.ShloMosaic.Lib.WordCmp

@[expose] public section

set_option maxRecDepth 16384

noncomputable section

namespace Cert.Attn

open Idealize.ShloMosaic Cert.KernelIdeal Cert.KernelIdeal.Gen
open Cert.KernelIdeal.Facts
open scoped BigOperators

/-- The weighted average of `v` under the scores `x`, in powers of two and shifted as the kernel shifts. -/
def rowOut (x : Fin 2048 → EReal) (v : Fin 2048 → EReal) : EReal :=
  (∑ k, pw (Finset.univ.sup x) (x k) * v k) * Ideal.div 1 (∑ k, pw (Finset.univ.sup x) (x k))

/-- The score of the query in row `n` against key `k`: a product over the lanes of one head (`low`: lanes below 64), plus the
    query's gate sum less the key's; `⊥` for a key after the query. -/
def score (low : Bool) (Q : Fin 128 → EReal) (KT : Fin 128 → Fin 2048 → EReal) (CK : Fin 2048 → EReal) (cq : EReal) (n : Nat) (k : Fin 2048) : EReal :=
  if k.val ≤ n then (∑ l : Fin 128, (if (decide (l.val < 64)) = low then Q l else 0) * KT l k) + (cq - CK k) else ⊥

theorem pw_bot (M : EReal) : pw M ⊥ = 0 := by simp [pw]

/-- The indices below 2048, cut at a block's first key and at its last. -/
theorem sum_split (K : Nat) (hK : K + 256 ≤ 2048) (f : Fin 2048 → EReal) (hf : ∀ k : Fin 2048, K + 256 ≤ k.val → f k = 0) :
    ∑ k, f k = (∑ b : Fin 256, f ⟨K + b.val, by omega⟩) + ∑ k : Fin K, f ⟨k.val, by omega⟩ := by
  have e : ∀ (n : Nat) (g : Fin n → EReal), ∑ k, g k = ∑ k ∈ Finset.range n, if h : k < n then g ⟨k, h⟩ else 0 := by
    intro n g
    rw [Finset.sum_range]
    exact Finset.sum_congr rfl fun k _ => by rw [dif_pos k.isLt]
  have hs : Finset.range 2048 = Finset.range ((K + 256) + (2048 - (K + 256))) := by congr 1; omega
  rw [e 2048 f, e 256, e K, hs, Finset.sum_range_add, Finset.sum_range_add, add_comm (∑ x ∈ Finset.range K, _)]
  rw [Finset.sum_eq_zero (s := Finset.range (2048 - (K + 256)))]
  · rw [add_zero]
    refine congrArg₂ (· + ·) (Finset.sum_congr rfl fun k hk => ?_) (Finset.sum_congr rfl fun k hk => ?_)
    · have := Finset.mem_range.1 hk
      rw [dif_pos this, dif_pos (by omega)]
    · have := Finset.mem_range.1 hk
      rw [dif_pos this, dif_pos (by omega)]
  · intro k hk
    have := Finset.mem_range.1 hk
    rw [dif_pos (by omega)]
    exact hf _ (by simp)

theorem sup_split (K : Nat) (hK : K + 256 ≤ 2048) (f : Fin 2048 → EReal) (hf : ∀ k : Fin 2048, K + 256 ≤ k.val → f k = ⊥) :
    Finset.univ.sup f = max (Finset.univ.sup fun b : Fin 256 => f ⟨K + b.val, by omega⟩) (Finset.univ.sup fun k : Fin K => f ⟨k.val, by omega⟩) := by
  apply le_antisymm
  · refine Finset.sup_le fun k _ => ?_
    by_cases h1 : K + 256 ≤ k.val
    · rw [hf k h1]; exact bot_le
    by_cases h2 : k.val < K
    · exact le_max_of_le_right (Finset.le_sup (f := fun k : Fin K => f ⟨k.val, by omega⟩) (Finset.mem_univ (⟨k.val, h2⟩ : Fin K)))
    · refine le_max_of_le_left (le_trans (le_of_eq ?_) (Finset.le_sup (f := fun b : Fin 256 => f ⟨K + b.val, by omega⟩) (Finset.mem_univ (⟨k.val - K, by omega⟩ : Fin 256))))
      exact congrArg f (Fin.ext (by show k.val = K + (k.val - K); omega))
  · exact max_le (Finset.sup_le fun b _ => Finset.le_sup (f := f) (Finset.mem_univ _)) (Finset.sup_le fun b _ => Finset.le_sup (f := f) (Finset.mem_univ _))

/-- A query block with the other head's lanes set to zero. -/
def qm (low : Bool) (q : FVec Ideal S256x128 .bf16) : FVec Ideal S256x128 .bf16 :=
  match low with
  | true => select k0_pay3 q (broadcast S256x128 (Scalar.ofBits .bf16 0x0000#16))
  | false => select k0_pay3 (broadcast S256x128 (Scalar.ofBits .bf16 0x0000#16)) q

theorem low_pos (l : Fin 128) (h : l.val < 64) : IntOp.cmpi CmpIPredicate.slt (BitVec.ofNat 32 l.val) 64#32 = 1#1 := by
  word_cmp

theorem low_neg (l : Fin 128) (h : ¬ l.val < 64) : IntOp.cmpi CmpIPredicate.slt (BitVec.ofNat 32 l.val) 64#32 = 0#1 := by
  word_cmp

theorem pay3_apply (a : Fin 256) (l : Fin 128) : k0_pay3 (ix2 a l) = if l.val < 64 then 1#1 else 0#1 := by
  pointwise [k0_pay3]
  by_cases h : l.val < 64
  · rw [if_pos h, low_pos l h]
  · rw [if_neg h, low_neg l h]

theorem zero_bf16 : (Scalar.ofBits .bf16 0x0000#16 : Ideal .bf16) = (0 : EReal) := by
  simp [Scalar.ofBits, Ideal.ofBits, Ideal.ieee]

theorem qm_apply (low : Bool) (q : FVec Ideal S256x128 .bf16) (a : Fin 256) (l : Fin 128) :
    qm low q (ix2 a l) = if (decide (l.val < 64)) = low then q (ix2 a l) else 0 := by
  cases low <;> simp only [qm, ValueIdx.select_apply, pay3_apply, ValueIdx.broadcast_apply, zero_bf16] <;> by_cases h : l.val < 64 <;> simp [h, Scalar.select]

theorem pay2_apply (a b : Fin 256) : k0_pay2 (ix2 a b) = if b.val ≤ a.val then 1#1 else 0#1 := by
  pointwise [k0_pay2]
  by_cases h : b.val ≤ a.val
  · rw [if_pos h]; word_cmp
  · rw [if_neg h]; word_cmp

/-- The masking constant of the scores, which stands for `⊥`. -/
abbrev mk : Ideal .f32 := Named.named κ "mask" 0xF149F2CA#32
theorem mk_eq : mk = (⊥ : EReal) := IdealRules.named_const.ideal_named_scalar _ _ _ _ rfl

/-- One head of a block, with `K` earlier keys. -/
def half {K : Nat} (low : Bool) (q : FVec Ideal S256x128 .bf16) (kd : FVec Ideal S128x256 .bf16) (ko : FVec Ideal (Mat 128 K) .bf16)
    (bc : FVec Ideal (Mat 256 K) .f32) (cq : FVec Ideal S256x1 .f32) (ck1 : FVec Ideal S1x256 .f32)
    (vd : FVec Ideal S256x128 .bf16) (vo : FVec Ideal (Mat K 128) .bf16)
    (hb' : S256x1.Broadcasts (Mat 256 K)) (hr : (Mat 256 K).Reduces [1] S256) : FVec Ideal S256x128 .f32 :=
  attOff k0_pay2 mk (matmul (DotDims.plain 256 128 256) none (qm low q) kd (constant S256x256 .f32 0x00000000#32))
    (addf (matmul (DotDims.plain 256 128 K) none (qm low q) ko (constant (Mat 256 K) .f32 0x00000000#32))
      (subf (broadcastTo (Mat 256 K) cq hb') bc)) cq ck1 vd vo hb' hr

/-- One head of the first block. -/
def half0 (low : Bool) (q : FVec Ideal S256x128 .bf16) (kd : FVec Ideal S128x256 .bf16)
    (cq : FVec Ideal S256x1 .f32) (ck1 : FVec Ideal S1x256 .f32) (vd : FVec Ideal S256x128 .bf16) : FVec Ideal S256x128 .f32 :=
  attDiag k0_pay2 mk (matmul (DotDims.plain 256 128 256) none (qm low q) kd (constant S256x256 .f32 0x00000000#32)) cq ck1 vd

/-- A column repeated along the rows, at one entry. -/
theorem bcol {K : Nat} (cq : FVec Ideal S256x1 .f32) (hb' : S256x1.Broadcasts (Mat 256 K)) (a : Fin 256) (k : Fin K) :
    broadcastTo (Mat 256 K) cq hb' (ix2 a k) = cq (ix2 a 0) := by
  pointwise

theorem dsc_eq (low : Bool) (q : FVec Ideal S256x128 .bf16) (kd : FVec Ideal S128x256 .bf16) (cq : FVec Ideal S256x1 .f32) (ck1 : FVec Ideal S1x256 .f32)
    (K : Nat) (hK : K + 256 ≤ 2048) (a b : Fin 256) (Q : Fin 128 → EReal) (KT : Fin 128 → Fin 2048 → EReal) (CK : Fin 2048 → EReal) (cq0 : EReal)
    (hQ : ∀ l, q (ix2 a l) = Q l) (hkd : ∀ l b, kd (ix2 l b) = KT l ⟨K + b.val, by omega⟩) (hck1 : ∀ b, ck1 (ix2 0 b) = CK ⟨K + b.val, by omega⟩)
    (hcq : cq (ix2 a 0) = cq0) :
    dsc k0_pay2 mk (matmul (DotDims.plain 256 128 256) none (qm low q) kd (constant S256x256 .f32 0x00000000#32)) cq ck1 a b
      = score low Q KT CK cq0 (K + a.val) ⟨K + b.val, by omega⟩ := by
  unfold dsc score
  rw [pay2_apply, mk_eq]
  by_cases h : b.val ≤ a.val
  · rw [if_pos h, if_pos (by show K + b.val ≤ K + a.val; omega), plain_apply, hck1, hcq]
    simp only [Scalar.select, qm_apply, hQ, hkd]
    rfl
  · rw [if_neg h, if_neg (by show ¬ (K + b.val ≤ K + a.val); omega)]
    rfl

theorem half_row {K : Nat} (hK : K + 256 ≤ 2048) (low : Bool) (q : FVec Ideal S256x128 .bf16) (kd : FVec Ideal S128x256 .bf16) (ko : FVec Ideal (Mat 128 K) .bf16)
    (bc : FVec Ideal (Mat 256 K) .f32) (cq : FVec Ideal S256x1 .f32) (ck1 : FVec Ideal S1x256 .f32)
    (vd : FVec Ideal S256x128 .bf16) (vo : FVec Ideal (Mat K 128) .bf16)
    (hb' : S256x1.Broadcasts (Mat 256 K)) (hr : (Mat 256 K).Reduces [1] S256) (a : Fin 256) (c : Fin 128)
    (Q : Fin 128 → EReal) (KT : Fin 128 → Fin 2048 → EReal) (CK : Fin 2048 → EReal) (cq0 : EReal) (V : Fin 2048 → EReal)
    (hQ : ∀ l, q (ix2 a l) = Q l) (hkd : ∀ l b, kd (ix2 l b) = KT l ⟨K + b.val, by omega⟩) (hko : ∀ l (k : Fin K), ko (ix2 l k) = KT l ⟨k.val, by omega⟩)
    (hck1 : ∀ b, ck1 (ix2 0 b) = CK ⟨K + b.val, by omega⟩) (hbc : ∀ k : Fin K, bc (ix2 a k) = CK ⟨k.val, by omega⟩) (hcq : cq (ix2 a 0) = cq0)
    (hvd : ∀ b, vd (ix2 b c) = V ⟨K + b.val, by omega⟩) (hvo : ∀ k : Fin K, vo (ix2 k c) = V ⟨k.val, by omega⟩) :
    half low q kd ko bc cq ck1 vd vo hb' hr (ix2 a c) = rowOut (score low Q KT CK cq0 (K + a.val)) V := by
  unfold half
  have e2 : ∀ k : Fin K, (addf (matmul (DotDims.plain 256 128 K) none (qm low q) ko (constant (Mat 256 K) .f32 0x00000000#32))
      (subf (broadcastTo (Mat 256 K) cq hb') bc)) (ix2 a k)
      = score low Q KT CK cq0 (K + a.val) ⟨k.val, by omega⟩ := by
    intro k
    unfold score
    rw [addf_apply, plain_apply, subf_apply, bcol, hbc, hcq, if_pos (by show k.val ≤ K + a.val; omega)]
    simp only [qm_apply, hQ, hko]
    rfl
  have hb : ∀ k : Fin 2048, K + 256 ≤ k.val → score low Q KT CK cq0 (K + a.val) k = ⊥ := by
    intro k hk; unfold score; rw [if_neg (by omega)]
  rw [attOff_apply (M := Finset.univ.sup (score low Q KT CK cq0 (K + a.val)))]
  · simp only [dsc_eq low q kd cq ck1 K hK a _ Q KT CK cq0 hQ hkd hck1 hcq, e2, hvd, hvo]
    unfold rowOut
    rw [sum_split K hK _ (fun k hk => by rw [hb k hk, pw_bot, zero_mul]), sum_split K hK _ (fun k hk => by rw [hb k hk, pw_bot])]
  · rw [sup_split K hK _ hb]
    simp only [dmx, dsc_eq low q kd cq ck1 K hK a _ Q KT CK cq0 hQ hkd hck1 hcq, e2, fold_max_sup]

theorem half0_row (low : Bool) (q : FVec Ideal S256x128 .bf16) (kd : FVec Ideal S128x256 .bf16)
    (cq : FVec Ideal S256x1 .f32) (ck1 : FVec Ideal S1x256 .f32) (vd : FVec Ideal S256x128 .bf16) (a : Fin 256) (c : Fin 128)
    (Q : Fin 128 → EReal) (KT : Fin 128 → Fin 2048 → EReal) (CK : Fin 2048 → EReal) (cq0 : EReal) (V : Fin 2048 → EReal)
    (hQ : ∀ l, q (ix2 a l) = Q l) (hkd : ∀ l b, kd (ix2 l b) = KT l ⟨0 + b.val, by omega⟩)
    (hck1 : ∀ b, ck1 (ix2 0 b) = CK ⟨0 + b.val, by omega⟩) (hcq : cq (ix2 a 0) = cq0)
    (hvd : ∀ b, vd (ix2 b c) = V ⟨0 + b.val, by omega⟩) :
    half0 low q kd cq ck1 vd (ix2 a c) = rowOut (score low Q KT CK cq0 (0 + a.val)) V := by
  unfold half0
  have hb : ∀ k : Fin 2048, 0 + 256 ≤ k.val → score low Q KT CK cq0 (0 + a.val) k = ⊥ := by
    intro k hk; unfold score; rw [if_neg (by omega)]
  have em : dmx k0_pay2 mk (matmul (DotDims.plain 256 128 256) none (qm low q) kd (constant S256x256 .f32 0x00000000#32)) cq ck1 a
      = Finset.univ.sup (score low Q KT CK cq0 (0 + a.val)) := by
    rw [sup_split 0 (by omega) _ hb]
    simp only [dmx, dsc_eq low q kd cq ck1 0 (by omega) a _ Q KT CK cq0 hQ hkd hck1 hcq, fold_max_sup]
    rw [Finset.univ_eq_empty (α := Fin 0), Finset.sup_empty]
    exact (max_eq_left bot_le).symm
  rw [attDiag_apply, em]
  simp only [dsc_eq low q kd cq ck1 0 (by omega) a _ Q KT CK cq0 hQ hkd hck1 hcq, hvd]
  unfold rowOut
  rw [sum_split 0 (by omega) _ (fun k hk => by rw [hb k hk, pw_bot, zero_mul]), sum_split 0 (by omega) _ (fun k hk => by rw [hb k hk, pw_bot])]
  rw [Finset.univ_eq_empty (α := Fin 0)]
  simp only [Finset.sum_empty, add_zero]

/-- Which head's numbers a lane takes. -/
theorem lanes_apply (x y : FVec Ideal S256x128 .f32) (a : Fin 256) (c : Fin 128) :
    shapeCast S1x256x128 (truncf .bf16 (select k0_pay3 x y) bitsLt_bf16_f32) shapeCasts_S256x128_S1x256x128 (ix3 0 a c)
      = if c.val < 64 then x (ix2 a c) else y (ix2 a c) := by
  pointwise
  rw [pay3_apply]
  by_cases h : c.val < 64 <;> simp [h, Scalar.select]

/-- What a point stores for one row: each lane is its own head's average. -/
def rowsOut (Q : Fin 128 → EReal) (KT : Fin 128 → Fin 2048 → EReal) (CK : Bool → Fin 2048 → EReal) (cq : Bool → EReal)
    (V : Fin 2048 → EReal) (n : Nat) (low : Bool) : EReal :=
  rowOut (score low Q KT (CK low) (cq low) n) V

theorem piece_row {K : Nat} (hK : K + 256 ≤ 2048) (q q' : FVec Ideal S256x128 .bf16) (kd kd' : FVec Ideal S128x256 .bf16) (ko ko' : FVec Ideal (Mat 128 K) .bf16)
    (bc bc' : FVec Ideal (Mat 256 K) .f32) (cq cq' : FVec Ideal S256x1 .f32) (ck1 ck1' : FVec Ideal S1x256 .f32)
    (vd vd' : FVec Ideal S256x128 .bf16) (vo vo' : FVec Ideal (Mat K 128) .bf16)
    (hb' : S256x1.Broadcasts (Mat 256 K)) (hr : (Mat 256 K).Reduces [1] S256) (a : Fin 256) (c : Fin 128)
    (Q : Fin 128 → EReal) (KT : Fin 128 → Fin 2048 → EReal) (CK : Bool → Fin 2048 → EReal) (cq0 : Bool → EReal) (V : Fin 2048 → EReal)
    (hQ : ∀ l, q (ix2 a l) = Q l) (hQ' : ∀ l, q' (ix2 a l) = Q l)
    (hkd : ∀ l b, kd (ix2 l b) = KT l ⟨K + b.val, by omega⟩) (hkd' : ∀ l b, kd' (ix2 l b) = KT l ⟨K + b.val, by omega⟩)
    (hko : ∀ l (k : Fin K), ko (ix2 l k) = KT l ⟨k.val, by omega⟩) (hko' : ∀ l (k : Fin K), ko' (ix2 l k) = KT l ⟨k.val, by omega⟩)
    (hbc : ∀ k : Fin K, bc (ix2 a k) = CK true ⟨k.val, by omega⟩) (hbc' : ∀ k : Fin K, bc' (ix2 a k) = CK false ⟨k.val, by omega⟩)
    (hcq : cq (ix2 a 0) = cq0 true) (hcq' : cq' (ix2 a 0) = cq0 false)
    (hck1 : ∀ b, ck1 (ix2 0 b) = CK true ⟨K + b.val, by omega⟩) (hck1' : ∀ b, ck1' (ix2 0 b) = CK false ⟨K + b.val, by omega⟩)
    (hvd : ∀ b, vd (ix2 b c) = V ⟨K + b.val, by omega⟩) (hvd' : ∀ b, vd' (ix2 b c) = V ⟨K + b.val, by omega⟩)
    (hvo : ∀ k : Fin K, vo (ix2 k c) = V ⟨k.val, by omega⟩) (hvo' : ∀ k : Fin K, vo' (ix2 k c) = V ⟨k.val, by omega⟩) :
    shapeCast S1x256x128 (truncf .bf16 (select k0_pay3 (half true q kd ko bc cq ck1 vd vo hb' hr) (half false q' kd' ko' bc' cq' ck1' vd' vo' hb' hr))
        bitsLt_bf16_f32) shapeCasts_S256x128_S1x256x128 (ix3 0 a c)
      = rowsOut Q KT CK cq0 V (K + a.val) (decide (c.val < 64)) := by
  rw [lanes_apply]
  unfold rowsOut
  by_cases h : c.val < 64
  · rw [if_pos h, decide_eq_true h]
    exact half_row hK true q kd ko bc cq ck1 vd vo hb' hr a c Q KT (CK true) (cq0 true) V hQ hkd hko hck1 hbc hcq hvd hvo
  · rw [if_neg h, decide_eq_false h]
    exact half_row hK false q' kd' ko' bc' cq' ck1' vd' vo' hb' hr a c Q KT (CK false) (cq0 false) V hQ' hkd' hko' hck1' hbc' hcq' hvd' hvo'

theorem piece0_row (q q' : FVec Ideal S256x128 .bf16) (kd kd' : FVec Ideal S128x256 .bf16)
    (cq cq' : FVec Ideal S256x1 .f32) (ck1 ck1' : FVec Ideal S1x256 .f32) (vd vd' : FVec Ideal S256x128 .bf16) (a : Fin 256) (c : Fin 128)
    (Q : Fin 128 → EReal) (KT : Fin 128 → Fin 2048 → EReal) (CK : Bool → Fin 2048 → EReal) (cq0 : Bool → EReal) (V : Fin 2048 → EReal)
    (hQ : ∀ l, q (ix2 a l) = Q l) (hQ' : ∀ l, q' (ix2 a l) = Q l)
    (hkd : ∀ l b, kd (ix2 l b) = KT l ⟨0 + b.val, by omega⟩) (hkd' : ∀ l b, kd' (ix2 l b) = KT l ⟨0 + b.val, by omega⟩)
    (hcq : cq (ix2 a 0) = cq0 true) (hcq' : cq' (ix2 a 0) = cq0 false)
    (hck1 : ∀ b, ck1 (ix2 0 b) = CK true ⟨0 + b.val, by omega⟩) (hck1' : ∀ b, ck1' (ix2 0 b) = CK false ⟨0 + b.val, by omega⟩)
    (hvd : ∀ b, vd (ix2 b c) = V ⟨0 + b.val, by omega⟩) (hvd' : ∀ b, vd' (ix2 b c) = V ⟨0 + b.val, by omega⟩) :
    shapeCast S1x256x128 (truncf .bf16 (select k0_pay3 (half0 true q kd cq ck1 vd) (half0 false q' kd' cq' ck1' vd'))
        bitsLt_bf16_f32) shapeCasts_S256x128_S1x256x128 (ix3 0 a c)
      = rowsOut Q KT CK cq0 V (0 + a.val) (decide (c.val < 64)) := by
  rw [lanes_apply]
  unfold rowsOut
  by_cases h : c.val < 64
  · rw [if_pos h, decide_eq_true h]
    exact half0_row true q kd cq ck1 vd a c Q KT (CK true) (cq0 true) V hQ hkd hck1 hcq hvd
  · rw [if_neg h, decide_eq_false h]
    exact half0_row false q' kd' cq' ck1' vd' a c Q KT (CK false) (cq0 false) V hQ' hkd' hck1' hcq' hvd'

/-- The head a word names: twice the pair, plus which of the two. -/
theorem head_word (p : Nat) (hp : p < 4) (e : Nat) (he : e < 2) :
    (Scalar.addi (Scalar.muli 2#32 (BitVec.ofNat 32 p)) (BitVec.ofNat 32 e)) = BitVec.ofNat 32 (2 * p + e) := by
  interval_cases p <;> interval_cases e <;> decide

/-- A sum over eight lanes of one chosen lane. -/
theorem pick (n : Nat) (hn : n < 8) (f : Fin 8 → EReal) :
    (∑ l : Fin 8, Scalar.select (IntOp.cmpi CmpIPredicate.eq (BitVec.ofNat 32 l.val) (BitVec.ofNat 32 n)) (f l) 0) = f ⟨n, hn⟩ := by
  rw [Finset.sum_eq_single (⟨n, hn⟩ : Fin 8)]
  · simp [Scalar.select, IntOp.cmpi]
  · intro b _ hb
    have : b.val ≠ n := fun h => hb (Fin.ext h)
    have hw : IntOp.cmpi CmpIPredicate.eq (BitVec.ofNat 32 b.val) (BitVec.ofNat 32 n) = 0#1 := by word_cmp
    rw [hw]; rfl
  · intro h; exact absurd (Finset.mem_univ _) h

theorem pay5_apply (i : grid0.Coords) (v : Vec Ideal S1x2048x8 .f32) (s : Fin 2048) (hp : (i 1).val < 4) :
    k0_pay5 (F := Ideal) i v (ix2 s 0) = v (ix3 0 s ⟨2 * (i 1).val + 0, by omega⟩) := by
  refine Eq.trans ?_ (pick (2 * (i 1).val + 0) (by omega) fun l => v (ix3 0 s l))
  have hw := head_word (i 1).val hp 0 (by omega)
  rw [← hw]
  pointwise [k0_pay5, k0_pay4]

theorem pay7_apply (i : grid0.Coords) (v : Vec Ideal S1x2048x8 .f32) (s : Fin 2048) (hp : (i 1).val < 4) :
    k0_pay7 (F := Ideal) i v (ix2 s 0) = v (ix3 0 s ⟨2 * (i 1).val + 1, by omega⟩) := by
  refine Eq.trans ?_ (pick (2 * (i 1).val + 1) (by omega) fun l => v (ix3 0 s l))
  have hw := head_word (i 1).val hp 1 (by omega)
  rw [← hw]
  pointwise [k0_pay7, k0_pay4]

end Cert.Attn
-- ==== Proof.Pieces.lean ====
/- What the kernel's body stores at a grid point, entry by entry: the eight row blocks, each cut into the two heads of the
   point's pair, all in one form (`rowsOut`) of the point's five input blocks. -/
module

public import proofs.«01_k».proof.Proof.Gen.KernelIdeal.Value
public import proofs.«01_k».proof.Proof.Rows
public import Idealize.ShloMosaic.Lib.Pipeline.ValueKit

@[expose] public section

set_option maxRecDepth 16384

noncomputable section

namespace Cert.Attn

open Cert.KernelIdeal.Facts
open Idealize.ShloMosaic Cert.KernelIdeal Cert.KernelIdeal.Gen Idealize.ShloMosaic.TcCoe Idealize.SL.Sem

theorem pair_lt (t : Fin cfg0.N) : (grid0.coords t 1).val < 4 := (grid0.coords t 1).isLt

theorem ix_head (X : Vec Ideal S1x8x2048 .f32) (n n' : Nat) (hn : n < 8) (hn' : n' < 8) (h : n = n') (k : Fin 2048) :
    X (ix3 0 ⟨n, hn⟩ k) = X (ix3 0 ⟨n', hn'⟩ k) := by subst h; rfl

theorem head_row (p : Nat) (hp : p < 4) (e : Nat) (he : e < 2) :
    (Scalar.indexCast (Scalar.addi (Scalar.muli 2#32 (BitVec.ofNat 32 p)) (BitVec.ofNat 32 e))).toNat = 2 * p + e := by
  rw [head_word p hp e he]
  interval_cases p <;> interval_cases e <;> decide

/-- A sum over the eight heads of one head of the point's pair. -/
theorem pick_pair (p : Nat) (hp : p < 4) (e : Nat) (he : e < 2) (f : Fin 8 → EReal) :
    (∑ l : Fin 8, Scalar.select (IntOp.cmpi CmpIPredicate.eq (BitVec.ofNat 32 l.val) (Scalar.addi (Scalar.muli 2#32 (BitVec.ofNat 32 p)) (BitVec.ofNat 32 e))) (f l) 0)
      = f ⟨2 * p + e, by omega⟩ := by
  rw [head_word p hp e he]
  exact pick _ _ f

/-- The head of the point's pair a half of the lanes belongs to. -/
def hd (p : Nat) (hp : p < 4) (low : Bool) : Fin 8 := ⟨2 * p + cond low 0 1, by cases low <;> simp <;> omega⟩

theorem outs_apply (m : (ℓ : Loc nD τ sig) → Buf (Elt Ideal) ℓ) (c : Dev nD) (t : Fin cfg0.N) (y0 : Fin 1) (y1 : Fin 2048) (y2 : Fin 128) :
    outsAt0 m c t (ix3 y0 y1 y2)
     = rowsOut (fun l => (iblk m c 0 t : Vec Ideal S1x2048x128 .bf16) (ix3 0 y1 l)) (fun l k => (iblk m c 1 t : Vec Ideal S1x128x2048 .bf16) (ix3 0 l k))
        (fun b k => (iblk m c 4 t : Vec Ideal S1x8x2048 .f32) (ix3 0 (hd (grid0.coords t 1).val (pair_lt t) b) k))
        (fun b => (iblk m c 3 t : Vec Ideal S1x2048x8 .f32) (ix3 0 y1 (hd (grid0.coords t 1).val (pair_lt t) b)))
        (fun k => (iblk m c 2 t : Vec Ideal S1x2048x128 .bf16) (ix3 0 k y2)) y1.val (decide (y2.val < 64)) := by
  have hp := pair_lt t
  unfold outsAt0 out0_A_5
  rw [View.read_writes_eq_canon _ _ _ (cover0_A_5 c _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  generalize (iblk m c 0 t : Vec Ideal S1x2048x128 .bf16) = X0
  generalize (iblk m c 1 t : Vec Ideal S1x128x2048 .bf16) = X1
  generalize (iblk m c 2 t : Vec Ideal S1x2048x128 .bf16) = X2
  generalize (iblk m c 3 t : Vec Ideal S1x2048x8 .f32) = X3
  generalize (iblk m c 4 t : Vec Ideal S1x8x2048 .f32) = X4
  have e0 := head_row (grid0.coords t 1).val hp 0 (by omega)
  have e1 := head_row (grid0.coords t 1).val hp 1 (by omega)
  canon_tiles x h
  · idx_vars x
    obtain rfl : x0 = 0 := Subsingleton.elim _ _
    have hb : 1792 + x1.val < 2048 := by clear h1; omega
    obtain rfl : y1 = ⟨1792 + x1.val, hb⟩ := Fin.ext h1
    obtain rfl : y2 = x2 := Fin.ext h2
    refine Eq.trans (b := shapeCast S1x256x128 (truncf .bf16 (select k0_pay3
      (half (K := 1792) true _ _ _ _ _ _ _ _ broadcasts_S256x1_S256x1792 reduces_S256x1792_S256)
      (half (K := 1792) false _ _ _ _ _ _ _ _ broadcasts_S256x1_S256x1792 reduces_S256x1792_S256)) bitsLt_bf16_f32)
      shapeCasts_S256x128_S1x256x128 (ix3 0 x1 y2)) rfl ?_
    refine piece_row (K := 1792) (by omega) _ _ _ _ _ _ _ _ _ _ _ _ _ _ _ _ _ _ x1 y2 _ _ _ _ _ ?_ ?_ ?_ ?_ ?_ ?_ ?_ ?_ ?_ ?_ ?_ ?_ ?_ ?_ ?_ ?_
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e0 _
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e1 _
    · pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
      exact pick_pair _ hp 0 (by omega) fun l => X3 (ix3 0 _ l)
    · pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
      exact pick_pair _ hp 1 (by omega) fun l => X3 (ix3 0 _ l)
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e0 _
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e1 _
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
  · idx_vars x
    obtain rfl : x0 = 0 := Subsingleton.elim _ _
    have hb : 1536 + x1.val < 2048 := by clear h1; omega
    obtain rfl : y1 = ⟨1536 + x1.val, hb⟩ := Fin.ext h1
    obtain rfl : y2 = x2 := Fin.ext h2
    refine Eq.trans (b := shapeCast S1x256x128 (truncf .bf16 (select k0_pay3
      (half (K := 1536) true _ _ _ _ _ _ _ _ broadcasts_S256x1_S256x1536 reduces_S256x1536_S256)
      (half (K := 1536) false _ _ _ _ _ _ _ _ broadcasts_S256x1_S256x1536 reduces_S256x1536_S256)) bitsLt_bf16_f32)
      shapeCasts_S256x128_S1x256x128 (ix3 0 x1 y2)) rfl ?_
    refine piece_row (K := 1536) (by omega) _ _ _ _ _ _ _ _ _ _ _ _ _ _ _ _ _ _ x1 y2 _ _ _ _ _ ?_ ?_ ?_ ?_ ?_ ?_ ?_ ?_ ?_ ?_ ?_ ?_ ?_ ?_ ?_ ?_
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e0 _
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e1 _
    · pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
      exact pick_pair _ hp 0 (by omega) fun l => X3 (ix3 0 _ l)
    · pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
      exact pick_pair _ hp 1 (by omega) fun l => X3 (ix3 0 _ l)
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e0 _
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e1 _
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
  · idx_vars x
    obtain rfl : x0 = 0 := Subsingleton.elim _ _
    have hb : 1280 + x1.val < 2048 := by clear h1; omega
    obtain rfl : y1 = ⟨1280 + x1.val, hb⟩ := Fin.ext h1
    obtain rfl : y2 = x2 := Fin.ext h2
    refine Eq.trans (b := shapeCast S1x256x128 (truncf .bf16 (select k0_pay3
      (half (K := 1280) true _ _ _ _ _ _ _ _ broadcasts_S256x1_S256x1280 reduces_S256x1280_S256)
      (half (K := 1280) false _ _ _ _ _ _ _ _ broadcasts_S256x1_S256x1280 reduces_S256x1280_S256)) bitsLt_bf16_f32)
      shapeCasts_S256x128_S1x256x128 (ix3 0 x1 y2)) rfl ?_
    refine piece_row (K := 1280) (by omega) _ _ _ _ _ _ _ _ _ _ _ _ _ _ _ _ _ _ x1 y2 _ _ _ _ _ ?_ ?_ ?_ ?_ ?_ ?_ ?_ ?_ ?_ ?_ ?_ ?_ ?_ ?_ ?_ ?_
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e0 _
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e1 _
    · pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
      exact pick_pair _ hp 0 (by omega) fun l => X3 (ix3 0 _ l)
    · pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
      exact pick_pair _ hp 1 (by omega) fun l => X3 (ix3 0 _ l)
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e0 _
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e1 _
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
  · idx_vars x
    obtain rfl : x0 = 0 := Subsingleton.elim _ _
    have hb : 1024 + x1.val < 2048 := by clear h1; omega
    obtain rfl : y1 = ⟨1024 + x1.val, hb⟩ := Fin.ext h1
    obtain rfl : y2 = x2 := Fin.ext h2
    refine Eq.trans (b := shapeCast S1x256x128 (truncf .bf16 (select k0_pay3
      (half (K := 1024) true _ _ _ _ _ _ _ _ broadcasts_S256x1_S256x1024 reduces_S256x1024_S256)
      (half (K := 1024) false _ _ _ _ _ _ _ _ broadcasts_S256x1_S256x1024 reduces_S256x1024_S256)) bitsLt_bf16_f32)
      shapeCasts_S256x128_S1x256x128 (ix3 0 x1 y2)) rfl ?_
    refine piece_row (K := 1024) (by omega) _ _ _ _ _ _ _ _ _ _ _ _ _ _ _ _ _ _ x1 y2 _ _ _ _ _ ?_ ?_ ?_ ?_ ?_ ?_ ?_ ?_ ?_ ?_ ?_ ?_ ?_ ?_ ?_ ?_
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e0 _
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e1 _
    · pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
      exact pick_pair _ hp 0 (by omega) fun l => X3 (ix3 0 _ l)
    · pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
      exact pick_pair _ hp 1 (by omega) fun l => X3 (ix3 0 _ l)
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e0 _
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e1 _
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
  · idx_vars x
    obtain rfl : x0 = 0 := Subsingleton.elim _ _
    have hb : 768 + x1.val < 2048 := by clear h1; omega
    obtain rfl : y1 = ⟨768 + x1.val, hb⟩ := Fin.ext h1
    obtain rfl : y2 = x2 := Fin.ext h2
    refine Eq.trans (b := shapeCast S1x256x128 (truncf .bf16 (select k0_pay3
      (half (K := 768) true _ _ _ _ _ _ _ _ broadcasts_S256x1_S256x768 reduces_S256x768_S256)
      (half (K := 768) false _ _ _ _ _ _ _ _ broadcasts_S256x1_S256x768 reduces_S256x768_S256)) bitsLt_bf16_f32)
      shapeCasts_S256x128_S1x256x128 (ix3 0 x1 y2)) rfl ?_
    refine piece_row (K := 768) (by omega) _ _ _ _ _ _ _ _ _ _ _ _ _ _ _ _ _ _ x1 y2 _ _ _ _ _ ?_ ?_ ?_ ?_ ?_ ?_ ?_ ?_ ?_ ?_ ?_ ?_ ?_ ?_ ?_ ?_
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e0 _
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e1 _
    · pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
      exact pick_pair _ hp 0 (by omega) fun l => X3 (ix3 0 _ l)
    · pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
      exact pick_pair _ hp 1 (by omega) fun l => X3 (ix3 0 _ l)
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e0 _
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e1 _
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
  · idx_vars x
    obtain rfl : x0 = 0 := Subsingleton.elim _ _
    have hb : 512 + x1.val < 2048 := by clear h1; omega
    obtain rfl : y1 = ⟨512 + x1.val, hb⟩ := Fin.ext h1
    obtain rfl : y2 = x2 := Fin.ext h2
    refine Eq.trans (b := shapeCast S1x256x128 (truncf .bf16 (select k0_pay3
      (half (K := 512) true _ _ _ _ _ _ _ _ broadcasts_S256x1_S256x512 reduces_S256x512_S256)
      (half (K := 512) false _ _ _ _ _ _ _ _ broadcasts_S256x1_S256x512 reduces_S256x512_S256)) bitsLt_bf16_f32)
      shapeCasts_S256x128_S1x256x128 (ix3 0 x1 y2)) rfl ?_
    refine piece_row (K := 512) (by omega) _ _ _ _ _ _ _ _ _ _ _ _ _ _ _ _ _ _ x1 y2 _ _ _ _ _ ?_ ?_ ?_ ?_ ?_ ?_ ?_ ?_ ?_ ?_ ?_ ?_ ?_ ?_ ?_ ?_
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e0 _
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e1 _
    · pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
      exact pick_pair _ hp 0 (by omega) fun l => X3 (ix3 0 _ l)
    · pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
      exact pick_pair _ hp 1 (by omega) fun l => X3 (ix3 0 _ l)
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e0 _
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e1 _
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
  · idx_vars x
    obtain rfl : x0 = 0 := Subsingleton.elim _ _
    have hb : 256 + x1.val < 2048 := by clear h1; omega
    obtain rfl : y1 = ⟨256 + x1.val, hb⟩ := Fin.ext h1
    obtain rfl : y2 = x2 := Fin.ext h2
    refine Eq.trans (b := shapeCast S1x256x128 (truncf .bf16 (select k0_pay3
      (half (K := 256) true _ _ _ _ _ _ _ _ broadcasts_S256x1_S256x256 reduces_S256x256_S256)
      (half (K := 256) false _ _ _ _ _ _ _ _ broadcasts_S256x1_S256x256 reduces_S256x256_S256)) bitsLt_bf16_f32)
      shapeCasts_S256x128_S1x256x128 (ix3 0 x1 y2)) rfl ?_
    refine piece_row (K := 256) (by omega) _ _ _ _ _ _ _ _ _ _ _ _ _ _ _ _ _ _ x1 y2 _ _ _ _ _ ?_ ?_ ?_ ?_ ?_ ?_ ?_ ?_ ?_ ?_ ?_ ?_ ?_ ?_ ?_ ?_
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e0 _
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e1 _
    · pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
      exact pick_pair _ hp 0 (by omega) fun l => X3 (ix3 0 _ l)
    · pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
      exact pick_pair _ hp 1 (by omega) fun l => X3 (ix3 0 _ l)
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e0 _
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e1 _
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
  · idx_vars x
    obtain rfl : x0 = 0 := Subsingleton.elim _ _
    have hb : 0 + x1.val < 2048 := by clear h1; omega
    obtain rfl : y1 = ⟨0 + x1.val, hb⟩ := Fin.ext (h1.trans (Nat.zero_add _).symm)
    obtain rfl : y2 = x2 := Fin.ext h2
    refine Eq.trans (b := shapeCast S1x256x128 (truncf .bf16 (select k0_pay3 (half0 true _ _ _ _ _) (half0 false _ _ _ _ _)) bitsLt_bf16_f32)
      shapeCasts_S256x128_S1x256x128 (ix3 0 x1 y2)) rfl ?_
    refine piece0_row _ _ _ _ _ _ _ _ _ _ x1 y2 _ _ _ _ _ ?_ ?_ ?_ ?_ ?_ ?_ ?_ ?_ ?_ ?_
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l b; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
      exact pick_pair _ hp 0 (by omega) fun l => X3 (ix3 0 _ l)
    · pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
      exact pick_pair _ hp 1 (by omega) fun l => X3 (ix3 0 _ l)
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e0 _
    · intro k; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]; exact ix_head X4 _ _ _ _ e1 _
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]
    · intro l; pointwise [k0_pay4, k0_pay6, k0_pay8, k0_pay9, k0_pay17, k0_pay32, k0_pay52, k0_pay70, k0_pay84, k0_pay106, k0_pay124, k0_pay12, k0_pay20, k0_pay28, k0_pay35, k0_pay45, k0_pay55, k0_pay59, k0_pay73, k0_pay79, k0_pay87, k0_pay98, k0_pay109, k0_pay114, k0_pay127, k0_pay135, k0_pay68, k0_pay82, k0_pay24, k0_pay25]

end Cert.Attn
-- ==== Proof.Host.lean ====
/- The prepared operands of the attention call as its windows find them: each entry of a point's input blocks in terms of the
   four arguments. -/
module

public import proofs.«01_k».proof.Proof.Gen.KernelIdeal.Value
public import proofs.«01_k».proof.Proof.Softmax
public import Idealize.ShloMosaic.Lib.Pointwise
public import Idealize.ShloMosaic.Lib.WordCmp
public import Idealize.ShloMosaic.Lib.IdealHost
public import Idealize.ShloMosaic.Lib.Pipeline.ValueKit

@[expose] public section

set_option maxRecDepth 16384

noncomputable section

namespace Cert.Attn

open Cert.KernelIdeal.Facts
open Idealize.ShloMosaic Cert.KernelIdeal Cert.KernelIdeal.Gen Idealize.ShloMosaic.TcCoe Idealize.SL.Sem

/-! ## Constants -/

theorem word_eighth : (Ideal.ofBits .f32 0x3E000000#32 : EReal) = (((1 / 8 : ℝ)) : EReal) := by
  simp [Ideal.ofBits, Ideal.ieee, -EReal.coe_mul]; norm_num

theorem word_two : (Ideal.ofBits .f32 0x40000000#32 : EReal) = ((2 : ℝ) : EReal) := by
  simp [Ideal.ofBits, Ideal.ieee, -EReal.coe_mul]; norm_num

theorem word_one : (Ideal.ofBits .f32 0x3F800000#32 : EReal) = ((1 : ℝ) : EReal) := by
  rw [Ideal.ofBits_one_f32]; rfl

/-- log₂ e, the factor that turns a natural exponential into a power of two. -/
def L2E : ℝ := (Real.log 2)⁻¹

theorem log2e_val : Ideal.div (Ideal.ofBits .f32 0x3F800000#32) (Ideal.log (Ideal.ofBits .f32 0x40000000#32)) = ((L2E : ℝ) : EReal) := by
  have h2 : Real.log 2 ≠ 0 := (Real.log_pos (by norm_num)).ne'
  rw [word_two, word_one]
  have : Ideal.log ((2 : ℝ) : EReal) = ((Real.log 2 : ℝ) : EReal) := by
    show (if (2 : ℝ) ≤ 0 then (⊥ : EReal) else ((Real.log 2 : ℝ) : EReal)) = _
    rw [if_neg (by norm_num)]
  rw [this, Ideal.div_coe h2, ← EReal.coe_mul, one_mul, one_div]
  rfl

/-! ## The windows' block indices -/

theorem idx0 : ∀ t : Fin grid0.N, win0_0.index t = ![(grid0.coords t 0).val, 0, (grid0.coords t 1).val] := by decide +kernel
theorem idx1 : ∀ t : Fin grid0.N, win0_1.index t = ![(grid0.coords t 0).val, (grid0.coords t 1).val, 0] := by decide +kernel
theorem idx2 : ∀ t : Fin grid0.N, win0_2.index t = ![(grid0.coords t 0).val, 0, (grid0.coords t 1).val] := by decide +kernel
theorem idx3 : ∀ t : Fin grid0.N, win0_3.index t = ![(grid0.coords t 0).val, 0, 0] := by decide +kernel
theorem idx4 : ∀ t : Fin grid0.N, win0_4.index t = ![(grid0.coords t 0).val, 0, 0] := by decide +kernel
theorem idx5 : ∀ t : Fin grid0.N, win0_5.index t = ![(grid0.coords t 0).val, 0, (grid0.coords t 1).val] := by decide +kernel

/-- The batch of a grid point. -/
def bt (t : Fin cfg0.N) : Fin 8 := ⟨(grid0.coords t 0).val, (grid0.coords t 0).isLt⟩

theorem lane_lt (t : Fin cfg0.N) (l : Fin 128) : 128 * (grid0.coords t 1).val + l.val < 512 := by
  have : (grid0.coords t 1).val < 4 := (grid0.coords t 1).isLt
  omega

/-- The head and the coordinate a lane of the point's pair of heads holds. -/
def lh (t : Fin cfg0.N) (l : Fin 128) : Fin 8 := ⟨2 * (grid0.coords t 1).val + l.val / 64, by
  have : (grid0.coords t 1).val < 4 := (grid0.coords t 1).isLt
  omega⟩
def ld (l : Fin 128) : Fin 64 := ⟨l.val % 64, Nat.mod_lt _ (by omega)⟩

variable (m : (ℓ : Loc nD τ sig) → Buf (Elt Ideal) ℓ) (c : Dev nD) (t : Fin cfg0.N)

abbrev aq : FVec Ideal S8x2048x8x64 .f32 := m ((c : Thread nD τ).loc main_arg0)
abbrev ak : FVec Ideal S8x2048x8x64 .f32 := m ((c : Thread nD τ).loc main_arg1)
abbrev av : FVec Ideal S8x2048x8x64 .f32 := m ((c : Thread nD τ).loc main_arg2)
abbrev al : FVec Ideal S8x2048x8 .f32 := m ((c : Thread nD τ).loc main_arg3)

/-- The running sum of the log gates, as the host computes it. -/
def kc : FVec Ideal S8x2048x8 .f32 :=
  Host.reduceWindowAdd ![1, 2048, 1] ![1, 1, 1] ![0, 2047, 0] ![0, 0, 0] (al m c)
    (broadcastInDim S_ ![] bcast_S_S_ (constant S_ FTy.f32 0#32)) reduceWindows_S8x2048x8_S8x2048x8_w1s1p0_0_w2048s1p2047_0_w1s1p0_0 h_S_

theorem q_blk (s : Fin 2048) (l : Fin 128) :
    (iblk m c 0 t : Vec Ideal S1x2048x128 .bf16) (ix3 0 s l) = (V m c main_v7 : Vec Ideal S8x2048x512 .bf16) (ix3 (bt t) s ⟨_, lane_lt t l⟩) := by
  unfold bt
  blk_ext! [iblk, idx0 t]
theorem k_blk (s : Fin 2048) (l : Fin 128) :
    (iblk m c 1 t : Vec Ideal S1x128x2048 .bf16) (ix3 0 l s) = (V m c main_v10 : Vec Ideal S8x512x2048 .bf16) (ix3 (bt t) ⟨_, lane_lt t l⟩ s) := by
  unfold bt
  blk_ext! [iblk, idx1 t]
theorem v_blk (s : Fin 2048) (l : Fin 128) :
    (iblk m c 2 t : Vec Ideal S1x2048x128 .bf16) (ix3 0 s l) = (V m c main_v12 : Vec Ideal S8x2048x512 .bf16) (ix3 (bt t) s ⟨_, lane_lt t l⟩) := by
  unfold bt
  blk_ext! [iblk, idx2 t]
theorem cc_blk (s : Fin 2048) (h : Fin 8) :
    (iblk m c 3 t : Vec Ideal S1x2048x8 .f32) (ix3 0 s h) = (V m c main_v15 : Vec Ideal S8x2048x8 .f32) (ix3 (bt t) s h) := by
  unfold bt
  unfold iblk
  generalize V m c (Pipeline.arrRef spec0 3) = X
  blk_ext [idx3 t]
theorem cr_blk (s : Fin 2048) (h : Fin 8) :
    (iblk m c 4 t : Vec Ideal S1x8x2048 .f32) (ix3 0 h s) = (V m c main_v16 : Vec Ideal S8x8x2048 .f32) (ix3 (bt t) h s) := by
  unfold bt
  unfold iblk
  generalize V m c (Pipeline.arrRef spec0 4) = X
  blk_ext [idx4 t]

/-! ## The prepared arrays -/

theorem V_q : (V m c main_v7 : FVec Ideal S8x2048x512 .bf16)
    = shapeCast S8x2048x512 (truncf .bf16 (mulf (mulf (aq m c) (broadcastInDim S8x2048x8x64 ![] bcast_S_S8x2048x8x64 (constant S_ .f32 0x3E000000#32)))
        (broadcastInDim S8x2048x8x64 ![] bcast_S_S8x2048x8x64 (Host.divf (constant S_ .f32 0x3F800000#32) (Host.log (constant S_ .f32 0x40000000#32))))) bitsLt_bf16_f32)
        shapeCasts_S8x2048x8x64_S8x2048x512 := by
  show StableHlo.after _ _ _ = _
  simp only [hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

theorem V_k : (V m c main_v10 : FVec Ideal S8x512x2048 .bf16)
    = truncf .bf16 (transpose S8x512x2048 [0, 2, 1] (shapeCast S8x2048x512 (ak m c) shapeCasts_S8x2048x8x64_S8x2048x512) transposes_S8x2048x512_S8x512x2048_0_2_1) bitsLt_bf16_f32 := by
  show StableHlo.after _ _ _ = _
  simp only [hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

theorem V_v : (V m c main_v12 : FVec Ideal S8x2048x512 .bf16)
    = truncf .bf16 (shapeCast S8x2048x512 (av m c) shapeCasts_S8x2048x8x64_S8x2048x512) bitsLt_bf16_f32 := by
  show StableHlo.after _ _ _ = _
  simp only [hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

theorem V_cc : (V m c main_v15 : FVec Ideal S8x2048x8 .f32)
    = mulf (kc m c) (broadcastInDim S8x2048x8 ![] bcast_S_S8x2048x8 (Host.divf (constant S_ .f32 0x3F800000#32) (Host.log (constant S_ .f32 0x40000000#32)))) := by
  show StableHlo.after _ _ _ = _
  simp only [hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

theorem V_cr : (V m c main_v16 : FVec Ideal S8x8x2048 .f32)
    = transpose S8x8x2048 [0, 2, 1] (mulf (kc m c) (broadcastInDim S8x2048x8 ![] bcast_S_S8x2048x8 (Host.divf (constant S_ .f32 0x3F800000#32) (Host.log (constant S_ .f32 0x40000000#32)))))
        transposes_S8x2048x8_S8x8x2048_0_2_1 := by
  show StableHlo.after _ _ _ = _
  simp only [hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

theorem log2e_one : Ideal.div 1 (Ideal.log (Ideal.ofBits .f32 0x40000000#32)) = ((L2E : ℝ) : EReal) := by
  rw [← log2e_val, Ideal.ofBits_one_f32]

theorem lane_head (X : FVec Ideal S8x2048x8x64 .f32) (b : Fin 8) (s : Fin 2048) (l : Fin 128)
    (h1 : (128 * (grid0.coords t 1).val + l.val) / 64 < 8) (h2 : (128 * (grid0.coords t 1).val + l.val) % 64 < 64) :
    X (ix4 b s ⟨(128 * (grid0.coords t 1).val + l.val) / 64, h1⟩ ⟨(128 * (grid0.coords t 1).val + l.val) % 64, h2⟩) = X (ix4 b s (lh t l) (ld l)) := by
  have e1 : (⟨(128 * (grid0.coords t 1).val + l.val) / 64, h1⟩ : Fin 8) = lh t l := Fin.ext (by simp only [lh]; omega)
  have e2 : (⟨(128 * (grid0.coords t 1).val + l.val) % 64, h2⟩ : Fin 64) = ld l := Fin.ext (by simp only [ld]; omega)
  rw [e1, e2]

theorem q_at (s : Fin 2048) (l : Fin 128) :
    ((iblk m c 0 t : Vec Ideal S1x2048x128 .bf16) (ix3 0 s l) : EReal) = aq m c (ix4 (bt t) s (lh t l) (ld l)) * (((1 / 8 : ℝ)) : EReal) * ((L2E : ℝ) : EReal) := by
  rw [q_blk, V_q]
  pointwise
  rw [word_eighth, log2e_one]
  exact congrArg (fun z : EReal => z * (((1 / 8 : ℝ)) : EReal) * ((L2E : ℝ) : EReal)) (lane_head t (aq m c) _ _ _ _ _)
theorem k_at (s : Fin 2048) (l : Fin 128) :
    ((iblk m c 1 t : Vec Ideal S1x128x2048 .bf16) (ix3 0 l s) : EReal) = ak m c (ix4 (bt t) s (lh t l) (ld l)) := by
  rw [k_blk, V_k]
  pointwise
  exact lane_head t (ak m c) _ _ _ _ _
theorem v_at (s : Fin 2048) (l : Fin 128) :
    ((iblk m c 2 t : Vec Ideal S1x2048x128 .bf16) (ix3 0 s l) : EReal) = av m c (ix4 (bt t) s (lh t l) (ld l)) := by
  rw [v_blk, V_v]
  pointwise
  exact lane_head t (av m c) _ _ _ _ _
theorem cc_at (s : Fin 2048) (h : Fin 8) :
    ((iblk m c 3 t : Vec Ideal S1x2048x8 .f32) (ix3 0 s h) : EReal) = kc m c (ix3 (bt t) s h) * ((L2E : ℝ) : EReal) := by
  rw [cc_blk, V_cc]
  pointwise
  rw [log2e_one]
theorem cr_at (s : Fin 2048) (h : Fin 8) :
    ((iblk m c 4 t : Vec Ideal S1x8x2048 .f32) (ix3 0 h s) : EReal) = kc m c (ix3 (bt t) s h) * ((L2E : ℝ) : EReal) := by
  rw [cr_blk, V_cr]
  pointwise
  rw [log2e_one]

end Cert.Attn
-- ==== Proof.Finite.lean ====
/- The precondition read back: queries, keys and log gates hold real numbers; and a running sum of real numbers is real. -/
module

public import proofs.«01_k».proof.Defs
public import proofs.«01_k».proof.Proof.Host
public import Idealize.ShloMosaic.Lib.ReduceAll
public import Idealize.ShloMosaic.Lib.Affine

@[expose] public section

set_option maxRecDepth 16384

noncomputable section

namespace Cert.Attn

open Idealize.ShloMosaic

/-- The side conditions of the printed precondition. -/
theorem pre_facts : Cert.Pre_finite.Facts := by
  constructor <;> decide

def IsReal (z : EReal) : Prop := ∃ r : ℝ, z = (r : EReal)

theorem IsReal.add {a b : EReal} (ha : IsReal a) (hb : IsReal b) : IsReal (a + b) := by
  obtain ⟨r, rfl⟩ := ha
  obtain ⟨s, rfl⟩ := hb
  exact ⟨r + s, by norm_cast⟩

/-- A number whose absolute value is below +∞ is real. -/
theorem real_of_abs (z : EReal) (h : Ideal.cmp .olt (max z (-z)) (Ideal.ofBits .f32 0x7F800000#32) = 1#1) : IsReal z := by
  have hi : Ideal.ofBits .f32 0x7F800000#32 = (⊤ : EReal) := by simp [Ideal.ofBits, Ideal.ieee]
  rw [hi] at h
  induction z using EReal.rec with
  | coe r => exact ⟨r, rfl⟩
  | bot => simp [Ideal.cmp] at h
  | top => simp [Ideal.cmp] at h

instance : Subsingleton Cert.Pre_finite.S_.Idx := ⟨fun _ _ => funext fun a => a.elim0⟩

theorem real_of_pre [Cert.Pre_finite.Facts] (x0 x1 x2 : FVec Ideal Cert.Pre_finite.S8x2048x8x64 .f32) (x3 : FVec Ideal Cert.Pre_finite.S8x2048x8 .f32)
    (h : Cert.Pre_finite.fn (F := Ideal) x0 x1 x2 x3 = fun _ => 1#1) :
    (∀ i, IsReal (x0 i)) ∧ (∀ i, IsReal (x1 i)) ∧ ∀ i, IsReal (x3 i) := by
  have e := congrFun h (fun a => a.elim0)
  dsimp only [Cert.Pre_finite.fn] at e
  obtain ⟨e01, e3⟩ := IntOp.andi_eq_one.1 e
  obtain ⟨e0, e1⟩ := IntOp.andi_eq_one.1 e01
  exact ⟨fun i => real_of_abs _ (Host.reduce_andi_all _ _ _ _ _ e0 i), fun i => real_of_abs _ (Host.reduce_andi_all _ _ _ _ _ e1 i),
    fun i => real_of_abs _ (Host.reduce_andi_all _ _ _ _ _ e3 i)⟩

theorem real_fold {ι : Type*} (f : ι → EReal) (hf : ∀ i, IsReal (f i)) : ∀ (l : List ι) (z : EReal), IsReal z → IsReal (l.foldl (fun r n => r + f n) z)
  | [], _, hz => hz
  | a :: l, z, hz => real_fold f hf l _ (hz.add (hf a))

/-- A windowed sum of real numbers is real. -/
theorem real_window {s t : Shape} (window strides lo hi : Fin s.rank → Nat) (h : s.ReduceWindows window strides lo hi t) (x : s.Idx → EReal)
    (z : EReal) (hx : ∀ i, IsReal (x i)) (hz : IsReal z) (j : t.Idx) : IsReal (Ideal.hostReduceWindowAdd window strides lo hi h x z j) := by
  unfold Ideal.hostReduceWindowAdd Host.reduceWindow
  refine real_fold _ (fun n => ?_) _ _ hz
  dsimp only
  split_ifs
  · exact hx _
  · exact hz

/-- The same of the host operation. -/
theorem real_host {s t u : Shape} (window strides lo hi : Fin s.rank → Nat) (x : FVec Ideal s .f32) (init : FVec Ideal u .f32)
    (h : s.ReduceWindows window strides lo hi t) (hu : 0 < u.numel) (hx : ∀ i, IsReal (x i)) (hz : ∀ i, IsReal (init i)) (j : t.Idx) :
    IsReal (Host.reduceWindowAdd window strides lo hi x init h hu j) :=
  real_window window strides lo hi h x _ hx (hz _) j

/-- The host's running sum of real numbers is real. -/
theorem real_kc (m : (ℓ : Loc Cert.KernelIdeal.nD Cert.KernelIdeal.τ Cert.KernelIdeal.sig) → Buf (Elt Ideal) ℓ) (c : Dev Cert.KernelIdeal.nD)
    (h : ∀ i, IsReal (al m c i)) (i : Cert.KernelIdeal.S8x2048x8.Idx) : IsReal (kc m c i) := by
  unfold kc
  exact real_host _ _ _ _ _ _ _ _ h (fun _ => ⟨0, (Ideal.ofBits_zero .f32).trans (by simp)⟩) i

end Cert.Attn
-- ==== Proof.RefValue.lean ====
/- The reference's result, entry by entry: the softmax of the forgetting scores over the keys at or before the query, times the values. -/
module

public import proofs.«01_k».proof.Proof.Gen.ReferenceIdeal.Read
public import Idealize.ShloMosaic.Lib.Pointwise
public import Idealize.ShloMosaic.Lib.WordCmp

@[expose] public section

set_option maxRecDepth 16384

noncomputable section

namespace Cert.Attn

open Cert.ReferenceIdeal.Facts
open Idealize.ShloMosaic Cert.ReferenceIdeal Cert.ReferenceIdeal.Gen Cert.ReferenceIdeal.Read Idealize.ShloMosaic.TcCoe

abbrev Arr4 := (⟨S8x2048x8x64, .f32⟩ : BufTy).Contents (Elt Ideal)
abbrev Arr3 := (⟨S8x2048x8, .f32⟩ : BufTy).Contents (Elt Ideal)

theorem negInf' : Ideal.ofBits FTy.f32 0xFF800000#32 = ⊥ := by
  simp [Ideal.ofBits, Ideal.ieee]

theorem word_eighth' : (Ideal.ofBits .f32 0x3E000000#32 : EReal) = (((1 / 8 : ℝ)) : EReal) := by
  simp [Ideal.ofBits, Ideal.ieee, -EReal.coe_mul]; norm_num

/-- The running sum of the log forget gates along the sequence. -/
def csum (x3 : Arr3) : Arr3 := val_main_v0 (F := Ideal) x3

/-- The reference's score of key `k` for query `s` in head `h` of batch `b`: −∞ for a key after the query. -/
def rscore (x0 x1 : Arr4) (x3 : Arr3) (b : Fin 8) (h : Fin 8) (s k : Fin 2048) : EReal :=
  if k.val ≤ s.val then
    (∑ d : Fin 64, (x0 (ix4 b s h d) : EReal) * x1 (ix4 b k h d)) * ((1 / 8 : ℝ) : EReal) + ((csum x3 (ix3 b s h) : EReal) - csum x3 (ix3 b k h))
  else ⊥

theorem v17_at (x0 x1 : Arr4) (x3 : Arr3) (b h : Fin 8) (s k : Fin 2048) :
    val_main_v17 (F := Ideal) x0 x1 x3 (ix4 b h s k) = rscore x0 x1 x3 b h s k := by
  rw [val_main_v17_apply, val_main_v10_apply, val_main_v4_apply, val_main_v9_apply, val_main_v2_apply, val_main_v3_apply, val_main_cst_apply,
    val_main_v7_apply, val_main_v8_apply, val_main_v5_apply, val_main_v6_apply, val_main_v1_apply, val_main_v1_apply,
    val_main_call1_v1_apply, val_main_v16_apply, val_main_v14_apply, val_main_v15_apply, val_main_v12_apply, val_main_v13_apply, val_main_v11_apply, val_main_v11_apply,
    val_main_call1_v2_apply, val_main_call1_v0_apply, val_main_cst_0_apply]
  have e1 : ∀ d, lidx_main_v2 (ix4 b h s k) d = ix4 b s h d := fun d => funext fun a => Fin.ext (by
    match a with | ⟨0, _⟩ => rfl | ⟨1, _⟩ => rfl | ⟨2, _⟩ => rfl | ⟨3, _⟩ => rfl)
  have e2 : ∀ d, ridx_main_v2 (ix4 b h s k) d = ix4 b k h d := fun d => funext fun a => Fin.ext (by
    match a with | ⟨0, _⟩ => rfl | ⟨1, _⟩ => rfl | ⟨2, _⟩ => rfl | ⟨3, _⟩ => rfl)
  have e3 : idx_main_v1 (idx_main_v5 (idx_main_v7 (ix4 b h s k))) = ix3 b s h := funext fun a => Fin.ext (by
    match a with | ⟨0, _⟩ => rfl | ⟨1, _⟩ => rfl | ⟨2, _⟩ => rfl)
  have e4 : idx_main_v1 (idx_main_v6 (idx_main_v8 (ix4 b h s k))) = ix3 b k h := funext fun a => Fin.ext (by
    match a with | ⟨0, _⟩ => rfl | ⟨1, _⟩ => rfl | ⟨2, _⟩ => rfl)
  rw [e3, e4]
  simp only [e1, e2]
  have hc : IntOp.cmpi CmpIPredicate.sle (BitVec.ofNat 32 k.val) (BitVec.ofNat 32 s.val) = if k.val ≤ s.val then 1#1 else 0#1 := by
    have hk := k.isLt
    have hs := s.isLt
    word_cmp
    split_ifs with h <;> simp [h]
  show Scalar.select (IntOp.cmpi CmpIPredicate.sle (BitVec.ofNat 32 k.val) (BitVec.ofNat 32 s.val)) _ _ = _
  rw [hc]
  unfold rscore
  by_cases hks : k.val ≤ s.val
  · rw [if_pos hks, if_pos hks]
    exact congrArg (fun z : EReal => (∑ d : Fin 64, (x0 (ix4 b s h d) : EReal) * x1 (ix4 b k h d)) * z + ((csum x3 (ix3 b s h) : EReal) - csum x3 (ix3 b k h))) word_eighth'
  · rw [if_neg hks, if_neg hks]
    exact negInf'

theorem v18_at (x0 x1 : Arr4) (x3 : Arr3) (b h : Fin 8) (s : Fin 2048) :
    val_main_v18 (F := Ideal) x0 x1 x3 (ix3 b h s) = Finset.univ.sup (rscore x0 x1 x3 b h s) := by
  unfold val_main_v18
  generalize hz : val_main_v17 (F := Ideal) x0 x1 x3 = z
  pointwise
  have e : (val_main_cst_1 (F := Ideal) (Shape.Idx.first h_S_) : EReal) = ⊥ := negInf'
  rw [e]
  subst hz
  show Finset.univ.sup _ = _
  exact congrArg Finset.univ.sup (funext fun k => v17_at x0 x1 x3 b h s k)

theorem v24_at (x0 x1 : Arr4) (x3 : Arr3) (b h : Fin 8) (s k : Fin 2048) :
    val_main_v24 (F := Ideal) x0 x1 x3 (ix4 b h s k) = Ideal.exp (rscore x0 x1 x3 b h s k - max ⊥ (Finset.univ.sup (rscore x0 x1 x3 b h s))) := by
  rw [val_main_v24_apply, val_main_v23_apply, val_main_v22_apply, val_main_v21_apply, val_main_v20_apply, val_main_v19_apply, val_main_cst_2_apply, v17_at]
  have e : idx_main_v21 (idx_main_v22 (ix4 b h s k)) = ix3 b h s := funext fun a => Fin.ext (by
    match a with | ⟨0, _⟩ => rfl | ⟨1, _⟩ => rfl | ⟨2, _⟩ => rfl)
  rw [e, v18_at]
  exact congrArg (fun z : EReal => Ideal.exp ((rscore x0 x1 x3 b h s k : EReal) - max z (Finset.univ.sup (rscore x0 x1 x3 b h s)))) negInf'

/-- The reference's result at an entry. -/
theorem ref_at (x0 x1 x2 : Arr4) (x3 : Arr3) (i : S8x2048x512.Idx) (b h : Fin 8) (s : Fin 2048) (d : Fin 64)
    (hb : (i 0).val = b.val) (hs : (i 1).val = s.val) (hd : (i 2).val = 64 * h.val + d.val) :
    (val_main_v32 (F := Ideal) x0 x1 x2 x3 i : EReal)
      = ∑ k : Fin 2048, (x2 (ix4 b k h d) : EReal) * Ideal.div (Ideal.exp (rscore x0 x1 x3 b h s k - max ⊥ (Finset.univ.sup (rscore x0 x1 x3 b h s))))
          (0 + ∑ j : Fin 2048, Ideal.exp (rscore x0 x1 x3 b h s j - max ⊥ (Finset.univ.sup (rscore x0 x1 x3 b h s)))) := by
  rw [val_main_v32_apply]
  show val_main_v31 (F := Ideal) x0 x1 x2 x3 i = _
  have e31 : idx_main_v30 (idx_main_v31 i) = ix4 b h d s := funext fun a => Fin.ext (by
    have := b.isLt; have := h.isLt; have := s.isLt; have := d.isLt
    match a with
    | ⟨0, _⟩ => show (((i 0).val * 2048 + (i 1).val) * 512 + (i 2).val) / 1048576 = b.val; omega
    | ⟨1, _⟩ => show (((i 0).val * 2048 + (i 1).val) * 512 + (i 2).val) / 64 % 8 = h.val; omega
    | ⟨2, _⟩ => show (((i 0).val * 2048 + (i 1).val) * 512 + (i 2).val) % 64 = d.val; omega
    | ⟨3, _⟩ => show (((i 0).val * 2048 + (i 1).val) * 512 + (i 2).val) / 512 % 2048 = s.val; omega)
  rw [val_main_v31_apply, val_main_v30_apply, e31, val_main_v29_apply]
  refine Finset.sum_congr rfl fun k _ => ?_
  have el : lidx_main_v29 (ix4 b h d s) k = ix4 b k h d := funext fun a => Fin.ext (by
    match a with | ⟨0, _⟩ => rfl | ⟨1, _⟩ => rfl | ⟨2, _⟩ => rfl | ⟨3, _⟩ => rfl)
  have er : ridx_main_v29 (ix4 b h d s) k = ix4 b h s k := funext fun a => Fin.ext (by
    match a with | ⟨0, _⟩ => rfl | ⟨1, _⟩ => rfl | ⟨2, _⟩ => rfl | ⟨3, _⟩ => rfl)
  rw [el, er, val_main_v28_apply, v24_at, val_main_v27_apply, val_main_v26_apply, val_main_v25_apply, val_main_cst_3_apply]
  refine congrArg (fun z : EReal => (x2 (ix4 b k h d) : EReal) * Ideal.div (Ideal.exp (rscore x0 x1 x3 b h s k - max ⊥ (Finset.univ.sup (rscore x0 x1 x3 b h s)))) z) ?_
  refine congrArg₂ (· + ·) (Ideal.ofBits_zero .f32) (Finset.sum_congr rfl fun j _ => ?_)
  have e25 : idx_main_v25 (idx_main_v26 (idx_main_v27 (ix4 b h s k))) j = ix4 b h s j := funext fun a => Fin.ext (by
    match a with | ⟨0, _⟩ => rfl | ⟨1, _⟩ => rfl | ⟨2, _⟩ => rfl | ⟨3, _⟩ => rfl)
  rw [e25, v24_at]

end Cert.Attn
-- ==== Proof.Value.lean ====
/- The whole result: every entry the kernel writes is the reference's. -/
module

public import proofs.«01_k».proof.Proof.Pieces
public import proofs.«01_k».proof.Proof.Finite
public import proofs.«01_k».proof.Proof.RefValue

@[expose] public section

set_option maxRecDepth 16384

noncomputable section

namespace Cert.Attn

open Cert.KernelIdeal.Facts
open Idealize.ShloMosaic Cert.KernelIdeal Cert.KernelIdeal.Gen Idealize.ShloMosaic.TcCoe Idealize.SL.Sem

/-- An array that agrees with every point's block is what the kernel leaves. -/
theorem arr_eq (m : (ℓ : Loc nD τ sig) → Buf (Elt Ideal) ℓ) (c : Dev nD) (G : FVec Ideal S8x2048x512 .bf16)
    (hG : ∀ (t : Fin cfg0.N) (s : Fin 2048) (l : Fin 128), outsAt0 m c t (ix3 0 s l) = G (ix3 (bt t) s ⟨_, lane_lt t l⟩)) :
    (dats m 0 c).arrAt 5 cfg0.N = G := by
  refine (dats m 0 c).arrAt_eq_of_covers 5 G (by decide +kernel) (fun t hf y => ?_)
  idx_vars y
  blk_simp
  rw [after0_5]
  obtain rfl : y0 = 0 := Subsingleton.elim _ _
  refine (hG t y1 y2).trans (congrArg G ?_)
  unfold bt
  blk_ext [idx5 t]

/-- A sum over the lanes of one half of the 128 is the sum over that head's 64 coordinates. -/
theorem half_sum (low : Bool) (Q K : Fin 128 → EReal) (l : Fin 128) (hl : decide (l.val < 64) = low) :
    (∑ j : Fin 128, (if decide (j.val < 64) = low then Q j else 0) * K j)
      = ∑ d : Fin 64, Q ⟨64 * (l.val / 64) + d.val, by omega⟩ * K ⟨64 * (l.val / 64) + d.val, by omega⟩ := by
  rw [Fin.sum_univ_add (a := 64) (b := 64) (fun j : Fin (64 + 64) => (if decide (j.val < 64) = low then Q j else 0) * K j)]
  by_cases h : l.val < 64
  · have e : l.val / 64 = 0 := by omega
    subst hl
    have z : ∑ i : Fin 64, (if decide ((Fin.natAdd 64 i : Fin (64 + 64)).val < 64) = decide (l.val < 64) then Q (Fin.natAdd 64 i) else 0) * K (Fin.natAdd 64 i) = 0 :=
      Finset.sum_eq_zero fun i _ => by rw [if_neg (by simp [h]), zero_mul]
    rw [z, add_zero]
    refine Finset.sum_congr rfl fun i _ => ?_
    rw [if_pos (by simp [h])]
    have ei : (Fin.castAdd 64 i : Fin (64 + 64)) = (⟨64 * (l.val / 64) + i.val, by omega⟩ : Fin 128) := Fin.ext (by simp [e])
    rw [ei]
  · have e : l.val / 64 = 1 := by omega
    subst hl
    have z : ∑ i : Fin 64, (if decide ((Fin.castAdd 64 i : Fin (64 + 64)).val < 64) = decide (l.val < 64) then Q (Fin.castAdd 64 i) else 0) * K (Fin.castAdd 64 i) = 0 :=
      Finset.sum_eq_zero fun i _ => by rw [if_neg (by simp [h]), zero_mul]
    rw [z, zero_add]
    refine Finset.sum_congr rfl fun i _ => ?_
    rw [if_pos (by simp [h])]
    have ei : (Fin.natAdd 64 i : Fin (64 + 64)) = (⟨64 * (l.val / 64) + i.val, by omega⟩ : Fin 128) := Fin.ext (by simp [e, add_comm])
    rw [ei]

variable (m : (ℓ : Loc nD τ sig) → Buf (Elt Ideal) ℓ) (c : Dev nD)

theorem kc_csum : kc m c = csum (al m c) := rfl

/-- The kernel's score of a key, as a real number or −∞. -/
theorem score_real (t : Fin cfg0.N) (s k : Fin 2048) (l : Fin 128) (rq rk : S8x2048x8x64.Idx → ℝ) (rc : S8x2048x8.Idx → ℝ)
    (hq : ∀ i, (aq m c i : EReal) = rq i) (hk : ∀ i, (ak m c i : EReal) = rk i) (hc : ∀ i, (kc m c i : EReal) = rc i) :
    score (decide (l.val < 64)) (fun l => (iblk m c 0 t : Vec Ideal S1x2048x128 .bf16) (ix3 0 s l)) (fun l k => (iblk m c 1 t : Vec Ideal S1x128x2048 .bf16) (ix3 0 l k))
      (fun k => (iblk m c 4 t : Vec Ideal S1x8x2048 .f32) (ix3 0 (hd (grid0.coords t 1).val (pair_lt t) (decide (l.val < 64))) k))
      ((iblk m c 3 t : Vec Ideal S1x2048x8 .f32) (ix3 0 s (hd (grid0.coords t 1).val (pair_lt t) (decide (l.val < 64))))) s.val k
    = if k.val ≤ s.val then
        ((((∑ d : Fin 64, rq (ix4 (bt t) s (lh t l) d) * rk (ix4 (bt t) k (lh t l) d)) * (1 / 8) * L2E + (rc (ix3 (bt t) s (lh t l)) * L2E - rc (ix3 (bt t) k (lh t l)) * L2E) : ℝ)) : EReal)
      else ⊥ := by
  have eh : hd (grid0.coords t 1).val (pair_lt t) (decide (l.val < 64)) = lh t l := Fin.ext (by
    simp only [hd, lh]
    by_cases h : l.val < 64
    · simp [h]
    · simp [h]; omega)
  unfold score
  by_cases hks : k.val ≤ s.val
  · rw [if_pos hks, if_pos hks, half_sum _ _ _ l rfl, eh]
    dsimp only
    rw [cr_at, cc_at, hc, hc]
    rw [EReal.coe_add, EReal.coe_sub, EReal.coe_mul (rc _), EReal.coe_mul (rc _)]
    refine congrArg₂ (fun x y : EReal => x + y) ?_ rfl
    rw [Finset.sum_mul, Finset.sum_mul, ← coe_sum]
    refine Finset.sum_congr rfl fun d _ => ?_
    have e1 : lh t ⟨64 * (l.val / 64) + d.val, by omega⟩ = lh t l := Fin.ext (by simp only [lh]; omega)
    have e2 : ld ⟨64 * (l.val / 64) + d.val, by omega⟩ = d := Fin.ext (by simp only [ld]; omega)
    rw [q_at, k_at, e1, e2, hq, hk]
    norm_cast
    ring
  · rw [if_neg hks, if_neg hks]

/-- Every entry of a point's block is the reference's entry. -/
theorem block_value (h0 : ∀ i, IsReal (aq m c i)) (h1 : ∀ i, IsReal (ak m c i)) (h3 : ∀ i, IsReal (al m c i))
    (t : Fin cfg0.N) (s : Fin 2048) (l : Fin 128) :
    outsAt0 m c t (ix3 0 s l)
      = Cert.ReferenceIdeal.Read.val_main_v32 (F := Ideal) (aq m c) (ak m c) (av m c) (al m c) (ix3 (bt t) s ⟨_, lane_lt t l⟩) := by
  choose rq hq using h0
  choose rk hk using h1
  choose rc hc using real_kc m c h3
  have hl2 : L2E * Real.log 2 = 1 := inv_mul_cancel₀ (Real.log_pos (by norm_num)).ne'
  have h2 : (0 : ℝ) < Real.log 2 := Real.log_pos (by norm_num)
  rw [outs_apply]
  refine Eq.trans ?_ (ref_at (aq m c) (ak m c) (av m c) (al m c) (ix3 (bt t) s ⟨_, lane_lt t l⟩) (bt t) (lh t l) s (ld l) rfl rfl (by
    show 128 * (grid0.coords t 1).val + l.val = 64 * (2 * (grid0.coords t 1).val + l.val / 64) + l.val % 64
    omega)).symm
  unfold rowsOut
  rw [funext fun k => score_real m c t s k l rq rk rc hq hk hc]
  dsimp only
  have ev : (fun k : Fin 2048 => ((iblk m c 2 t : Vec Ideal S1x2048x128 .bf16) (ix3 0 k l) : EReal)) = fun k => av m c (ix4 (bt t) k (lh t l) (ld l)) :=
    funext fun k => v_at m c t k l
  rw [ev]
  refine softmax_law _ _ _ 0 (fun k => ?_) s ?_ (fun k => ?_)
  · split_ifs
    · exact EReal.coe_ne_top _
    · simp
  · rw [if_pos le_rfl]; exact EReal.coe_ne_bot _
  · unfold rscore
    by_cases hks : k.val ≤ s.val
    · rw [if_pos hks, if_pos hks]
      have e1 : (∑ d : Fin 64, (aq m c (ix4 (bt t) s (lh t l) d) : EReal) * ak m c (ix4 (bt t) k (lh t l) d))
          = ((∑ d : Fin 64, rq (ix4 (bt t) s (lh t l) d) * rk (ix4 (bt t) k (lh t l) d) : ℝ) : EReal) := by
        rw [← coe_sum]
        exact Finset.sum_congr rfl fun d _ => by rw [hq, hk, EReal.coe_mul]
      rw [e1, ← kc_csum, hc, hc]
      rw [← EReal.coe_mul, ← EReal.coe_sub, ← EReal.coe_add, ← EReal.coe_mul, ← EReal.coe_add]
      refine congrArg _ ?_
      generalize (∑ d : Fin 64, rq (ix4 (bt t) s (lh t l) d) * rk (ix4 (bt t) k (lh t l) d)) = S
      linear_combination (-(S * (1 / 8)) - rc (ix3 (bt t) s (lh t l)) + rc (ix3 (bt t) k (lh t l))) * hl2
    · rw [if_neg hks, if_neg hks, EReal.bot_mul_coe_of_pos h2, EReal.bot_add]

/-- The kernel's result array is the reference's value of the four arguments. -/
theorem result (h0 : ∀ i, IsReal (aq m c i)) (h1 : ∀ i, IsReal (ak m c i)) (h3 : ∀ i, IsReal (al m c i)) :
    (dats m 0 c).arrAt 5 cfg0.N = Cert.ReferenceIdeal.Read.val_main_v32 (F := Ideal) (aq m c) (ak m c) (av m c) (al m c) :=
  arr_eq m c _ fun t s l => block_value m c h0 h1 h3 t s l

end Cert.Attn
-- ==== Proof.FfnRows.lean ====
/- The steps of the gated feed-forward layer on one row: the root-mean-square norm, the gated product and the residual sum.
   Each step is written on a row of extended reals, and each of the kernel's vector forms of it is read at one entry, for any
   number of rows. -/
module

public import Idealize.ShloMosaic.Lib.Pointwise
public import Idealize.ShloMosaic.Lib.MatmulPlain
public import Idealize.ShloMosaic.Lib.Pipeline.ValueKit
public import Idealize.ShloMosaic.Lib.IdealHost

@[expose] public section

set_option maxRecDepth 16384

noncomputable section

namespace Cert.Ffn

open Idealize.ShloMosaic

/-- A matrix shape and a vector shape. -/
abbrev Mat (a b : Nat) : Shape := ⟨2, ![a, b]⟩
abbrev Row (a : Nat) : Shape := ⟨1, ![a]⟩

/-! ## One row -/

/-- The width of a row, the norm's small constant and the residual's factor, as the words the program holds. -/
def width : EReal := Ideal.ofBits .f32 0x44800000#32
def eps : EReal := Ideal.ofBits .f32 0x358637BD#32
def half : EReal := Ideal.ofBits .f32 0x3F000000#32

/-- The root-mean-square norm of a row, with gain `g`. -/
def rms (x g : Fin 1024 → EReal) (j : Fin 1024) : EReal :=
  x j * Ideal.rsqrt (Ideal.div (∑ k, x k * x k) width + eps) * g j

/-- `a / (1 + e^(-a)) * b`. -/
def gate (a b : EReal) : EReal := a * Ideal.div 1 (1 + Ideal.exp (-a)) * b

/-- The gated activation of a row. -/
def act (h : Fin 1024 → EReal) (wg wu : Fin 1024 → Fin 2816 → EReal) (k : Fin 2816) : EReal :=
  gate (∑ l, h l * wg l k) (∑ l, h l * wu l k)

/-- The feed-forward layer on a row: the row plus half the normed gated product of its norm. -/
def ffn (x gp gq : Fin 1024 → EReal) (wg wu : Fin 1024 → Fin 2816 → EReal) (wd : Fin 2816 → Fin 1024 → EReal) (j : Fin 1024) : EReal :=
  x j + half * rms (fun j => ∑ k, act (rms x gp) wg wu k * wd k j) gq j

/-! ## The kernel's vector forms -/

theorem one_word : Ideal.ofBits FTy.f32 0x3F800000#32 = 1 := Ideal.ofBits_one_f32

theorem plain_apply {M K N : ℕ} {φ₁ φ₂ : FTy}
    (lhs : FVec Ideal ⟨2, ![M, K]⟩ φ₁) (rhs : FVec Ideal ⟨2, ![K, N]⟩ φ₂) (r : Fin M) (c : Fin N) :
    matmul (DotDims.plain M K N) none lhs rhs (constant (F := Ideal) _ .f32 0x00000000#32) (ix2 r c)
      = ∑ k : Fin K, lhs (ix2 r k) * rhs (ix2 k c) := by
  refine (Ideal.matmul_plain_apply none lhs rhs _ r c).trans ?_
  pointwise
  rfl

/-- The norm of `n` rows. -/
def rmsV {n : Nat} (v : FVec Ideal (Mat n 1024) .f32) (g : FVec Ideal (Mat 1 1024) .f32)
    (hr : (Mat n 1024).Reduces [1] (Row n)) (hc : (Row n).ShapeCasts (Mat n 1))
    (hb : (Mat n 1).Broadcasts (Mat n 1024)) (hg : (Mat 1 1024).Broadcasts (Mat n 1024)) : FVec Ideal (Mat n 1024) .f32 :=
  mulf (mulf v (broadcastTo (Mat n 1024) (rsqrt (addf (divf (shapeCast (Mat n 1)
      (multiReduction .add [1] (Row n) (mulf v v) 0x00000000#32 hr (.inl rfl) rfl) hc)
    (broadcast (Mat n 1) (Scalar.ofBits .f32 0x44800000#32))) (broadcast (Mat n 1) (Scalar.ofBits .f32 0x358637BD#32)))) hb))
    (broadcastTo (Mat n 1024) g hg)

theorem col_apply {n : Nat} (w : FVec Ideal (Row n) .f32) (hc : (Row n).ShapeCasts (Mat n 1)) (r : Fin n) :
    shapeCast (Mat n 1) w hc (ix2 r 0) = w (ix1 r) :=
  shapeCast_apply w hc (ix2 r 0) (ix1 r) (by
    rw [Shape.rowMajor_val_one, Shape.rowMajor_val_two]
    show r.val = r.val * 1 + 0
    omega)

theorem spread_apply {n : Nat} (w : FVec Ideal (Mat n 1) .f32) (hb : (Mat n 1).Broadcasts (Mat n 1024)) (r : Fin n) (j : Fin 1024) :
    broadcastTo (Mat n 1024) w hb (ix2 r j) = w (ix2 r 0) :=
  broadcastTo_apply w hb (ix2 r j) (ix2 r 0) (fun a => by
    match a with
    | ⟨0, _⟩ =>
      show r.val = if n = 1 then 0 else r.val
      split_ifs with h
      · have := r.isLt; omega
      · rfl
    | ⟨1, _⟩ => rfl)

theorem gain_apply {n : Nat} (g : FVec Ideal (Mat 1 1024) .f32) (hg : (Mat 1 1024).Broadcasts (Mat n 1024)) (r : Fin n) (j : Fin 1024) :
    broadcastTo (Mat n 1024) g hg (ix2 r j) = g (ix2 0 j) :=
  broadcastTo_apply g hg (ix2 r j) (ix2 0 j) (fun a => by
    match a with
    | ⟨0, _⟩ => rfl
    | ⟨1, _⟩ => rfl)

theorem sum_apply {n : Nat} (v : FVec Ideal (Mat n 1024) .f32) (hr : (Mat n 1024).Reduces [1] (Row n)) (r : Fin n) :
    multiReduction (F := Ideal) .add [1] (Row n) v 0x00000000#32 hr (.inl rfl) rfl (ix1 r) = ∑ k, v (ix2 r k) := by
  pointwise

theorem rmsV_apply {n : Nat} (v : FVec Ideal (Mat n 1024) .f32) (g : FVec Ideal (Mat 1 1024) .f32)
    (hr : (Mat n 1024).Reduces [1] (Row n)) (hc : (Row n).ShapeCasts (Mat n 1))
    (hb : (Mat n 1).Broadcasts (Mat n 1024)) (hg : (Mat 1 1024).Broadcasts (Mat n 1024)) (r : Fin n) (j : Fin 1024) :
    rmsV v g hr hc hb hg (ix2 r j) = rms (fun k => v (ix2 r k)) (fun k => g (ix2 0 k)) j := by
  unfold rmsV
  rw [mulf_apply, mulf_apply, spread_apply, gain_apply, rsqrt_apply, addf_apply, divf_apply, col_apply, sum_apply]
  rfl

/-- The gated activation of `n` rows, `w` columns of it. -/
def gateV {n w : Nat} (a b : FVec Ideal (Mat n w) .f32) (hl : FTy.bf16.bits < FTy.f32.bits) : FVec Ideal (Mat n w) .bf16 :=
  truncf .bf16 (mulf (mulf a (divf (broadcast (Mat n w) (Scalar.ofBits .f32 0x3F800000#32))
    (addf (broadcast (Mat n w) (Scalar.ofBits .f32 0x3F800000#32)) (exp (subf (broadcast (Mat n w) (Scalar.ofBits .f32 0x00000000#32)) a))))) b) hl

theorem gateV_apply {n w : Nat} (a b : FVec Ideal (Mat n w) .f32) (hl : FTy.bf16.bits < FTy.f32.bits) (r : Fin n) (j : Fin w) :
    gateV a b hl (ix2 r j) = gate (a (ix2 r j)) (b (ix2 r j)) := by
  pointwise [gateV, one_word]
  rw [gate, zero_sub]

/-- Half the columns of the activation times the same half of the rows of the last weight. -/
def halfV {n : Nat} (h : FVec Ideal (Mat n 1024) .bf16) (wg wu : FVec Ideal (Mat 1024 1408) .bf16) (wd : FVec Ideal (Mat 1408 1024) .bf16)
    (hl : FTy.bf16.bits < FTy.f32.bits) : FVec Ideal (Mat n 1024) .f32 :=
  matmul (DotDims.plain n 1408 1024) none
    (gateV (matmul (DotDims.plain n 1024 1408) none h wg (constant (Mat n 1408) .f32 0x00000000#32))
      (matmul (DotDims.plain n 1024 1408) none h wu (constant (Mat n 1408) .f32 0x00000000#32)) hl)
    wd (constant (Mat n 1024) .f32 0x00000000#32)

/-- The half that starts at column `off`, at an entry. -/
theorem half_act {n : Nat} (h : FVec Ideal (Mat n 1024) .bf16) (X4 X5 : Vec Ideal (Mat 1024 2816) .bf16) (X6 : Vec Ideal (Mat 2816 1024) .bf16) (off : Nat)
    (hoff : off ≤ 1408)
    (i4 : ∀ a, (![0, off] : Fin 2 → Nat) a + (![1024, 1408] : Fin 2 → Nat) a ≤ (Mat 1024 2816).size a)
    (i6 : ∀ a, (![off, 0] : Fin 2 → Nat) a + (![1408, 1024] : Fin 2 → Nat) a ≤ (Mat 2816 1024).size a)
    (hl : FTy.bf16.bits < FTy.f32.bits) (r : Fin n) (j : Fin 1024) :
    halfV h (View.ld X4 (Rect.unit ![0, off] ![1024, 1408] i4)) (View.ld X5 (Rect.unit ![0, off] ![1024, 1408] i4))
        (View.ld X6 (Rect.unit ![off, 0] ![1408, 1024] i6)) hl (ix2 r j)
      = ∑ q : Fin 1408, act (fun l => h (ix2 r l)) (fun l k => X4 (ix2 l k)) (fun l k => X5 (ix2 l k)) ⟨off + q.val, by have := q.isLt; omega⟩
          * X6 (ix2 ⟨off + q.val, by have := q.isLt; omega⟩ j) := by
  have e : ∀ (X : Vec Ideal (Mat 1024 2816) .bf16) (l : Fin 1024) (q : Fin 1408),
      View.ld X (Rect.unit ![0, off] ![1024, 1408] i4) (ix2 l q) = X (ix2 l ⟨off + q.val, by have := q.isLt; omega⟩) := fun X l q =>
    View.ld_unit_apply_of X _ _ i4 _ _ (fun a => by
      match a with
      | ⟨0, _⟩ => show l.val = 0 + l.val; omega
      | ⟨1, _⟩ => rfl)
  have e6 : ∀ q : Fin 1408, View.ld X6 (Rect.unit ![off, 0] ![1408, 1024] i6) (ix2 q j) = X6 (ix2 ⟨off + q.val, by have := q.isLt; omega⟩ j) := fun q =>
    View.ld_unit_apply_of X6 _ _ i6 _ _ (fun a => by
      match a with
      | ⟨0, _⟩ => rfl
      | ⟨1, _⟩ => show j.val = 0 + j.val; omega)
  unfold halfV
  rw [plain_apply]
  refine Finset.sum_congr rfl fun q _ => congrArg₂ (fun a b : EReal => a * b) ?_ (e6 q)
  rw [gateV_apply, plain_apply, plain_apply]
  exact congrArg₂ gate (Finset.sum_congr rfl fun l _ => congrArg (fun z : EReal => (h (ix2 r l) : EReal) * z) (e X4 l q))
    (Finset.sum_congr rfl fun l _ => congrArg (fun z : EReal => (h (ix2 r l) : EReal) * z) (e X5 l q))

/-- A sum over all columns is the sum over the first half and the sum over the second. -/
theorem halves (f : Fin 2816 → EReal) :
    ∑ k, f k = (∑ q : Fin 1408, f ⟨0 + q.val, by have := q.isLt; omega⟩) + ∑ q : Fin 1408, f ⟨1408 + q.val, by have := q.isLt; omega⟩ := by
  refine (Fin.sum_univ_add (a := 1408) (b := 1408) f).trans ?_
  refine congrArg₂ (· + ·) (Finset.sum_congr rfl fun q _ => congrArg f (Fin.ext ?_)) (Finset.sum_congr rfl fun q _ => congrArg f (Fin.ext ?_))
  · show q.val = 0 + q.val; omega
  · rfl

/-- The residual sum. -/
def resV {n : Nat} (x y : FVec Ideal (Mat n 1024) .f32) (g : FVec Ideal (Mat 1 1024) .f32)
    (hr : (Mat n 1024).Reduces [1] (Row n)) (hc : (Row n).ShapeCasts (Mat n 1))
    (hb : (Mat n 1).Broadcasts (Mat n 1024)) (hg : (Mat 1 1024).Broadcasts (Mat n 1024)) : FVec Ideal (Mat n 1024) .f32 :=
  addf x (mulf (broadcast (Mat n 1024) (Scalar.ofBits .f32 0x3F000000#32)) (rmsV y g hr hc hb hg))

theorem resV_apply {n : Nat} (x y : FVec Ideal (Mat n 1024) .f32) (g : FVec Ideal (Mat 1 1024) .f32)
    (hr : (Mat n 1024).Reduces [1] (Row n)) (hc : (Row n).ShapeCasts (Mat n 1))
    (hb : (Mat n 1).Broadcasts (Mat n 1024)) (hg : (Mat 1 1024).Broadcasts (Mat n 1024)) (r : Fin n) (j : Fin 1024) :
    resV x y g hr hc hb hg (ix2 r j) = x (ix2 r j) + half * rms (fun k => y (ix2 r k)) (fun k => g (ix2 0 k)) j := by
  unfold resV
  rw [addf_apply, mulf_apply, rmsV_apply]
  rfl

/-- The layer from the normed rows and the two halves. -/
theorem ffn_of_halves {n : Nat} (x : Vec Ideal (Mat n 1024) .f32) (gp gq : Vec Ideal (Mat 1 1024) .f32) (h : FVec Ideal (Mat n 1024) .bf16)
    (X4 X5 : Vec Ideal (Mat 1024 2816) .bf16) (X6 : Vec Ideal (Mat 2816 1024) .bf16)
    (i40 : ∀ a, (![0, 0] : Fin 2 → Nat) a + (![1024, 1408] : Fin 2 → Nat) a ≤ (Mat 1024 2816).size a)
    (i41 : ∀ a, (![0, 1408] : Fin 2 → Nat) a + (![1024, 1408] : Fin 2 → Nat) a ≤ (Mat 1024 2816).size a)
    (i60 : ∀ a, (![0, 0] : Fin 2 → Nat) a + (![1408, 1024] : Fin 2 → Nat) a ≤ (Mat 2816 1024).size a)
    (i61 : ∀ a, (![1408, 0] : Fin 2 → Nat) a + (![1408, 1024] : Fin 2 → Nat) a ≤ (Mat 2816 1024).size a)
    (hl : FTy.bf16.bits < FTy.f32.bits)
    (hr : (Mat n 1024).Reduces [1] (Row n)) (hc : (Row n).ShapeCasts (Mat n 1))
    (hb : (Mat n 1).Broadcasts (Mat n 1024)) (hg : (Mat 1 1024).Broadcasts (Mat n 1024)) (r : Fin n) (j : Fin 1024)
    (hh : ∀ l, (h (ix2 r l) : EReal) = rms (fun k => x (ix2 r k)) (fun k => gp (ix2 0 k)) l) :
    resV x (addf (halfV h (View.ld X4 (Rect.unit ![0, 0] ![1024, 1408] i40)) (View.ld X5 (Rect.unit ![0, 0] ![1024, 1408] i40))
        (View.ld X6 (Rect.unit ![0, 0] ![1408, 1024] i60)) hl)
      (halfV h (View.ld X4 (Rect.unit ![0, 1408] ![1024, 1408] i41)) (View.ld X5 (Rect.unit ![0, 1408] ![1024, 1408] i41))
        (View.ld X6 (Rect.unit ![1408, 0] ![1408, 1024] i61)) hl)) gq hr hc hb hg (ix2 r j)
      = ffn (fun l => x (ix2 r l)) (fun l => gp (ix2 0 l)) (fun l => gq (ix2 0 l)) (fun l k => X4 (ix2 l k)) (fun l k => X5 (ix2 l k))
          (fun k l => X6 (ix2 k l)) j := by
  rw [resV_apply]
  unfold ffn
  refine congrArg (fun f : Fin 1024 → EReal => (x (ix2 r j) : EReal) + half * rms f (fun l => gq (ix2 0 l)) j) (funext fun j => ?_)
  rw [addf_apply, halves]
  refine congrArg₂ (fun a b : EReal => a + b) ((half_act h X4 X5 X6 0 (by omega) i40 i60 hl r j).trans ?_)
    ((half_act h X4 X5 X6 1408 (by omega) i41 i61 hl r j).trans ?_)
  · rw [funext hh]
  · rw [funext hh]

end Cert.Ffn
-- ==== Proof.FfnP.lean ====
/- The feed-forward call on the prompt: its result array is the layer of every row of the first argument. -/
module

public import proofs.«01_k».proof.Proof.FfnRows
public import proofs.«01_k».proof.Proof.Gen.Kernel2Ideal.Value
public import Idealize.ShloMosaic.Lib.Pointwise
public import Idealize.ShloMosaic.Lib.IdealHost
public import Idealize.ShloMosaic.Lib.Pipeline.ValueKit

@[expose] public section

set_option maxRecDepth 16384

noncomputable section

namespace Cert.FfnP

open Cert.Kernel2Ideal.Facts Cert.Ffn
open Idealize.ShloMosaic Cert.Kernel2Ideal Cert.Kernel2Ideal.Gen Idealize.ShloMosaic.TcCoe Idealize.SL.Sem

/-! ## The body -/

theorem pay3_eq (x : Vec Ideal S512x1024 .f32) (g : Vec Ideal S1x1024 .f32) :
    k0_pay3 x g = truncf .bf16 (rmsV x g reduces_S512x1024_S512 shapeCasts_S512_S512x1 broadcasts_S512x1_S512x1024 broadcasts_S1x1024_S512x1024) bitsLt_bf16_f32 := by
  unfold k0_pay3 k0_pay2
  dsimp only
  rw [shapeCast_self, shapeCast_self]
  rfl

theorem pay3_apply (x : Vec Ideal S512x1024 .f32) (g : Vec Ideal S1x1024 .f32) (r : Fin 512) (j : Fin 1024) :
    (k0_pay3 (F := Ideal) x g (ix2 r j) : EReal) = rms (fun k => x (ix2 r k)) (fun k => g (ix2 0 k)) j := by
  rw [pay3_eq]
  exact rmsV_apply x g _ _ _ _ r j

theorem pay4_eq (x : Vec Ideal S512x1024 .f32) (g : Vec Ideal S1x1024 .f32) (wg wu : Vec Ideal S1024x1408 .bf16) (wd : Vec Ideal S1408x1024 .bf16) :
    k0_pay4 x g wg wu wd = halfV (k0_pay3 x g) wg wu wd bitsLt_bf16_f32 := by
  unfold k0_pay4
  dsimp only
  rw [shapeCast_self, shapeCast_self, shapeCast_self]
  rfl

theorem pay1_eq (x : FVec Ideal S512x1024 .f32) (h : FVec Ideal S512x1024 .bf16) (y : FVec Ideal S512x1024 .f32) (wg : FVec Ideal S1024x1408 .bf16)
    (wu : Vec Ideal S1024x1408 .bf16) (wd : Vec Ideal S1408x1024 .bf16) (g : Vec Ideal S1x1024 .f32) :
    k0_pay1 x h y wg wu wd g = resV x (addf y (halfV h wg wu wd bitsLt_bf16_f32)) g
      reduces_S512x1024_S512 shapeCasts_S512_S512x1 broadcasts_S512x1_S512x1024 broadcasts_S1x1024_S512x1024 := by
  unfold k0_pay1
  dsimp only
  rw [shapeCast_self, shapeCast_self, shapeCast_self]
  rfl

/-- The block a point leaves, at an entry. -/
theorem out_apply (x0 : Vec Ideal S512x1024 .f32) (x1 x2 : Vec Ideal S1x1024 .f32) (x3 x4 : Vec Ideal S1024x2816 .bf16) (x5 : Vec Ideal S2816x1024 .bf16)
    (r : Fin 512) (j : Fin 1024) :
    out0_6 (F := Ideal) x0 x1 x2 x3 x4 x5 (ix2 r j)
     = ffn (fun l => x0 (ix2 r l)) (fun l => x1 (ix2 0 l)) (fun l => x2 (ix2 0 l)) (fun l k => x3 (ix2 l k)) (fun l k => x4 (ix2 l k)) (fun k l => x5 (ix2 k l)) j := by
  unfold out0_6
  have e0 : View.ld x0 r0_0 = x0 := View.ld_unit_lit _ x0 (by decide)
  have e1 : View.ld x1 r0_1 = x1 := View.ld_unit_lit _ x1 (by decide)
  have e2 : View.ld x2 r0_1 = x2 := View.ld_unit_lit _ x2 (by decide)
  rw [e0, e1, e2]
  refine (congrFun (View.canon_cons_unit_lit _ _ _ (by decide)) (ix2 r j)).trans ?_
  rw [pay1_eq, pay4_eq]
  unfold k0_pay5 k0_pay2
  dsimp only
  rw [shapeCast_self, shapeCast_self]
  exact ffn_of_halves x0 x1 x2 (k0_pay3 x0 x1) x3 x4 x5 _ _ _ _ _ _ _ _ _ r j (fun l => pay3_apply x0 x1 r l)

/-! ## The prepared arrays and the blocks -/

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![t.val, 0] := by decide +kernel

variable (m : (ℓ : Loc nD τ sig) → Buf (Elt Ideal) ℓ) (c : Dev nD) (t : Fin cfg0.N)

abbrev ax : FVec Ideal S8x2048x1024 .f32 := m ((c : Thread nD τ).loc main_arg0)
abbrev agp : FVec Ideal S1024 .f32 := m ((c : Thread nD τ).loc main_arg1)
abbrev agq : FVec Ideal S1024 .f32 := m ((c : Thread nD τ).loc main_arg2)
abbrev awg : FVec Ideal S1024x2816 .f32 := m ((c : Thread nD τ).loc main_arg3)
abbrev awu : FVec Ideal S1024x2816 .f32 := m ((c : Thread nD τ).loc main_arg4)
abbrev awd : FVec Ideal S2816x1024 .f32 := m ((c : Thread nD τ).loc main_arg5)

theorem V_x : (V m c main_v0 : FVec Ideal S16384x1024 .f32) = shapeCast S16384x1024 (ax m c) shapeCasts_S8x2048x1024_S16384x1024 := by
  show StableHlo.after _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_gp : (V m c main_v1 : FVec Ideal S1x1024 .f32) = shapeCast S1x1024 (agp m c) shapeCasts_S1024_S1x1024 := by
  show StableHlo.after _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_gq : (V m c main_v2 : FVec Ideal S1x1024 .f32) = shapeCast S1x1024 (agq m c) shapeCasts_S1024_S1x1024 := by
  show StableHlo.after _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_wg : (V m c main_v3 : FVec Ideal S1024x2816 .bf16) = truncf .bf16 (awg m c) bitsLt_bf16_f32 := by
  show StableHlo.after _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_wu : (V m c main_v4 : FVec Ideal S1024x2816 .bf16) = truncf .bf16 (awu m c) bitsLt_bf16_f32 := by
  show StableHlo.after _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_wd : (V m c main_v5 : FVec Ideal S2816x1024 .bf16) = truncf .bf16 (awd m c) bitsLt_bf16_f32 := by
  show StableHlo.after _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

/-- The batch and the position of a row of the flat array. -/
def bat (R : Fin 16384) : Fin 8 := ⟨R.val / 2048, by have := R.isLt; omega⟩
def pos (R : Fin 16384) : Fin 2048 := ⟨R.val % 2048, Nat.mod_lt _ (by omega)⟩

/-- The row of the flat array a row of a point's block is. -/
def row (r : Fin 512) : Fin 16384 := ⟨512 * t.val + r.val, by have h : t.val < 32 := t.isLt; have := r.isLt; omega⟩

theorem x_at (r : Fin 512) (k : Fin 1024) :
    ((iblk m c 0 t : Vec Ideal S512x1024 .f32) (ix2 r k) : EReal) = ax m c (ix3 (bat (row t r)) (pos (row t r)) k) := by
  have e : (iblk m c 0 t : Vec Ideal S512x1024 .f32) (ix2 r k) = (V m c main_v0 : FVec Ideal S16384x1024 .f32) (ix2 (row t r) k) := by
    unfold iblk
    generalize V m c (Pipeline.arrRef spec0 0) = X
    unfold row
    blk_ext [idx0 t]
  rw [e, V_x]
  refine shapeCast_apply _ _ _ _ ?_
  rw [Shape.rowMajor_val_two, Shape.rowMajor_val_three]
  show ((row t r).val / 2048 * 2048 + (row t r).val % 2048) * 1024 + k.val = (row t r).val * 1024 + k.val
  rw [Nat.div_add_mod']

theorem gp_at (k : Fin 1024) : ((iblk m c 1 t : Vec Ideal S1x1024 .f32) (ix2 0 k) : EReal) = agp m c (ix1 k) := by
  have e : (iblk m c 1 t : Vec Ideal S1x1024 .f32) (ix2 0 k) = (V m c main_v1 : FVec Ideal S1x1024 .f32) (ix2 0 k) := by
    unfold iblk
    generalize V m c (Pipeline.arrRef spec0 1) = X
    blk_ext [idx1 t]
  rw [e, V_gp]
  pointwise

theorem gq_at (k : Fin 1024) : ((iblk m c 2 t : Vec Ideal S1x1024 .f32) (ix2 0 k) : EReal) = agq m c (ix1 k) := by
  have e : (iblk m c 2 t : Vec Ideal S1x1024 .f32) (ix2 0 k) = (V m c main_v2 : FVec Ideal S1x1024 .f32) (ix2 0 k) := by
    unfold iblk
    generalize V m c (Pipeline.arrRef spec0 2) = X
    blk_ext [idx2 t]
  rw [e, V_gq]
  pointwise

theorem wg_at (l : Fin 1024) (k : Fin 2816) : ((iblk m c 3 t : Vec Ideal S1024x2816 .bf16) (ix2 l k) : EReal) = awg m c (ix2 l k) := by
  have e : (iblk m c 3 t : Vec Ideal S1024x2816 .bf16) (ix2 l k) = (V m c main_v3 : FVec Ideal S1024x2816 .bf16) (ix2 l k) := by
    unfold iblk
    generalize V m c (Pipeline.arrRef spec0 3) = X
    blk_ext [idx3 t]
  rw [e, V_wg]
  pointwise

theorem wu_at (l : Fin 1024) (k : Fin 2816) : ((iblk m c 4 t : Vec Ideal S1024x2816 .bf16) (ix2 l k) : EReal) = awu m c (ix2 l k) := by
  have e : (iblk m c 4 t : Vec Ideal S1024x2816 .bf16) (ix2 l k) = (V m c main_v4 : FVec Ideal S1024x2816 .bf16) (ix2 l k) := by
    unfold iblk
    generalize V m c (Pipeline.arrRef spec0 4) = X
    blk_ext [idx4 t]
  rw [e, V_wu]
  pointwise

theorem wd_at (l : Fin 2816) (k : Fin 1024) : ((iblk m c 5 t : Vec Ideal S2816x1024 .bf16) (ix2 l k) : EReal) = awd m c (ix2 l k) := by
  have e : (iblk m c 5 t : Vec Ideal S2816x1024 .bf16) (ix2 l k) = (V m c main_v5 : FVec Ideal S2816x1024 .bf16) (ix2 l k) := by
    unfold iblk
    generalize V m c (Pipeline.arrRef spec0 5) = X
    blk_ext [idx5 t]
  rw [e, V_wd]
  pointwise

/-! ## The result -/

/-- The layer of a row. -/
def y (R : Fin 16384) (j : Fin 1024) : EReal :=
  ffn (fun k => ax m c (ix3 (bat R) (pos R) k)) (fun k => agp m c (ix1 k)) (fun k => agq m c (ix1 k)) (fun l k => awg m c (ix2 l k))
    (fun l k => awu m c (ix2 l k)) (fun k l => awd m c (ix2 k l)) j

/-- The result array. -/
def G : FVec Ideal S16384x1024 .f32 := fun i => y m c (i 0) (i 1)

theorem arr : (dats m 0 c).arrAt 6 cfg0.N = G m c := by
  refine (dats m 0 c).arrAt_eq_of_covers 6 (G m c) (by decide +kernel) (fun t hf i => ?_)
  idx_vars i
  blk_simp
  rw [after0_6]
  refine (out_apply _ _ _ _ _ _ i0 i1).trans ?_
  simp only [x_at, gp_at, gq_at, wg_at, wu_at, wd_at]
  show G m c (ix2 (row t i0) i1) = _
  refine congrArg (G m c) ?_
  unfold row
  blk_ext [idx6 t]

end Cert.FfnP
-- ==== Proof.FfnPRef.lean ====
/- The feed-forward reference on the prompt: its value at an entry is the layer of the entry's row; so the call and the reference end equal. -/
module

public import proofs.«01_k».proof.Proof.FfnP
public import proofs.«01_k».proof.Proof.Gen.Reference2Ideal.Run
public import proofs.«01_k».proof.Proof.Gen.Reference2Ideal.Read

@[expose] public section

set_option maxRecDepth 16384

noncomputable section

namespace Cert.FfnP.Plain

open Idealize.ShloMosaic Cert.Reference2Ideal Cert.Reference2Ideal.Read Cert.Ffn

/-- The norm before the gated product. -/
theorem pre_at (x0 : (⟨S8x2048x1024, .f32⟩ : BufTy).Contents (Elt Ideal)) (x1 : (⟨S1024, .f32⟩ : BufTy).Contents (Elt Ideal)) (b : Fin 8) (n : Fin 2048) (j : Fin 1024) :
    val_main_v12 (F := Ideal) x0 x1 (ix3 b n j) = rms (fun k => x0 (ix3 b n k)) (fun k => x1 (ix1 k)) j := by
  have e : ∀ k, idx_main_v1 (idx_main_v2 (idx_main_v8 (ix3 b n j))) k = ix3 b n k := fun k => funext fun a => Fin.ext (by
      match a with
      | ⟨0, _⟩ => rfl
      | ⟨1, _⟩ => rfl
      | ⟨2, _⟩ => rfl)
  have g : idx_main_v10 (idx_main_v11 (ix3 b n j)) = ix1 j := funext fun a => Fin.ext (by
      match a with
      | ⟨0, _⟩ => rfl)
  have z : FloatOps.ofBits (F := Ideal) .f32 0x00000000#32 = (0 : EReal) := Ideal.ofBits_zero_f32
  rw [val_main_v12_apply, val_main_v9_apply, val_main_v8_apply, val_main_v7_apply, val_main_v6_apply, val_main_v4_apply, val_main_v2_apply, val_main_v1_apply, val_main_v3_apply, val_main_v5_apply, val_main_v11_apply, val_main_v10_apply, val_main_cst_apply, val_main_cst_0_apply, val_main_cst_1_apply, g, z, zero_add]
  simp only [val_main_v0_apply, e]
  rfl

/-- The gated activation. -/
theorem act_at (x0 : (⟨S8x2048x1024, .f32⟩ : BufTy).Contents (Elt Ideal)) (x1 : (⟨S1024, .f32⟩ : BufTy).Contents (Elt Ideal)) (x3 : (⟨S1024x2816, .f32⟩ : BufTy).Contents (Elt Ideal)) (x4 : (⟨S1024x2816, .f32⟩ : BufTy).Contents (Elt Ideal)) (b : Fin 8) (n : Fin 2048) (q : Fin 2816) :
    val_main_v16 (F := Ideal) x0 x1 x3 x4 (ix3 b n q) = act (rms (fun k => x0 (ix3 b n k)) (fun k => x1 (ix1 k))) (fun l k => x3 (ix2 l k)) (fun l k => x4 (ix2 l k)) q := by
  have ax3 : val_main_v13 (F := Ideal) x0 x1 x3 (ix3 b n q) = ∑ l : Fin 1024, rms (fun k => x0 (ix3 b n k)) (fun k => x1 (ix1 k)) l * x3 (ix2 l q) := by
    rw [val_main_v13_apply]
    refine Finset.sum_congr rfl fun l _ => ?_
    have el : lidx_main_v13 (ix3 b n q) l = ix3 b n l := funext fun a => Fin.ext (by
        match a with
        | ⟨0, _⟩ => rfl
        | ⟨1, _⟩ => rfl
        | ⟨2, _⟩ => rfl)
    have er : ridx_main_v13 (ix3 b n q) l = ix2 l q := funext fun a => Fin.ext (by
        match a with
        | ⟨0, _⟩ => rfl
        | ⟨1, _⟩ => rfl)
    rw [el, er, pre_at]
  have ax4 : val_main_v15 (F := Ideal) x0 x1 x4 (ix3 b n q) = ∑ l : Fin 1024, rms (fun k => x0 (ix3 b n k)) (fun k => x1 (ix1 k)) l * x4 (ix2 l q) := by
    rw [val_main_v15_apply]
    refine Finset.sum_congr rfl fun l _ => ?_
    have el : lidx_main_v15 (ix3 b n q) l = ix3 b n l := funext fun a => Fin.ext (by
        match a with
        | ⟨0, _⟩ => rfl
        | ⟨1, _⟩ => rfl
        | ⟨2, _⟩ => rfl)
    have er : ridx_main_v15 (ix3 b n q) l = ix2 l q := funext fun a => Fin.ext (by
        match a with
        | ⟨0, _⟩ => rfl
        | ⟨1, _⟩ => rfl)
    rw [el, er, pre_at]
  have o1 : FloatOps.ofBits (F := Ideal) .f32 0x3F800000#32 = (1 : EReal) := one_word
  rw [val_main_v16_apply, val_main_v14_apply, val_main_call0_v5_apply, val_main_call0_v4_apply, val_main_call0_v3_apply, val_main_call0_v2_apply, val_main_call0_v1_apply, val_main_call0_v0_apply, val_main_call0_cst_apply, val_main_call0_cst_0_apply, o1, ax3, ax4]
  rfl

/-- The gated product. -/
theorem down_at (x0 : (⟨S8x2048x1024, .f32⟩ : BufTy).Contents (Elt Ideal)) (x1 : (⟨S1024, .f32⟩ : BufTy).Contents (Elt Ideal)) (x3 : (⟨S1024x2816, .f32⟩ : BufTy).Contents (Elt Ideal)) (x4 : (⟨S1024x2816, .f32⟩ : BufTy).Contents (Elt Ideal)) (x5 : (⟨S2816x1024, .f32⟩ : BufTy).Contents (Elt Ideal)) (b : Fin 8) (n : Fin 2048) (j : Fin 1024) :
    val_main_v17 (F := Ideal) x0 x1 x3 x4 x5 (ix3 b n j) = ∑ k : Fin 2816, act (rms (fun k => x0 (ix3 b n k)) (fun k => x1 (ix1 k))) (fun l k => x3 (ix2 l k)) (fun l k => x4 (ix2 l k)) k * x5 (ix2 k j) := by
  rw [val_main_v17_apply]
  refine Finset.sum_congr rfl fun k _ => ?_
  have el : lidx_main_v17 (ix3 b n j) k = ix3 b n k := funext fun a => Fin.ext (by
      match a with
      | ⟨0, _⟩ => rfl
      | ⟨1, _⟩ => rfl
      | ⟨2, _⟩ => rfl)
  have er : ridx_main_v17 (ix3 b n j) k = ix2 k j := funext fun a => Fin.ext (by
      match a with
      | ⟨0, _⟩ => rfl
      | ⟨1, _⟩ => rfl)
  rw [el, er, act_at]

/-- The norm after the gated product. -/
theorem post_at (x0 : (⟨S8x2048x1024, .f32⟩ : BufTy).Contents (Elt Ideal)) (x1 : (⟨S1024, .f32⟩ : BufTy).Contents (Elt Ideal)) (x2 : (⟨S1024, .f32⟩ : BufTy).Contents (Elt Ideal)) (x3 : (⟨S1024x2816, .f32⟩ : BufTy).Contents (Elt Ideal)) (x4 : (⟨S1024x2816, .f32⟩ : BufTy).Contents (Elt Ideal)) (x5 : (⟨S2816x1024, .f32⟩ : BufTy).Contents (Elt Ideal)) (b : Fin 8) (n : Fin 2048) (j : Fin 1024) :
    val_main_v30 (F := Ideal) x0 x1 x2 x3 x4 x5 (ix3 b n j)
      = rms (fun k => val_main_v17 (F := Ideal) x0 x1 x3 x4 x5 (ix3 b n k)) (fun k => x2 (ix1 k)) j := by
  have e : ∀ k, idx_main_v19 (idx_main_v20 (idx_main_v26 (ix3 b n j))) k = ix3 b n k := fun k => funext fun a => Fin.ext (by
      match a with
      | ⟨0, _⟩ => rfl
      | ⟨1, _⟩ => rfl
      | ⟨2, _⟩ => rfl)
  have g : idx_main_v28 (idx_main_v29 (ix3 b n j)) = ix1 j := funext fun a => Fin.ext (by
      match a with
      | ⟨0, _⟩ => rfl)
  have z : FloatOps.ofBits (F := Ideal) .f32 0x00000000#32 = (0 : EReal) := Ideal.ofBits_zero_f32
  rw [val_main_v30_apply, val_main_v27_apply, val_main_v26_apply, val_main_v25_apply, val_main_v24_apply, val_main_v22_apply, val_main_v20_apply, val_main_v19_apply, val_main_v21_apply, val_main_v23_apply, val_main_v29_apply, val_main_v28_apply, val_main_cst_2_apply, val_main_cst_3_apply, val_main_cst_4_apply, g, z, zero_add]
  simp only [val_main_v18_apply, e]
  rfl

/-- The reference's result. -/
theorem res_at (x0 : (⟨S8x2048x1024, .f32⟩ : BufTy).Contents (Elt Ideal)) (x1 : (⟨S1024, .f32⟩ : BufTy).Contents (Elt Ideal)) (x2 : (⟨S1024, .f32⟩ : BufTy).Contents (Elt Ideal)) (x3 : (⟨S1024x2816, .f32⟩ : BufTy).Contents (Elt Ideal)) (x4 : (⟨S1024x2816, .f32⟩ : BufTy).Contents (Elt Ideal)) (x5 : (⟨S2816x1024, .f32⟩ : BufTy).Contents (Elt Ideal)) (R : Fin 16384) (j : Fin 1024) :
    val_main_v34 (F := Ideal) x0 x1 x2 x3 x4 x5 (ix2 R j)
      = ffn (fun k => x0 (ix3 (bat R) (pos R) k)) (fun k => x1 (ix1 k)) (fun k => x2 (ix1 k)) (fun l k => x3 (ix2 l k)) (fun l k => x4 (ix2 l k)) (fun k l => x5 (ix2 k l)) j := by
  have hR := R.isLt
  have hj := j.isLt
  have e : idx_main_v34 (ix2 R j) = ix3 (bat R) (pos R) j := funext fun a => Fin.ext (by
    match a with
    | ⟨0, _⟩ => show (R.val * 1024 + j.val) / 2097152 = R.val / 2048; omega
    | ⟨1, _⟩ => show (R.val * 1024 + j.val) / 1024 % 2048 = R.val % 2048; omega
    | ⟨2, _⟩ => show (R.val * 1024 + j.val) % 1024 = j.val; omega)
  rw [val_main_v34_apply, e, val_main_v33_apply, val_main_v32_apply, val_main_v31_apply, val_main_cst_5_apply, post_at]
  simp only [down_at]
  rfl

end Cert.FfnP.Plain

namespace Cert.FfnP

open Idealize.ShloMosaic Cert.Kernel2Ideal Cert.Kernel2Ideal.Gen Idealize.ShloMosaic.TcCoe

/-- The call's result array is the reference's value of the six arguments. -/
theorem result (m : (ℓ : Loc nD τ sig) → Buf (Elt Ideal) ℓ) (c : Dev nD) :
    (dats m 0 c).arrAt 6 cfg0.N
      = Cert.Reference2Ideal.Read.val_main_v34 (F := Ideal) (ax m c) (agp m c) (agq m c) (awg m c) (awu m c) (awd m c) := by
  rw [arr]
  funext i
  idx_vars i
  exact (Plain.res_at _ _ _ _ _ _ i0 i1).symm

end Cert.FfnP
-- ==== Proof.FfnS.lean ====
/- The feed-forward call on the samples: its result array is the layer of every row of the first argument. -/
module

public import proofs.«01_k».proof.Proof.FfnRows
public import proofs.«01_k».proof.Proof.Gen.Kernel3Ideal.Value
public import Idealize.ShloMosaic.Lib.Pointwise
public import Idealize.ShloMosaic.Lib.IdealHost
public import Idealize.ShloMosaic.Lib.Pipeline.ValueKit

@[expose] public section

set_option maxRecDepth 16384

noncomputable section

namespace Cert.FfnS

open Cert.Kernel3Ideal.Facts Cert.Ffn
open Idealize.ShloMosaic Cert.Kernel3Ideal Cert.Kernel3Ideal.Gen Idealize.ShloMosaic.TcCoe Idealize.SL.Sem

/-! ## The body -/

theorem pay3_eq (x : Vec Ideal S128x1024 .f32) (g : Vec Ideal S1x1024 .f32) :
    k0_pay3 x g = truncf .bf16 (rmsV x g reduces_S128x1024_S128 shapeCasts_S128_S128x1 broadcasts_S128x1_S128x1024 broadcasts_S1x1024_S128x1024) bitsLt_bf16_f32 := by
  unfold k0_pay3 k0_pay2
  dsimp only
  rw [shapeCast_self, shapeCast_self]
  rfl

theorem pay3_apply (x : Vec Ideal S128x1024 .f32) (g : Vec Ideal S1x1024 .f32) (r : Fin 128) (j : Fin 1024) :
    (k0_pay3 (F := Ideal) x g (ix2 r j) : EReal) = rms (fun k => x (ix2 r k)) (fun k => g (ix2 0 k)) j := by
  rw [pay3_eq]
  exact rmsV_apply x g _ _ _ _ r j

theorem pay4_eq (x : Vec Ideal S128x1024 .f32) (g : Vec Ideal S1x1024 .f32) (wg wu : Vec Ideal S1024x1408 .bf16) (wd : Vec Ideal S1408x1024 .bf16) :
    k0_pay4 x g wg wu wd = halfV (k0_pay3 x g) wg wu wd bitsLt_bf16_f32 := by
  unfold k0_pay4
  dsimp only
  rw [shapeCast_self, shapeCast_self, shapeCast_self]
  rfl

theorem pay1_eq (x : FVec Ideal S128x1024 .f32) (h : FVec Ideal S128x1024 .bf16) (y : FVec Ideal S128x1024 .f32) (wg : FVec Ideal S1024x1408 .bf16)
    (wu : Vec Ideal S1024x1408 .bf16) (wd : Vec Ideal S1408x1024 .bf16) (g : Vec Ideal S1x1024 .f32) :
    k0_pay1 x h y wg wu wd g = resV x (addf y (halfV h wg wu wd bitsLt_bf16_f32)) g
      reduces_S128x1024_S128 shapeCasts_S128_S128x1 broadcasts_S128x1_S128x1024 broadcasts_S1x1024_S128x1024 := by
  unfold k0_pay1
  dsimp only
  rw [shapeCast_self, shapeCast_self, shapeCast_self]
  rfl

/-- The block a point leaves, at an entry. -/
theorem out_apply (x0 : Vec Ideal S128x1024 .f32) (x1 x2 : Vec Ideal S1x1024 .f32) (x3 x4 : Vec Ideal S1024x2816 .bf16) (x5 : Vec Ideal S2816x1024 .bf16)
    (r : Fin 128) (j : Fin 1024) :
    out0_6 (F := Ideal) x0 x1 x2 x3 x4 x5 (ix2 r j)
     = ffn (fun l => x0 (ix2 r l)) (fun l => x1 (ix2 0 l)) (fun l => x2 (ix2 0 l)) (fun l k => x3 (ix2 l k)) (fun l k => x4 (ix2 l k)) (fun k l => x5 (ix2 k l)) j := by
  unfold out0_6
  have e0 : View.ld x0 r0_0 = x0 := View.ld_unit_lit _ x0 (by decide)
  have e1 : View.ld x1 r0_1 = x1 := View.ld_unit_lit _ x1 (by decide)
  have e2 : View.ld x2 r0_1 = x2 := View.ld_unit_lit _ x2 (by decide)
  rw [e0, e1, e2]
  refine (congrFun (View.canon_cons_unit_lit _ _ _ (by decide)) (ix2 r j)).trans ?_
  rw [pay1_eq, pay4_eq]
  unfold k0_pay5 k0_pay2
  dsimp only
  rw [shapeCast_self, shapeCast_self]
  exact ffn_of_halves x0 x1 x2 (k0_pay3 x0 x1) x3 x4 x5 _ _ _ _ _ _ _ _ _ r j (fun l => pay3_apply x0 x1 r l)

/-! ## The prepared arrays and the blocks -/

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![t.val, 0] := by decide +kernel

variable (m : (ℓ : Loc nD τ sig) → Buf (Elt Ideal) ℓ) (c : Dev nD) (t : Fin cfg0.N)

abbrev ax : FVec Ideal S32x4x1024 .f32 := m ((c : Thread nD τ).loc main_arg0)
abbrev agp : FVec Ideal S1024 .f32 := m ((c : Thread nD τ).loc main_arg1)
abbrev agq : FVec Ideal S1024 .f32 := m ((c : Thread nD τ).loc main_arg2)
abbrev awg : FVec Ideal S1024x2816 .f32 := m ((c : Thread nD τ).loc main_arg3)
abbrev awu : FVec Ideal S1024x2816 .f32 := m ((c : Thread nD τ).loc main_arg4)
abbrev awd : FVec Ideal S2816x1024 .f32 := m ((c : Thread nD τ).loc main_arg5)

theorem V_x : (V m c main_v0 : FVec Ideal S128x1024 .f32) = shapeCast S128x1024 (ax m c) shapeCasts_S32x4x1024_S128x1024 := by
  show StableHlo.after _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_gp : (V m c main_v1 : FVec Ideal S1x1024 .f32) = shapeCast S1x1024 (agp m c) shapeCasts_S1024_S1x1024 := by
  show StableHlo.after _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_gq : (V m c main_v2 : FVec Ideal S1x1024 .f32) = shapeCast S1x1024 (agq m c) shapeCasts_S1024_S1x1024 := by
  show StableHlo.after _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_wg : (V m c main_v3 : FVec Ideal S1024x2816 .bf16) = truncf .bf16 (awg m c) bitsLt_bf16_f32 := by
  show StableHlo.after _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_wu : (V m c main_v4 : FVec Ideal S1024x2816 .bf16) = truncf .bf16 (awu m c) bitsLt_bf16_f32 := by
  show StableHlo.after _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_wd : (V m c main_v5 : FVec Ideal S2816x1024 .bf16) = truncf .bf16 (awd m c) bitsLt_bf16_f32 := by
  show StableHlo.after _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

/-- The batch and the position of a row of the flat array. -/
def bat (R : Fin 128) : Fin 32 := ⟨R.val / 4, by have := R.isLt; omega⟩
def pos (R : Fin 128) : Fin 4 := ⟨R.val % 4, Nat.mod_lt _ (by omega)⟩

/-- The row of the flat array a row of a point's block is. -/
def row (r : Fin 128) : Fin 128 := ⟨128 * t.val + r.val, by have h : t.val < 1 := t.isLt; have := r.isLt; omega⟩

theorem x_at (r : Fin 128) (k : Fin 1024) :
    ((iblk m c 0 t : Vec Ideal S128x1024 .f32) (ix2 r k) : EReal) = ax m c (ix3 (bat (row t r)) (pos (row t r)) k) := by
  have e : (iblk m c 0 t : Vec Ideal S128x1024 .f32) (ix2 r k) = (V m c main_v0 : FVec Ideal S128x1024 .f32) (ix2 (row t r) k) := by
    unfold iblk
    generalize V m c (Pipeline.arrRef spec0 0) = X
    unfold row
    blk_ext [idx0 t]
  rw [e, V_x]
  refine shapeCast_apply _ _ _ _ ?_
  rw [Shape.rowMajor_val_two, Shape.rowMajor_val_three]
  show ((row t r).val / 4 * 4 + (row t r).val % 4) * 1024 + k.val = (row t r).val * 1024 + k.val
  rw [Nat.div_add_mod']

theorem gp_at (k : Fin 1024) : ((iblk m c 1 t : Vec Ideal S1x1024 .f32) (ix2 0 k) : EReal) = agp m c (ix1 k) := by
  have e : (iblk m c 1 t : Vec Ideal S1x1024 .f32) (ix2 0 k) = (V m c main_v1 : FVec Ideal S1x1024 .f32) (ix2 0 k) := by
    unfold iblk
    generalize V m c (Pipeline.arrRef spec0 1) = X
    blk_ext [idx1 t]
  rw [e, V_gp]
  pointwise

theorem gq_at (k : Fin 1024) : ((iblk m c 2 t : Vec Ideal S1x1024 .f32) (ix2 0 k) : EReal) = agq m c (ix1 k) := by
  have e : (iblk m c 2 t : Vec Ideal S1x1024 .f32) (ix2 0 k) = (V m c main_v2 : FVec Ideal S1x1024 .f32) (ix2 0 k) := by
    unfold iblk
    generalize V m c (Pipeline.arrRef spec0 2) = X
    blk_ext [idx2 t]
  rw [e, V_gq]
  pointwise

theorem wg_at (l : Fin 1024) (k : Fin 2816) : ((iblk m c 3 t : Vec Ideal S1024x2816 .bf16) (ix2 l k) : EReal) = awg m c (ix2 l k) := by
  have e : (iblk m c 3 t : Vec Ideal S1024x2816 .bf16) (ix2 l k) = (V m c main_v3 : FVec Ideal S1024x2816 .bf16) (ix2 l k) := by
    unfold iblk
    generalize V m c (Pipeline.arrRef spec0 3) = X
    blk_ext [idx3 t]
  rw [e, V_wg]
  pointwise

theorem wu_at (l : Fin 1024) (k : Fin 2816) : ((iblk m c 4 t : Vec Ideal S1024x2816 .bf16) (ix2 l k) : EReal) = awu m c (ix2 l k) := by
  have e : (iblk m c 4 t : Vec Ideal S1024x2816 .bf16) (ix2 l k) = (V m c main_v4 : FVec Ideal S1024x2816 .bf16) (ix2 l k) := by
    unfold iblk
    generalize V m c (Pipeline.arrRef spec0 4) = X
    blk_ext [idx4 t]
  rw [e, V_wu]
  pointwise

theorem wd_at (l : Fin 2816) (k : Fin 1024) : ((iblk m c 5 t : Vec Ideal S2816x1024 .bf16) (ix2 l k) : EReal) = awd m c (ix2 l k) := by
  have e : (iblk m c 5 t : Vec Ideal S2816x1024 .bf16) (ix2 l k) = (V m c main_v5 : FVec Ideal S2816x1024 .bf16) (ix2 l k) := by
    unfold iblk
    generalize V m c (Pipeline.arrRef spec0 5) = X
    blk_ext [idx5 t]
  rw [e, V_wd]
  pointwise

/-! ## The result -/

/-- The layer of a row. -/
def y (R : Fin 128) (j : Fin 1024) : EReal :=
  ffn (fun k => ax m c (ix3 (bat R) (pos R) k)) (fun k => agp m c (ix1 k)) (fun k => agq m c (ix1 k)) (fun l k => awg m c (ix2 l k))
    (fun l k => awu m c (ix2 l k)) (fun k l => awd m c (ix2 k l)) j

/-- The result array. -/
def G : FVec Ideal S128x1024 .f32 := fun i => y m c (i 0) (i 1)

theorem arr : (dats m 0 c).arrAt 6 cfg0.N = G m c := by
  refine (dats m 0 c).arrAt_eq_of_covers 6 (G m c) (by decide +kernel) (fun t hf i => ?_)
  idx_vars i
  blk_simp
  rw [after0_6]
  refine (out_apply _ _ _ _ _ _ i0 i1).trans ?_
  simp only [x_at, gp_at, gq_at, wg_at, wu_at, wd_at]
  show G m c (ix2 (row t i0) i1) = _
  refine congrArg (G m c) ?_
  unfold row
  blk_ext [idx6 t]

end Cert.FfnS
-- ==== Proof.FfnSRef.lean ====
/- The feed-forward reference on the samples: its value at an entry is the layer of the entry's row; so the call and the reference end equal. -/
module

public import proofs.«01_k».proof.Proof.FfnS
public import proofs.«01_k».proof.Proof.Gen.Reference3Ideal.Run
public import proofs.«01_k».proof.Proof.Gen.Reference3Ideal.Read

@[expose] public section

set_option maxRecDepth 16384

noncomputable section

namespace Cert.FfnS.Plain

open Idealize.ShloMosaic Cert.Reference3Ideal Cert.Reference3Ideal.Read Cert.Ffn

/-- The norm before the gated product. -/
theorem pre_at (x0 : (⟨S32x4x1024, .f32⟩ : BufTy).Contents (Elt Ideal)) (x1 : (⟨S1024, .f32⟩ : BufTy).Contents (Elt Ideal)) (b : Fin 32) (n : Fin 4) (j : Fin 1024) :
    val_main_v12 (F := Ideal) x0 x1 (ix3 b n j) = rms (fun k => x0 (ix3 b n k)) (fun k => x1 (ix1 k)) j := by
  have e : ∀ k, idx_main_v1 (idx_main_v2 (idx_main_v8 (ix3 b n j))) k = ix3 b n k := fun k => funext fun a => Fin.ext (by
      match a with
      | ⟨0, _⟩ => rfl
      | ⟨1, _⟩ => rfl
      | ⟨2, _⟩ => rfl)
  have g : idx_main_v10 (idx_main_v11 (ix3 b n j)) = ix1 j := funext fun a => Fin.ext (by
      match a with
      | ⟨0, _⟩ => rfl)
  have z : FloatOps.ofBits (F := Ideal) .f32 0x00000000#32 = (0 : EReal) := Ideal.ofBits_zero_f32
  rw [val_main_v12_apply, val_main_v9_apply, val_main_v8_apply, val_main_v7_apply, val_main_v6_apply, val_main_v4_apply, val_main_v2_apply, val_main_v1_apply, val_main_v3_apply, val_main_v5_apply, val_main_v11_apply, val_main_v10_apply, val_main_cst_apply, val_main_cst_0_apply, val_main_cst_1_apply, g, z, zero_add]
  simp only [val_main_v0_apply, e]
  rfl

/-- The gated activation. -/
theorem act_at (x0 : (⟨S32x4x1024, .f32⟩ : BufTy).Contents (Elt Ideal)) (x1 : (⟨S1024, .f32⟩ : BufTy).Contents (Elt Ideal)) (x3 : (⟨S1024x2816, .f32⟩ : BufTy).Contents (Elt Ideal)) (x4 : (⟨S1024x2816, .f32⟩ : BufTy).Contents (Elt Ideal)) (b : Fin 32) (n : Fin 4) (q : Fin 2816) :
    val_main_v16 (F := Ideal) x0 x1 x3 x4 (ix3 b n q) = act (rms (fun k => x0 (ix3 b n k)) (fun k => x1 (ix1 k))) (fun l k => x3 (ix2 l k)) (fun l k => x4 (ix2 l k)) q := by
  have ax3 : val_main_v13 (F := Ideal) x0 x1 x3 (ix3 b n q) = ∑ l : Fin 1024, rms (fun k => x0 (ix3 b n k)) (fun k => x1 (ix1 k)) l * x3 (ix2 l q) := by
    rw [val_main_v13_apply]
    refine Finset.sum_congr rfl fun l _ => ?_
    have el : lidx_main_v13 (ix3 b n q) l = ix3 b n l := funext fun a => Fin.ext (by
        match a with
        | ⟨0, _⟩ => rfl
        | ⟨1, _⟩ => rfl
        | ⟨2, _⟩ => rfl)
    have er : ridx_main_v13 (ix3 b n q) l = ix2 l q := funext fun a => Fin.ext (by
        match a with
        | ⟨0, _⟩ => rfl
        | ⟨1, _⟩ => rfl)
    rw [el, er, pre_at]
  have ax4 : val_main_v15 (F := Ideal) x0 x1 x4 (ix3 b n q) = ∑ l : Fin 1024, rms (fun k => x0 (ix3 b n k)) (fun k => x1 (ix1 k)) l * x4 (ix2 l q) := by
    rw [val_main_v15_apply]
    refine Finset.sum_congr rfl fun l _ => ?_
    have el : lidx_main_v15 (ix3 b n q) l = ix3 b n l := funext fun a => Fin.ext (by
        match a with
        | ⟨0, _⟩ => rfl
        | ⟨1, _⟩ => rfl
        | ⟨2, _⟩ => rfl)
    have er : ridx_main_v15 (ix3 b n q) l = ix2 l q := funext fun a => Fin.ext (by
        match a with
        | ⟨0, _⟩ => rfl
        | ⟨1, _⟩ => rfl)
    rw [el, er, pre_at]
  have o1 : FloatOps.ofBits (F := Ideal) .f32 0x3F800000#32 = (1 : EReal) := one_word
  rw [val_main_v16_apply, val_main_v14_apply, val_main_call0_v5_apply, val_main_call0_v4_apply, val_main_call0_v3_apply, val_main_call0_v2_apply, val_main_call0_v1_apply, val_main_call0_v0_apply, val_main_call0_cst_apply, val_main_call0_cst_0_apply, o1, ax3, ax4]
  rfl

/-- The gated product. -/
theorem down_at (x0 : (⟨S32x4x1024, .f32⟩ : BufTy).Contents (Elt Ideal)) (x1 : (⟨S1024, .f32⟩ : BufTy).Contents (Elt Ideal)) (x3 : (⟨S1024x2816, .f32⟩ : BufTy).Contents (Elt Ideal)) (x4 : (⟨S1024x2816, .f32⟩ : BufTy).Contents (Elt Ideal)) (x5 : (⟨S2816x1024, .f32⟩ : BufTy).Contents (Elt Ideal)) (b : Fin 32) (n : Fin 4) (j : Fin 1024) :
    val_main_v17 (F := Ideal) x0 x1 x3 x4 x5 (ix3 b n j) = ∑ k : Fin 2816, act (rms (fun k => x0 (ix3 b n k)) (fun k => x1 (ix1 k))) (fun l k => x3 (ix2 l k)) (fun l k => x4 (ix2 l k)) k * x5 (ix2 k j) := by
  rw [val_main_v17_apply]
  refine Finset.sum_congr rfl fun k _ => ?_
  have el : lidx_main_v17 (ix3 b n j) k = ix3 b n k := funext fun a => Fin.ext (by
      match a with
      | ⟨0, _⟩ => rfl
      | ⟨1, _⟩ => rfl
      | ⟨2, _⟩ => rfl)
  have er : ridx_main_v17 (ix3 b n j) k = ix2 k j := funext fun a => Fin.ext (by
      match a with
      | ⟨0, _⟩ => rfl
      | ⟨1, _⟩ => rfl)
  rw [el, er, act_at]

/-- The norm after the gated product. -/
theorem post_at (x0 : (⟨S32x4x1024, .f32⟩ : BufTy).Contents (Elt Ideal)) (x1 : (⟨S1024, .f32⟩ : BufTy).Contents (Elt Ideal)) (x2 : (⟨S1024, .f32⟩ : BufTy).Contents (Elt Ideal)) (x3 : (⟨S1024x2816, .f32⟩ : BufTy).Contents (Elt Ideal)) (x4 : (⟨S1024x2816, .f32⟩ : BufTy).Contents (Elt Ideal)) (x5 : (⟨S2816x1024, .f32⟩ : BufTy).Contents (Elt Ideal)) (b : Fin 32) (n : Fin 4) (j : Fin 1024) :
    val_main_v30 (F := Ideal) x0 x1 x2 x3 x4 x5 (ix3 b n j)
      = rms (fun k => val_main_v17 (F := Ideal) x0 x1 x3 x4 x5 (ix3 b n k)) (fun k => x2 (ix1 k)) j := by
  have e : ∀ k, idx_main_v19 (idx_main_v20 (idx_main_v26 (ix3 b n j))) k = ix3 b n k := fun k => funext fun a => Fin.ext (by
      match a with
      | ⟨0, _⟩ => rfl
      | ⟨1, _⟩ => rfl
      | ⟨2, _⟩ => rfl)
  have g : idx_main_v28 (idx_main_v29 (ix3 b n j)) = ix1 j := funext fun a => Fin.ext (by
      match a with
      | ⟨0, _⟩ => rfl)
  have z : FloatOps.ofBits (F := Ideal) .f32 0x00000000#32 = (0 : EReal) := Ideal.ofBits_zero_f32
  rw [val_main_v30_apply, val_main_v27_apply, val_main_v26_apply, val_main_v25_apply, val_main_v24_apply, val_main_v22_apply, val_main_v20_apply, val_main_v19_apply, val_main_v21_apply, val_main_v23_apply, val_main_v29_apply, val_main_v28_apply, val_main_cst_2_apply, val_main_cst_3_apply, val_main_cst_4_apply, g, z, zero_add]
  simp only [val_main_v18_apply, e]
  rfl

/-- The reference's result. -/
theorem res_at (x0 : (⟨S32x4x1024, .f32⟩ : BufTy).Contents (Elt Ideal)) (x1 : (⟨S1024, .f32⟩ : BufTy).Contents (Elt Ideal)) (x2 : (⟨S1024, .f32⟩ : BufTy).Contents (Elt Ideal)) (x3 : (⟨S1024x2816, .f32⟩ : BufTy).Contents (Elt Ideal)) (x4 : (⟨S1024x2816, .f32⟩ : BufTy).Contents (Elt Ideal)) (x5 : (⟨S2816x1024, .f32⟩ : BufTy).Contents (Elt Ideal)) (R : Fin 128) (j : Fin 1024) :
    val_main_v34 (F := Ideal) x0 x1 x2 x3 x4 x5 (ix2 R j)
      = ffn (fun k => x0 (ix3 (bat R) (pos R) k)) (fun k => x1 (ix1 k)) (fun k => x2 (ix1 k)) (fun l k => x3 (ix2 l k)) (fun l k => x4 (ix2 l k)) (fun k l => x5 (ix2 k l)) j := by
  have hR := R.isLt
  have hj := j.isLt
  have e : idx_main_v34 (ix2 R j) = ix3 (bat R) (pos R) j := funext fun a => Fin.ext (by
    match a with
    | ⟨0, _⟩ => show (R.val * 1024 + j.val) / 4096 = R.val / 4; omega
    | ⟨1, _⟩ => show (R.val * 1024 + j.val) / 1024 % 4 = R.val % 4; omega
    | ⟨2, _⟩ => show (R.val * 1024 + j.val) % 1024 = j.val; omega)
  rw [val_main_v34_apply, e, val_main_v33_apply, val_main_v32_apply, val_main_v31_apply, val_main_cst_5_apply, post_at]
  simp only [down_at]
  rfl

end Cert.FfnS.Plain

namespace Cert.FfnS

open Idealize.ShloMosaic Cert.Kernel3Ideal Cert.Kernel3Ideal.Gen Idealize.ShloMosaic.TcCoe

/-- The call's result array is the reference's value of the six arguments. -/
theorem result (m : (ℓ : Loc nD τ sig) → Buf (Elt Ideal) ℓ) (c : Dev nD) :
    (dats m 0 c).arrAt 6 cfg0.N
      = Cert.Reference3Ideal.Read.val_main_v34 (F := Ideal) (ax m c) (agp m c) (agq m c) (awg m c) (awu m c) (awd m c) := by
  rw [arr]
  funext i
  idx_vars i
  exact (Plain.res_at _ _ _ _ _ _ i0 i1).symm

end Cert.FfnS
-- ==== Proof.PoolBlock.lean ====
/- The pooling mixer on one block of 256 rows. Four groups of 256 columns average the last 2, 4, 8 and 16 normed rows. The kernel keeps the
   block's normed rows under the 32 rows before them, and forms each wider sum by adding a narrower one to its own shift. -/
module

public import proofs.«01_k».proof.Proof.FfnRows
public import proofs.«01_k».proof.Proof.Gen.Kernel4Ideal.Skeleton

@[expose] public section

set_option maxRecDepth 16384

noncomputable section

namespace Cert.Pool

open Idealize.ShloMosaic Cert.Kernel4Ideal Cert.Kernel4Ideal.Gen
open Cert.Kernel4Ideal.Facts Cert.Ffn

/-! ## Stored pieces -/

/-- Stored pieces of a matrix read at an entry: the last piece's payload where it holds the entry, the earlier pieces elsewhere. -/
theorem peel {A B o0 o1 s0 s1 : Nat} {e : EltTy} (inb : ∀ a, (![o0, o1] : Fin 2 → Nat) a + (![s0, s1] : Fin 2 → Nat) a ≤ (Mat A B).size a)
    (w : Vec Ideal (Mat s0 s1) e) (L : List (View.Piece (Elt Ideal) (Mat A B) e)) (p : Fin A) (q : Fin B) (v : Elt Ideal e)
    (hit : ∀ (x0 : Fin s0) (x1 : Fin s1), p.val = o0 + x0.val → q.val = o1 + x1.val → w (ix2 x0 x1) = v)
    (miss : ¬(o0 ≤ p.val ∧ p.val < o0 + s0 ∧ o1 ≤ q.val ∧ q.val < o1 + s1) → View.canon L (ix2 p q) = v) :
    View.canon (⟨Rect.unit ![o0, o1] ![s0, s1] inb, w⟩ :: L) (ix2 p q) = v := by
  by_cases h : o0 ≤ p.val ∧ p.val < o0 + s0 ∧ o1 ≤ q.val ∧ q.val < o1 + s1
  · obtain ⟨h1, h2, h3, h4⟩ := h
    have e : (ix2 p q : (Mat A B).Idx) = (Rect.unit ![o0, o1] ![s0, s1] inb).emb (ix2 ⟨p.val - o0, by omega⟩ ⟨q.val - o1, by omega⟩) :=
      funext fun a => Fin.ext (by
        rw [Rect.emb_apply]
        match a with
        | ⟨0, _⟩ => show p.val = o0 + 1 * (p.val - o0); omega
        | ⟨1, _⟩ => show q.val = o1 + 1 * (q.val - o1); omega)
    rw [e]
    refine (View.canon_cons_emb (Rect.unit ![o0, o1] ![s0, s1] inb) w L _).trans ?_
    exact hit ⟨p.val - o0, by omega⟩ ⟨q.val - o1, by omega⟩ (by simp only []; omega) (by simp only []; omega)
  · rw [View.canon_cons_of_not_mem _ _ (fun hm => h ?_)]
    · exact miss h
    · have hm' := (Rect.mem_set_unit (inb := inb) (i := (ix2 p q : (Mat A B).Idx))).mp hm
      exact ⟨(hm' 0).1, (hm' 0).2, (hm' 1).1, (hm' 1).2⟩

/-- A load through a rectangle of stored pieces, at an entry. -/
theorem load_at {A B o0 o1 s0 s1 : Nat} {e : EltTy} {sig' : RefSig} {κ : Kind} {sp : Space} (v : View sig' κ sp (Mat A B) e)
    (L : List (View.Piece (Elt Ideal) (Mat A B) e)) (inb : ∀ a, (![o0, o1] : Fin 2 → Nat) a + (![s0, s1] : Fin 2 → Nat) a ≤ (Mat A B).size a)
    (x0 : Fin s0) (x1 : Fin s1) (p : Fin A) (q : Fin B) (hp : p.val = o0 + x0.val) (hq : q.val = o1 + x1.val) :
    v.readCov L (Rect.unit (s := Mat A B) ![o0, o1] ![s0, s1] inb).toLoadRect (ix2 x0 x1) = View.canon L (ix2 p q) := by
  rw [View.readCov_eq_canon']
  refine congrArg (View.canon L) (funext fun a => Fin.ext ?_)
  refine (Rect.idx_unit_val _ _ inb _ a).trans ?_
  match a with
  | ⟨0, _⟩ => exact hp.symm
  | ⟨1, _⟩ => exact hq.symm

/-! ## One row -/

/-- The sum of a sequence's entries `p, p - 1, …, p - n`. -/
def back (f : ℕ → EReal) (p : ℕ) : ℕ → EReal
  | 0 => f p
  | n + 1 => back f p n + f (p - (n + 1))

theorem back_congr (f g : ℕ → EReal) (p q : ℕ) (n : ℕ) (h : ∀ k ≤ n, f (p - k) = g (q - k)) : back f p n = back g q n := by
  induction n with
  | zero => exact h 0 le_rfl
  | succ n ih => exact congrArg₂ (· + ·) (ih fun k hk => h k (by omega)) (h (n + 1) le_rfl)

/-- A sum of a sequence's entry and the one `d` before it. -/
def dbl (f : ℕ → EReal) (d p : ℕ) : EReal := f p + f (p - d)

theorem dbl_2 (f : ℕ → EReal) (p : ℕ) : dbl f 1 p = back f p 1 := rfl

theorem dbl_4 (f : ℕ → EReal) (p : ℕ) : dbl (dbl f 1) 2 p = back f p 3 := by
  simp only [dbl, back, Nat.sub_sub, add_assoc, Nat.reduceAdd]

theorem dbl_8 (f : ℕ → EReal) (p : ℕ) : dbl (dbl (dbl f 1) 2) 4 p = back f p 7 := by
  simp only [dbl, back, Nat.sub_sub, add_assoc, Nat.reduceAdd]

theorem dbl_16 (f : ℕ → EReal) (p : ℕ) : dbl (dbl (dbl (dbl f 1) 2) 4) 8 p = back f p 15 := by
  simp only [dbl, back, Nat.sub_sub, add_assoc, Nat.reduceAdd]

/-- The number of rows averaged at position `n` under a window of `w`, as the program's words compute it. -/
def cnt (n : ℕ) (w : BitVec 32) : EReal := FloatOps.sitofp (F := Ideal) .f32 (IntOp.minsi (IntOp.addi (BitVec.ofNat 32 n) 1#32) w)

/-- A group's window, and the number of earlier rows it reaches. -/
def win (g : ℕ) : BitVec 32 := BitVec.ofNat 32 (2 * 2 ^ g)
def reach (g : ℕ) : ℕ := 2 * 2 ^ g - 1

/-- The column of a group. -/
def gcol (g : Fin 4) (l : Fin 256) : Fin 1024 := ⟨256 * g.val + l.val, by have := g.isLt; have := l.isLt; omega⟩

/-- A group's product at row `p` of a sequence of rows, which lies at position `n`. -/
def grp (f : ℕ → Fin 1024 → EReal) (n p : ℕ) (W : Fin 256 → Fin 256 → EReal) (g : Fin 4) (q : Fin 256) : EReal :=
  ∑ l : Fin 256, (Ideal.div (back (fun p => f p (gcol g l)) p (reach g)) (cnt n (win g)) - f p (gcol g l)) * W l q

/-- The group and the lane of a column. -/
def gof (j : Fin 1024) : Fin 4 := ⟨j.val / 256, by have := j.isLt; omega⟩
def lof (j : Fin 1024) : Fin 256 := ⟨j.val % 256, Nat.mod_lt _ (by omega)⟩

/-- The mixer's residual sum on a row. -/
def mix (x : Fin 1024 → EReal) (f : ℕ → Fin 1024 → EReal) (n p : ℕ) (W : Fin 4 → Fin 256 → Fin 256 → EReal) (ps g : Fin 1024 → EReal)
    (j : Fin 1024) : EReal :=
  x j + rms (fun j => grp f n p (W (gof j)) (gof j) (lof j) * ps j) g j

/-! ## The kernel's vector forms -/

/-- A group's product of a block's window sums. -/
def grpV (tot : Vec Ideal S256x256 .f32) (pos : IVec S256x1 32) (w : BitVec 32) (hb : FVec Ideal S256x1024 .f32) (o : ℕ)
    (hsl : S256x1024.Slices ![0, o] S256x256) (W : Vec Ideal S1x256x256 .bf16) : FVec Ideal S256x256 .f32 :=
  matmul (φ₁ := .bf16) (φ₂ := .bf16) (DotDims.plain 256 256 256) none
    (truncf .bf16 (subf (divf tot (broadcastTo S256x256 (sitofp .f32 (minsi (addi pos (broadcast S256x1 1#32)) (broadcast S256x1 w))) broadcasts_S256x1_S256x256))
      (extractStridedSlice S256x256 ![0, o] hb hsl)) bitsLt_bf16_f32)
    (shapeCast S256x256 W shapeCasts_S1x256x256_S256x256) (constant S256x256 .f32 0x00000000#32)

theorem grpV_apply (tot : Vec Ideal S256x256 .f32) (pos : IVec S256x1 32) (w : BitVec 32) (hb : FVec Ideal S256x1024 .f32) (o : ℕ)
    (hsl : S256x1024.Slices ![0, o] S256x256) (W : Vec Ideal S1x256x256 .bf16) (g : Fin 4) (hg : o = 256 * g.val) (r q : Fin 256)
    (n : ℕ) (hn : pos (ix2 r 0) = BitVec.ofNat 32 n) :
    grpV tot pos w hb o hsl W (ix2 r q) = ∑ l : Fin 256, (Ideal.div (tot (ix2 r l)) (cnt n w) - hb (ix2 r (gcol g l))) * W (ix3 0 l q) := by
  subst hg
  unfold grpV
  rw [plain_apply]
  refine Finset.sum_congr rfl fun l _ => ?_
  have e1 : extractStridedSlice S256x256 ![0, 256 * g.val] hb hsl (ix2 r l) = hb (ix2 r (gcol g l)) :=
    extractStridedSlice_apply _ hb hsl _ _ (fun a => by
      match a with
      | ⟨0, _⟩ => show r.val = 0 + r.val; omega
      | ⟨1, _⟩ => rfl)
  have e2 : shapeCast S256x256 W shapeCasts_S1x256x256_S256x256 (ix2 l q) = W (ix3 0 l q) := by pointwise
  have e3 : broadcastTo S256x256 (sitofp (F := Ideal) .f32 (minsi (addi pos (broadcast S256x1 1#32)) (broadcast S256x1 w))) broadcasts_S256x1_S256x256 (ix2 r l)
      = cnt n w := by
    pointwise
    rw [hn]
    rfl
  rw [e2, truncf_apply, subf_apply, divf_apply, e1, e3]
  rfl

/-- The residual sum of a block from its four group products. -/
def poolV (x : FVec Ideal S256x1024 .f32) (v0 v1 v2 v3 : FVec Ideal S256x256 .f32) (ps g : Vec Ideal S1x1024 .f32) : FVec Ideal S256x1024 .f32 :=
  addf x (rmsV (mulf (concatenate S256x1024 1 [⟨S256x256, v0⟩, ⟨S256x256, v1⟩, ⟨S256x256, v2⟩, ⟨S256x256, v3⟩] concatenates_S256x256_S256x256_S256x256_S256x256_S256x1024_d1)
      (broadcastTo S256x1024 (shapeCast S1x1024 ps shapeCasts_S1x1024_S1x1024) broadcasts_S1x1024_S256x1024))
    (shapeCast S1x1024 g shapeCasts_S1x1024_S1x1024) reduces_S256x1024_S256 shapeCasts_S256_S256x1 broadcasts_S256x1_S256x1024 broadcasts_S1x1024_S256x1024)

theorem cat_apply (v : Fin 4 → FVec Ideal S256x256 .f32) (r : Fin 256) (j : Fin 1024) :
    concatenate S256x1024 1 [⟨S256x256, v 0⟩, ⟨S256x256, v 1⟩, ⟨S256x256, v 2⟩, ⟨S256x256, v 3⟩] concatenates_S256x256_S256x256_S256x256_S256x256_S256x1024_d1 (ix2 r j)
      = v (gof j) (ix2 r (lof j)) := by
  refine concatenate_ofFn_apply (t := S256x1024) (s₁ := S256x256) 1 v _ rfl 256 rfl (ix2 r j) (gof j) rfl (ix2 r (lof j)) rfl (fun b hb => ?_)
  match b with
  | ⟨0, _⟩ => rfl
  | ⟨1, _⟩ => exact absurd rfl hb

theorem poolV_apply (x : FVec Ideal S256x1024 .f32) (v : Fin 4 → FVec Ideal S256x256 .f32) (ps g : Vec Ideal S1x1024 .f32) (r : Fin 256) (j : Fin 1024) :
    poolV x (v 0) (v 1) (v 2) (v 3) ps g (ix2 r j)
      = x (ix2 r j) + rms (fun j => v (gof j) (ix2 r (lof j)) * ps (ix2 0 j)) (fun j => g (ix2 0 j)) j := by
  unfold poolV
  rw [addf_apply, rmsV_apply, shapeCast_self, shapeCast_self]
  refine congrArg (fun f : Fin 1024 → EReal => (x (ix2 r j) : EReal) + rms f (fun j => g (ix2 0 j)) j) (funext fun j => ?_)
  rw [mulf_apply, cat_apply, gain_apply]
  rfl

/-! ## The scratch buffers of a block -/

abbrev Pcs := List (View.Piece (Elt Ideal) S288x1024 .f32)

/-- The normed rows of a block under the 32 rows before them. -/
def rows16 (halo : FVec Ideal S32x1024 .f32) (hn : FVec Ideal S256x1024 .f32) (L : Pcs) : Pcs :=
  ⟨Rect.unit ![32, 0] ![256, 1024] inb_S288x1024_S256x1024_32_0, shapeCast S256x1024 hn shapeCasts_S256x1024_S256x1024⟩
    :: ⟨Rect.unit ![0, 0] ![32, 1024] inb_S288x1024_S32x1024_0_0, shapeCast S32x1024 halo shapeCasts_S32x1024_S32x1024⟩ :: L

theorem rows16_at (halo : FVec Ideal S32x1024 .f32) (hn : FVec Ideal S256x1024 .f32) (L : Pcs) (f : ℕ → Fin 1024 → EReal)
    (h0 : ∀ r j, halo (ix2 r j) = f r.val j) (h1 : ∀ r j, hn (ix2 r j) = f (32 + r.val) j) (p : Fin 288) (j : Fin 1024) :
    View.canon (rows16 halo hn L) (ix2 p j) = f p.val j := by
  have hp := p.isLt
  have hj := j.isLt
  unfold rows16
  rw [shapeCast_self, shapeCast_self]
  refine peel _ _ _ _ _ _ (fun u0 u1 g0 g1 => ?_) (fun n0 => ?_)
  · obtain rfl : u1 = j := Fin.ext (by omega)
    rw [h1, g0]
  · refine peel _ _ _ _ _ _ (fun u0 u1 g0 g1 => ?_) (fun n1 => ?_)
    · obtain rfl : u1 = j := Fin.ext (by omega)
      rw [h0, g0, Nat.zero_add]
    · exfalso; omega

/-- A stored sum of a loaded rectangle and the one `d` rows above it. -/
def pairP (o0 o1 s0 s1 d : ℕ) (v : View sig .tc .vmem S288x1024 .f32) (L : Pcs)
    (inb : ∀ a, (![o0, o1] : Fin 2 → Nat) a + (![s0, s1] : Fin 2 → Nat) a ≤ S288x1024.size a)
    (inb' : ∀ a, (![o0 - d, o1] : Fin 2 → Nat) a + (![s0, s1] : Fin 2 → Nat) a ≤ S288x1024.size a)
    (hs : (Mat s0 s1).ShapeCasts (Mat s0 s1)) : View.Piece (Elt Ideal) S288x1024 .f32 :=
  ⟨Rect.unit ![o0, o1] ![s0, s1] inb, shapeCast (Mat s0 s1) (addf (F := Ideal) (φ := .f32)
    (v.readCov L (Rect.unit (s := S288x1024) ![o0, o1] ![s0, s1] inb).toLoadRect) (v.readCov L (Rect.unit (s := S288x1024) ![o0 - d, o1] ![s0, s1] inb').toLoadRect)) hs⟩

theorem pairP_at {o0 o1 s0 s1 d : ℕ} (v : View sig .tc .vmem S288x1024 .f32) (L : Pcs) (inb) (inb') (hs) (T : Pcs)
    (f : ℕ → Fin 1024 → EReal) (lo lo1 : ℕ) (hd : d ≤ o0) (hlo : lo + d ≤ o0) (hlo1 : lo1 ≤ o1) (hL : ∀ (p : Fin 288) (j : Fin 1024), lo ≤ p.val → lo1 ≤ j.val → View.canon L (ix2 p j) = f p.val j)
    (e0 : o0 + s0 = 288) (e1 : o1 + s1 = 1024) (p : Fin 288) (j : Fin 1024) (hp : o0 ≤ p.val) (hj : o1 ≤ j.val) :
    View.canon (pairP o0 o1 s0 s1 d v L inb inb' hs :: T) (ix2 p j) = dbl (fun p => f p j) d p.val := by
  have hp' := p.isLt
  have hj' := j.isLt
  unfold pairP
  refine peel _ _ _ _ _ _ (fun u0 u1 g0 g1 => ?_) (fun n0 => by exfalso; omega)
  refine (congrFun (shapeCast_self (s := Mat s0 s1) _ hs) (ix2 u0 u1)).trans ?_
  refine congrArg₂ (fun a b : EReal => a + b) ?_ ?_
  · rw [load_at v L inb u0 u1 p j g0 g1]
    exact hL p j (by omega) (by omega)
  · have hq : p.val - d < 288 := by omega
    rw [load_at v L inb' u0 u1 ⟨p.val - d, hq⟩ j (by show p.val - d = o0 - d + u0.val; omega) g1]
    exact hL _ j (by show lo ≤ p.val - d; omega) (by omega)

theorem pairP_off {o0 o1 s0 s1 d : ℕ} (v : View sig .tc .vmem S288x1024 .f32) (L : Pcs) (inb) (inb') (hs) (T : Pcs)
    (p : Fin 288) (j : Fin 1024) (hj : j.val < o1) :
    View.canon (pairP o0 o1 s0 s1 d v L inb inb' hs :: T) (ix2 p j) = View.canon T (ix2 p j) := by
  unfold pairP
  exact peel _ _ _ _ _ _ (fun u0 u1 g0 g1 => by exfalso; omega) (fun _ => rfl)

variable (v16 v17 v18 : View sig .tc .vmem S288x1024 .f32) (L16 L17 L18 : Pcs)
  (halo : FVec Ideal S32x1024 .f32) (hn : FVec Ideal S256x1024 .f32)

/-- Pairs of rows. -/
def sum2 : Pcs := pairP 8 0 280 1024 1 v16 (rows16 halo hn L16) inb_S288x1024_S280x1024_8_0 inb_S288x1024_S280x1024_7_0 shapeCasts_S280x1024_S280x1024 :: L17
/-- Fours, in the last three groups' columns. -/
def sum4 : Pcs := pairP 16 256 272 768 2 v17 (sum2 v16 L16 L17 halo hn) inb_S288x1024_S272x768_16_256 inb_S288x1024_S272x768_14_256 shapeCasts_S272x768_S272x768 :: L18
/-- Eights, in the last two groups' columns, over the pairs. -/
def sum8 : Pcs := pairP 24 512 264 512 4 v18 (sum4 v16 v17 L16 L17 L18 halo hn) inb_S288x1024_S264x512_24_512 inb_S288x1024_S264x512_20_512 shapeCasts_S264x512_S264x512 :: sum2 v16 L16 L17 halo hn

/-- The four groups' window sums of the block. -/
def tot0 : Vec Ideal S256x256 .f32 := v17.readCov (sum8 v16 v17 v18 L16 L17 L18 halo hn) (Rect.unit (s := S288x1024) ![32, 0] ![256, 256] inb_S288x1024_S256x256_32_0).toLoadRect
def tot1 : Vec Ideal S256x256 .f32 := v18.readCov (sum4 v16 v17 L16 L17 L18 halo hn) (Rect.unit (s := S288x1024) ![32, 256] ![256, 256] inb_S288x1024_S256x256_32_256).toLoadRect
def tot2 : Vec Ideal S256x256 .f32 := v17.readCov (sum8 v16 v17 v18 L16 L17 L18 halo hn) (Rect.unit (s := S288x1024) ![32, 512] ![256, 256] inb_S288x1024_S256x256_32_512).toLoadRect
def tot3 : Vec Ideal S256x256 .f32 := addf (F := Ideal) (φ := .f32)
  (v17.readCov (sum8 v16 v17 v18 L16 L17 L18 halo hn) (Rect.unit (s := S288x1024) ![32, 768] ![256, 256] inb_S288x1024_S256x256_32_768).toLoadRect)
  (v17.readCov (sum8 v16 v17 v18 L16 L17 L18 halo hn) (Rect.unit (s := S288x1024) ![24, 768] ![256, 256] inb_S288x1024_S256x256_24_768).toLoadRect)

section Values

variable (f : ℕ → Fin 1024 → EReal) (h0 : ∀ r j, halo (ix2 r j) = f r.val j) (h1 : ∀ r j, hn (ix2 r j) = f (32 + r.val) j)
include h0 h1

theorem sum2_at (p : Fin 288) (j : Fin 1024) (hp : 8 ≤ p.val) (hj : 0 ≤ j.val) :
    View.canon (sum2 v16 L16 L17 halo hn) (ix2 p j) = dbl (fun p => f p j) 1 p.val := by
  unfold sum2
  exact pairP_at v16 _ _ _ _ _ f 0 0 (by omega) (by omega) (by omega) (fun p j _ _ => rows16_at halo hn L16 f h0 h1 p j) (by omega) (by omega) p j hp (by omega)

theorem sum4_at (p : Fin 288) (j : Fin 1024) (hp : 16 ≤ p.val) (hj : 256 ≤ j.val) :
    View.canon (sum4 v16 v17 L16 L17 L18 halo hn) (ix2 p j) = dbl (dbl (fun p => f p j) 1) 2 p.val := by
  unfold sum4
  exact pairP_at v17 _ _ _ _ _ (fun p j => dbl (fun p => f p j) 1 p) 8 0 (by omega) (by omega) (by omega) (sum2_at v16 L16 L17 halo hn f h0 h1) (by omega) (by omega) p j hp hj

theorem sum8_at (p : Fin 288) (j : Fin 1024) (hp : 24 ≤ p.val) (hj : 512 ≤ j.val) :
    View.canon (sum8 v16 v17 v18 L16 L17 L18 halo hn) (ix2 p j) = dbl (dbl (dbl (fun p => f p j) 1) 2) 4 p.val := by
  unfold sum8
  exact pairP_at v18 _ _ _ _ _ (fun p j => dbl (dbl (fun p => f p j) 1) 2 p) 16 256 (by omega) (by omega) (by omega) (sum4_at v16 v17 L16 L17 L18 halo hn f h0 h1) (by omega) (by omega) p j hp hj

theorem sum8_low (p : Fin 288) (j : Fin 1024) (hp : 8 ≤ p.val) (hj : j.val < 512) :
    View.canon (sum8 v16 v17 v18 L16 L17 L18 halo hn) (ix2 p j) = dbl (fun p => f p j) 1 p.val := by
  unfold sum8
  rw [pairP_off _ _ _ _ _ _ p j hj]
  exact sum2_at v16 L16 L17 halo hn f h0 h1 p j hp (by omega)

theorem tot0_at (r l : Fin 256) : tot0 v16 v17 v18 L16 L17 L18 halo hn (ix2 r l) = back (fun p => f p (gcol 0 l)) (32 + r.val) 1 := by
  have hr := r.isLt
  have hl := l.isLt
  unfold tot0
  rw [load_at _ _ _ r l ⟨32 + r.val, by omega⟩ (gcol 0 l) rfl (by show 256 * 0 + l.val = 0 + l.val; omega),
    sum8_low v16 v17 v18 L16 L17 L18 halo hn f h0 h1 _ _ (by show 8 ≤ 32 + r.val; omega) (by show 256 * 0 + l.val < 512; omega), dbl_2]

theorem tot1_at (r l : Fin 256) : tot1 v16 v17 v18 L16 L17 L18 halo hn (ix2 r l) = back (fun p => f p (gcol 1 l)) (32 + r.val) 3 := by
  have hr := r.isLt
  have hl := l.isLt
  unfold tot1
  rw [load_at _ _ _ r l ⟨32 + r.val, by omega⟩ (gcol 1 l) rfl (by show 256 * 1 + l.val = 256 + l.val; omega),
    sum4_at v16 v17 L16 L17 L18 halo hn f h0 h1 _ _ (by show 16 ≤ 32 + r.val; omega) (by show 256 ≤ 256 * 1 + l.val; omega), dbl_4]

theorem tot2_at (r l : Fin 256) : tot2 v16 v17 v18 L16 L17 L18 halo hn (ix2 r l) = back (fun p => f p (gcol 2 l)) (32 + r.val) 7 := by
  have hr := r.isLt
  have hl := l.isLt
  unfold tot2
  rw [load_at _ _ _ r l ⟨32 + r.val, by omega⟩ (gcol 2 l) rfl (by show 256 * 2 + l.val = 512 + l.val; omega),
    sum8_at v16 v17 v18 L16 L17 L18 halo hn f h0 h1 _ _ (by show 24 ≤ 32 + r.val; omega) (by show 512 ≤ 256 * 2 + l.val; omega), dbl_8]

theorem tot3_at (r l : Fin 256) : tot3 v16 v17 v18 L16 L17 L18 halo hn (ix2 r l) = back (fun p => f p (gcol 3 l)) (32 + r.val) 15 := by
  have hr := r.isLt
  have hl := l.isLt
  unfold tot3
  rw [addf_apply, load_at _ _ _ r l ⟨32 + r.val, by omega⟩ (gcol 3 l) rfl (by show 256 * 3 + l.val = 768 + l.val; omega),
    load_at _ _ _ r l ⟨24 + r.val, by omega⟩ (gcol 3 l) rfl (by show 256 * 3 + l.val = 768 + l.val; omega),
    sum8_at v16 v17 v18 L16 L17 L18 halo hn f h0 h1 _ _ (by show 24 ≤ 32 + r.val; omega) (by show 512 ≤ 256 * 3 + l.val; omega),
    sum8_at v16 v17 v18 L16 L17 L18 halo hn f h0 h1 _ _ (by show 24 ≤ 24 + r.val; omega) (by show 512 ≤ 256 * 3 + l.val; omega), ← dbl_16]
  show _ = _ + dbl (dbl (dbl _ 1) 2) 4 (32 + r.val - 8)
  rw [show 32 + r.val - 8 = 24 + r.val by omega]
  rfl

end Values

/-! ## A block's residual sum -/

/-- The block: its rows `x`, their norms `hn` with the 32 rows before them, the rows' positions, the groups' weights and the two gains. -/
def blockV (pos : IVec S256x1 32) (x : FVec Ideal S256x1024 .f32) (W0 W1 W2 W3 : Vec Ideal S1x256x256 .bf16) (ps g : Vec Ideal S1x1024 .f32) :
    FVec Ideal S256x1024 .f32 :=
  poolV x
    (grpV (tot0 v16 v17 v18 L16 L17 L18 halo hn) pos 2#32 hn 0 slices_S256x1024_o0_0_S256x256 W0)
    (grpV (tot1 v16 v17 v18 L16 L17 L18 halo hn) pos 4#32 hn 256 slices_S256x1024_o0_256_S256x256 W1)
    (grpV (tot2 v16 v17 v18 L16 L17 L18 halo hn) pos 8#32 hn 512 slices_S256x1024_o0_512_S256x256 W2)
    (grpV (tot3 v16 v17 v18 L16 L17 L18 halo hn) pos 16#32 hn 768 slices_S256x1024_o0_768_S256x256 W3) ps g

theorem blockV_apply (pos : IVec S256x1 32) (x : FVec Ideal S256x1024 .f32) (W0 W1 W2 W3 : Vec Ideal S1x256x256 .bf16) (ps g : Vec Ideal S1x1024 .f32)
    (f : ℕ → Fin 1024 → EReal) (h0 : ∀ r j, halo (ix2 r j) = f r.val j) (h1 : ∀ r j, hn (ix2 r j) = f (32 + r.val) j)
    (W : Fin 4 → Fin 256 → Fin 256 → EReal) (hW0 : ∀ l q, W0 (ix3 0 l q) = W 0 l q) (hW1 : ∀ l q, W1 (ix3 0 l q) = W 1 l q)
    (hW2 : ∀ l q, W2 (ix3 0 l q) = W 2 l q) (hW3 : ∀ l q, W3 (ix3 0 l q) = W 3 l q)
    (n : ℕ) (r : Fin 256) (hpos : pos (ix2 r 0) = BitVec.ofNat 32 n) (j : Fin 1024) :
    blockV v16 v17 v18 L16 L17 L18 halo hn pos x W0 W1 W2 W3 ps g (ix2 r j)
      = mix (fun j => x (ix2 r j)) f n (32 + r.val) W (fun j => ps (ix2 0 j)) (fun j => g (ix2 0 j)) j := by
  unfold blockV mix
  refine (poolV_apply x ![_, _, _, _] ps g r j).trans ?_
  refine congrArg (fun f : Fin 1024 → EReal => (x (ix2 r j) : EReal) + rms f (fun j => g (ix2 0 j)) j) (funext fun j => ?_)
  refine congrArg (fun z : EReal => z * (ps (ix2 0 j) : EReal)) ?_
  generalize gof j = k
  generalize lof j = q
  unfold grp
  match k with
  | ⟨0, _⟩ =>
    show grpV (tot0 v16 v17 v18 L16 L17 L18 halo hn) pos 2#32 hn 0 slices_S256x1024_o0_0_S256x256 W0 (ix2 r q) = _
    refine (grpV_apply _ pos _ hn _ _ W0 0 rfl r q n hpos).trans (Finset.sum_congr rfl fun l _ => ?_)
    rw [tot0_at v16 v17 v18 L16 L17 L18 halo hn f h0 h1, h1, hW0]
    rfl
  | ⟨1, _⟩ =>
    show grpV (tot1 v16 v17 v18 L16 L17 L18 halo hn) pos 4#32 hn 256 slices_S256x1024_o0_256_S256x256 W1 (ix2 r q) = _
    refine (grpV_apply _ pos _ hn _ _ W1 1 rfl r q n hpos).trans (Finset.sum_congr rfl fun l _ => ?_)
    rw [tot1_at v16 v17 v18 L16 L17 L18 halo hn f h0 h1, h1, hW1]
    rfl
  | ⟨2, _⟩ =>
    show grpV (tot2 v16 v17 v18 L16 L17 L18 halo hn) pos 8#32 hn 512 slices_S256x1024_o0_512_S256x256 W2 (ix2 r q) = _
    refine (grpV_apply _ pos _ hn _ _ W2 2 rfl r q n hpos).trans (Finset.sum_congr rfl fun l _ => ?_)
    rw [tot2_at v16 v17 v18 L16 L17 L18 halo hn f h0 h1, h1, hW2]
    rfl
  | ⟨3, _⟩ =>
    show grpV (tot3 v16 v17 v18 L16 L17 L18 halo hn) pos 16#32 hn 768 slices_S256x1024_o0_768_S256x256 W3 (ix2 r q) = _
    refine (grpV_apply _ pos _ hn _ _ W3 3 rfl r q n hpos).trans (Finset.sum_congr rfl fun l _ => ?_)
    rw [tot3_at v16 v17 v18 L16 L17 L18 halo hn f h0 h1, h1, hW3]
    rfl

/-! ## A batch -/

/-- The normed rows of a batch, after 32 rows of zeros. -/
def seq (X : Fin 2048 → Fin 1024 → EReal) (g : Fin 1024 → EReal) (p : ℕ) (j : Fin 1024) : EReal :=
  if h : 32 ≤ p ∧ p < 2080 then rms (X ⟨p - 32, by omega⟩) g j else 0

theorem seq_in (X : Fin 2048 → Fin 1024 → EReal) (g : Fin 1024 → EReal) (n : Fin 2048) (p : ℕ) (hp : p = 32 + n.val) (j : Fin 1024) :
    seq X g p j = rms (X n) g j := by
  have := n.isLt
  have e : (⟨p - 32, by omega⟩ : Fin 2048) = n := Fin.ext (show p - 32 = n.val by omega)
  unfold seq
  rw [dif_pos ⟨by omega, by omega⟩, e]

theorem seq_before (X : Fin 2048 → Fin 1024 → EReal) (g : Fin 1024 → EReal) (p : ℕ) (hp : p < 32) (j : Fin 1024) : seq X g p j = 0 := by
  unfold seq
  rw [dif_neg (by omega)]

/-- A prompt row after the pooling mixer and its residual sum. -/
def mixed (X : Fin 2048 → Fin 1024 → EReal) (g2 g3 : Fin 1024 → EReal) (W : Fin 4 → Fin 256 → Fin 256 → EReal) (ps : Fin 1024 → EReal)
    (n : Fin 2048) (j : Fin 1024) : EReal :=
  mix (X n) (seq X g2) n.val (32 + n.val) W ps g3 j

theorem mix_shift (x : Fin 1024 → EReal) (f T : ℕ → Fin 1024 → EReal) (n p q : ℕ) (W : Fin 4 → Fin 256 → Fin 256 → EReal) (ps g : Fin 1024 → EReal)
    (h : ∀ k ≤ 15, ∀ j, f (p - k) j = T (q - k) j) (j : Fin 1024) : mix x f n p W ps g j = mix x T n q W ps g j := by
  have hr : ∀ c : Fin 4, reach c.val ≤ 15 := by decide
  have e : ∀ c l, grp f n p (W c) c l = grp T n q (W c) c l := fun c l => Finset.sum_congr rfl fun m _ => by
    rw [back_congr (fun p => f p (gcol c m)) (fun p => T p (gcol c m)) p q _ fun k hk => h k (hk.trans (hr c)) _]
    have := h 0 (by omega) (gcol c m)
    simp only [Nat.sub_zero] at this
    rw [this]
  unfold mix
  simp only [e]

end Cert.Pool
-- ==== Proof.PoolTile.lean ====
/- The pooling call's body at a grid point: a tile of 256 rows and the 32 rows before it. -/
module

public import proofs.«01_k».proof.Proof.PoolBlock
public import proofs.«01_k».proof.Proof.Gen.Kernel4Ideal.Value
public import Idealize.ShloMosaic.Lib.Pipeline.ValueKit

@[expose] public section

set_option maxRecDepth 16384

noncomputable section

namespace Cert.Pool

open Cert.Kernel4Ideal.Facts Cert.Ffn
open Idealize.ShloMosaic Cert.Kernel4Ideal Cert.Kernel4Ideal.Gen Idealize.ShloMosaic.TcCoe Idealize.SL.Sem

/-! ## The parts' meaning -/

/-- The norms of the 32 rows before a tile, zero before the first tile of a sequence. -/
def haloV (i : grid0.Coords) (y : Vec Ideal S1x32x1024 .f32) (g : Vec Ideal S1x1024 .f32) : FVec Ideal S32x1024 .f32 :=
  Scalar.select (Scalar.cmpi .eq (BitVec.ofNat 32 (i 1).val) 0#32) (broadcast S32x1024 (Scalar.ofBits (F := Ideal) .f32 0x00000000#32))
    (rmsV (shapeCast S32x1024 y shapeCasts_S1x32x1024_S32x1024) (shapeCast S1x1024 g shapeCasts_S1x1024_S1x1024)
      reduces_S32x1024_S32 shapeCasts_S32_S32x1 broadcasts_S32x1_S32x1024 broadcasts_S1x1024_S32x1024)

/-- A tile's normed rows under the 32 normed rows before the tile, which are zero before the first tile of a sequence. -/
def tileRows (first : Prop) [Decidable first] (y : Vec Ideal S1x32x1024 .f32) (x : Vec Ideal S1x256x1024 .f32) (g : Fin 1024 → EReal) (q : ℕ) (j : Fin 1024) : EReal :=
  if h : q < 32 then (if first then 0 else rms (fun k => y (ix3 0 ⟨q, h⟩ k)) g j)
  else if h' : q - 32 < 256 then rms (fun k => x (ix3 0 ⟨q - 32, h'⟩ k)) g j else 0

theorem first_word : ∀ i : Fin 8, Scalar.cmpi .eq (BitVec.ofNat 32 i.val) 0#32 = if i.val = 0 then 1#1 else 0#1 := by decide +kernel

theorem pos_word (n r : ℕ) :
    IntOp.addi (Scalar.addi 0#32 (Scalar.muli (BitVec.ofNat 32 n) 256#32)) (BitVec.ofNat 32 r) = BitVec.ofNat 32 (256 * n + r) := by
  show 0#32 + BitVec.ofNat 32 n * BitVec.ofNat 32 256 + BitVec.ofNat 32 r = _
  rw [BitVec.zero_add, ← BitVec.ofNat_mul, ← BitVec.ofNat_add, mul_comm]

theorem row_iota (r : Fin 256) : iota .tc S256x1 32 [0] iota_S256x1_d0_w32 (ix2 r 0) = BitVec.ofNat 32 r.val := by pointwise

theorem pos_at (n : ℕ) (r : Fin 256) : k0_pay11 (BitVec.ofNat 32 n) (ix2 r 0) = BitVec.ofNat 32 (256 * n + r.val) := by
  rw [← pos_word n r.val, ← row_iota r]
  rfl

theorem flat_at (x : Vec Ideal S1x256x1024 .f32) (r : Fin 256) (j : Fin 1024) : k0_pay2 x (ix2 r j) = x (ix3 0 r j) := by
  unfold k0_pay2
  pointwise

theorem flat32_at (y : Vec Ideal S1x32x1024 .f32) (r : Fin 32) (j : Fin 1024) :
    shapeCast S32x1024 y shapeCasts_S1x32x1024_S32x1024 (ix2 r j) = y (ix3 0 r j) := by pointwise

theorem norm_at (x : Vec Ideal S1x256x1024 .f32) (g : Vec Ideal S1x1024 .f32) (r : Fin 256) (j : Fin 1024) :
    k0_pay3 x g (ix2 r j) = rms (fun k => x (ix3 0 r k)) (fun k => g (ix2 0 k)) j := by
  rw [show k0_pay3 x g = rmsV (k0_pay2 x) (shapeCast S1x1024 g shapeCasts_S1x1024_S1x1024)
    reduces_S256x1024_S256 shapeCasts_S256_S256x1 broadcasts_S256x1_S256x1024 broadcasts_S1x1024_S256x1024 from rfl, rmsV_apply, shapeCast_self]
  exact congrArg (fun f : Fin 1024 → EReal => rms f (fun k => g (ix2 0 k)) j) (funext fun k => flat_at x r k)

theorem halo_at (i : grid0.Coords) (y : Vec Ideal S1x32x1024 .f32) (g : Vec Ideal S1x1024 .f32) (r : Fin 32) (j : Fin 1024) :
    haloV i y g (ix2 r j) = if (i 1).val = 0 then 0 else rms (fun k => y (ix3 0 r k)) (fun k => g (ix2 0 k)) j := by
  unfold haloV
  rw [first_word (i 1)]
  by_cases h : (i 1).val = 0
  · rw [if_pos h, if_pos h]
    exact Ideal.ofBits_zero_f32
  · rw [if_neg h, if_neg h]
    exact (rmsV_apply _ _ _ _ _ _ r j).trans (congrArg₂ (fun (f g : Fin 1024 → EReal) => rms f g j)
      (funext fun k => flat32_at y r k) (funext fun k => congrFun (shapeCast_self g _) (ix2 0 k)))

/-! ## The blocks -/

section Blocks

variable (c : Dev nD) (i : grid0.Coords) (a2 : Memref sig .tc .vmem S1x256x1024 .f32) (h2 : a2.IsWhole) (a3 : Memref sig .tc .vmem S1x32x1024 .f32) (h3 : a3.IsWhole) (a4 : Memref sig .tc .vmem S1x1024 .f32) (h4 : a4.IsWhole) (a5 : Memref sig .tc .vmem S1x1024 .f32) (h5 : a5.IsWhole) (a6 : Memref sig .tc .vmem S4x256x256 .bf16) (h6 : a6.IsWhole) (a7 : Memref sig .tc .vmem S1x1024 .f32) (h7 : a7.IsWhole) (a8 : Memref sig .tc .vmem S1x256x1024 .f32) (h8 : a8.IsWhole) (a9 : Memref sig .tc .vmem S1x16x1024 .f32) (h9 : a9.IsWhole) (a10 : Memref sig .tc .vmem S288x1024 .f32) (h10 : a10.IsWhole) (a11 : Memref sig .tc .vmem S288x1024 .f32) (h11 : a11.IsWhole) (a12 : Memref sig .tc .vmem S288x1024 .f32) (h12 : a12.IsWhole)
  (x0 : Vec Ideal S1x256x1024 .f32) (x1 : Vec Ideal S1x32x1024 .f32) (x2 : Vec Ideal S1x1024 .f32) (x3 : Vec Ideal S1x1024 .f32) (x4 : Vec Ideal S4x256x256 .bf16) (x5 : Vec Ideal S1x1024 .f32)

theorem tile_eq : (View.readAt (Elt Ideal) a2.view (Rect.unit (s := S1x256x1024) ![0, 0, 0] S1x256x1024.size inb_S1x256x1024_S1x256x1024_0_0_0).toLoadRect (h2.unread x0)) = x0 := by
  rw [View.readAt_eq_ld, h2.read_unread]
  exact View.ld_unit_lit _ x0 (by decide)

theorem before_eq : (View.readAt (Elt Ideal) a3.view (Rect.unit (s := S1x32x1024) ![0, 0, 0] S1x32x1024.size inb_S1x32x1024_S1x32x1024_0_0_0).toLoadRect (h3.unread x1)) = x1 := by
  rw [View.readAt_eq_ld, h3.read_unread]
  exact View.ld_unit_lit _ x1 (by decide)

theorem gain_eq : (View.readAt (Elt Ideal) a4.view (Rect.unit (s := S1x1024) ![0, 0] S1x1024.size inb_S1x1024_S1x1024_0_0).toLoadRect (h4.unread x2)) = x2 := by
  rw [View.readAt_eq_ld, h4.read_unread]
  exact View.ld_unit_lit _ x2 (by decide)

theorem gain_eq' : (View.readAt (Elt Ideal) a5.view (Rect.unit (s := S1x1024) ![0, 0] S1x1024.size inb_S1x1024_S1x1024_0_0).toLoadRect (h5.unread x3)) = x3 := by
  rw [View.readAt_eq_ld, h5.read_unread]
  exact View.ld_unit_lit _ x3 (by decide)

theorem scale_eq : (View.readAt (Elt Ideal) a7.view (Rect.unit (s := S1x1024) ![0, 0] S1x1024.size inb_S1x1024_S1x1024_0_0).toLoadRect (h7.unread x5)) = x5 := by
  rw [View.readAt_eq_ld, h7.read_unread]
  exact View.ld_unit_lit _ x5 (by decide)

theorem weight0 (l q : Fin 256) : (View.readAt (Elt Ideal) a6.view (Rect.unit (s := S4x256x256) ![0, 0, 0] S1x256x256.size inb_S4x256x256_S1x256x256_0_0_0).toLoadRect (h6.unread x4)) (ix3 0 l q) = x4 (ix3 0 l q) := by
  rw [View.readAt_eq_ld, h6.read_unread]
  exact View.ld_unit_apply_of x4 _ _ _ _ _ (fun a => by
    match a with
    | ⟨0, _⟩ => rfl
    | ⟨1, _⟩ => show l.val = 0 + l.val; omega
    | ⟨2, _⟩ => show q.val = 0 + q.val; omega)

theorem weight1 (l q : Fin 256) : (View.readAt (Elt Ideal) a6.view (Rect.unit (s := S4x256x256) ![1, 0, 0] S1x256x256.size inb_S4x256x256_S1x256x256_1_0_0).toLoadRect (h6.unread x4)) (ix3 0 l q) = x4 (ix3 1 l q) := by
  rw [View.readAt_eq_ld, h6.read_unread]
  exact View.ld_unit_apply_of x4 _ _ _ _ _ (fun a => by
    match a with
    | ⟨0, _⟩ => rfl
    | ⟨1, _⟩ => show l.val = 0 + l.val; omega
    | ⟨2, _⟩ => show q.val = 0 + q.val; omega)

theorem weight2 (l q : Fin 256) : (View.readAt (Elt Ideal) a6.view (Rect.unit (s := S4x256x256) ![2, 0, 0] S1x256x256.size inb_S4x256x256_S1x256x256_2_0_0).toLoadRect (h6.unread x4)) (ix3 0 l q) = x4 (ix3 2 l q) := by
  rw [View.readAt_eq_ld, h6.read_unread]
  exact View.ld_unit_apply_of x4 _ _ _ _ _ (fun a => by
    match a with
    | ⟨0, _⟩ => rfl
    | ⟨1, _⟩ => show l.val = 0 + l.val; omega
    | ⟨2, _⟩ => show q.val = 0 + q.val; omega)

theorem weight3 (l q : Fin 256) : (View.readAt (Elt Ideal) a6.view (Rect.unit (s := S4x256x256) ![3, 0, 0] S1x256x256.size inb_S4x256x256_S1x256x256_3_0_0).toLoadRect (h6.unread x4)) (ix3 0 l q) = x4 (ix3 3 l q) := by
  rw [View.readAt_eq_ld, h6.read_unread]
  exact View.ld_unit_apply_of x4 _ _ _ _ _ (fun a => by
    match a with
    | ⟨0, _⟩ => rfl
    | ⟨1, _⟩ => show l.val = 0 + l.val; omega
    | ⟨2, _⟩ => show q.val = 0 + q.val; omega)

/-- The point's residual sums. -/
def tileV : FVec Ideal S256x1024 .f32 :=
  blockV a10.view a11.view a12.view [] [] [] (haloV i (View.readAt (Elt Ideal) a3.view (Rect.unit (s := S1x32x1024) ![0, 0, 0] S1x32x1024.size inb_S1x32x1024_S1x32x1024_0_0_0).toLoadRect (h3.unread x1)) (View.readAt (Elt Ideal) a4.view (Rect.unit (s := S1x1024) ![0, 0] S1x1024.size inb_S1x1024_S1x1024_0_0).toLoadRect (h4.unread x2))) (k0_pay3 (View.readAt (Elt Ideal) a2.view (Rect.unit (s := S1x256x1024) ![0, 0, 0] S1x256x1024.size inb_S1x256x1024_S1x256x1024_0_0_0).toLoadRect (h2.unread x0)) (View.readAt (Elt Ideal) a4.view (Rect.unit (s := S1x1024) ![0, 0] S1x1024.size inb_S1x1024_S1x1024_0_0).toLoadRect (h4.unread x2))) (k0_pay11 (BitVec.ofNat 32 (i 1).val)) (k0_pay2 (View.readAt (Elt Ideal) a2.view (Rect.unit (s := S1x256x1024) ![0, 0, 0] S1x256x1024.size inb_S1x256x1024_S1x256x1024_0_0_0).toLoadRect (h2.unread x0))) (View.readAt (Elt Ideal) a6.view (Rect.unit (s := S4x256x256) ![0, 0, 0] S1x256x256.size inb_S4x256x256_S1x256x256_0_0_0).toLoadRect (h6.unread x4)) (View.readAt (Elt Ideal) a6.view (Rect.unit (s := S4x256x256) ![1, 0, 0] S1x256x256.size inb_S4x256x256_S1x256x256_1_0_0).toLoadRect (h6.unread x4)) (View.readAt (Elt Ideal) a6.view (Rect.unit (s := S4x256x256) ![2, 0, 0] S1x256x256.size inb_S4x256x256_S1x256x256_2_0_0).toLoadRect (h6.unread x4)) (View.readAt (Elt Ideal) a6.view (Rect.unit (s := S4x256x256) ![3, 0, 0] S1x256x256.size inb_S4x256x256_S1x256x256_3_0_0).toLoadRect (h6.unread x4)) (View.readAt (Elt Ideal) a7.view (Rect.unit (s := S1x1024) ![0, 0] S1x1024.size inb_S1x1024_S1x1024_0_0).toLoadRect (h7.unread x5)) (View.readAt (Elt Ideal) a5.view (Rect.unit (s := S1x1024) ![0, 0] S1x1024.size inb_S1x1024_S1x1024_0_0).toLoadRect (h5.unread x3))

/-- The residual sum of a tile's row. -/
abbrev tileMix (s : Fin 256) (j : Fin 1024) : EReal :=
  mix (fun k => x0 (ix3 0 s k)) (tileRows ((i 1).val = 0) x1 x0 (fun k => x2 (ix2 0 k))) (256 * (i 1).val + s.val) (32 + s.val)
    (fun g l q => x4 (ix3 g l q)) (fun k => x5 (ix2 0 k)) (fun k => x3 (ix2 0 k)) j

theorem tileV_apply (r : Fin 256) (j : Fin 1024) :
    tileV i a2 h2 a3 h3 a4 h4 a5 h5 a6 h6 a7 h7 a10 a11 a12 x0 x1 x2 x3 x4 x5 (ix2 r j) = tileMix i x0 x1 x2 x3 x4 x5 r j := by
  have hr := r.isLt
  unfold tileV
  refine (blockV_apply _ _ _ _ _ _ _ _ _ _ _ _ _ _ _ _ (tileRows ((i 1).val = 0) x1 x0 (fun k => x2 (ix2 0 k))) (fun r j => ?_) (fun r j => ?_)
    (fun g l q => x4 (ix3 g l q)) (fun l q => weight0 a6 h6 x4 l q) (fun l q => weight1 a6 h6 x4 l q) (fun l q => weight2 a6 h6 x4 l q)
    (fun l q => weight3 a6 h6 x4 l q) _ r (pos_at (i 1).val r) j).trans ?_
  · rw [before_eq, gain_eq, halo_at]
    unfold tileRows
    rw [dif_pos r.isLt]
  · rw [tile_eq, gain_eq, norm_at]
    unfold tileRows
    have hr := r.isLt
    rw [dif_neg (by omega), dif_pos (by omega)]
    congr 1
    funext k
    congr 2
    exact Fin.ext (by simp)
  · rw [gain_eq', scale_eq, tile_eq, show (fun j => k0_pay2 x0 (ix2 r j)) = fun k => x0 (ix3 0 r k) from funext fun k => flat_at x0 r k]

theorem outA_apply (hc0 : ¬cond0_0 i) (r : Fin 256) (j : Fin 1024) :
    out0_A_6 (F := Ideal) c i a2 h2 a3 h3 a4 h4 a5 h5 a6 h6 a7 h7 a8 h8 a9 h9 a10 h10 a11 h11 a12 h12 hc0 x0 x1 x2 x3 x4 x5 (ix3 0 r j) = tileMix i x0 x1 x2 x3 x4 x5 r j := by
  unfold out0_A_6
  rw [View.read_writes_eq_canon _ _ _ (cover0_A_6 c i a2 h2 a3 h3 a4 h4 a5 h5 a6 h6 a7 h7 a8 h8 a9 h9 a10 h10 a11 h11 a12 h12 hc0 x0 x1 x2 x3 x4 x5)]
  unfold kernelRun0_A
  dsimp only
  rw [View.canon_cons_unit_lit _ _ _ (by decide)]
  refine Eq.trans (b := shapeCast S1x256x1024 (tileV i a2 h2 a3 h3 a4 h4 a5 h5 a6 h6 a7 h7 a10 a11 a12 x0 x1 x2 x3 x4 x5) shapeCasts_S256x1024_S1x256x1024 (ix3 0 r j)) rfl ?_
  refine (shapeCast_apply _ _ _ (ix2 r j) ?_).trans (tileV_apply ..)
  rw [Shape.rowMajor_val_two, Shape.rowMajor_val_three]
  show r.val * 1024 + j.val = (0 * 256 + r.val) * 1024 + j.val
  omega

theorem outB_apply (hc0 : cond0_0 i) (r : Fin 256) (j : Fin 1024) :
    out0_B_6 (F := Ideal) c i a2 h2 a3 h3 a4 h4 a5 h5 a6 h6 a7 h7 a8 h8 a9 h9 a10 h10 a11 h11 a12 h12 hc0 x0 x1 x2 x3 x4 x5 (ix3 0 r j) = tileMix i x0 x1 x2 x3 x4 x5 r j := by
  unfold out0_B_6
  rw [View.read_writes_eq_canon _ _ _ (cover0_B_6 c i a2 h2 a3 h3 a4 h4 a5 h5 a6 h6 a7 h7 a8 h8 a9 h9 a10 h10 a11 h11 a12 h12 hc0 x0 x1 x2 x3 x4 x5)]
  unfold kernelRun0_B
  dsimp only
  rw [View.canon_cons_unit_lit _ _ _ (by decide)]
  refine Eq.trans (b := shapeCast S1x256x1024 (tileV i a2 h2 a3 h3 a4 h4 a5 h5 a6 h6 a7 h7 a10 a11 a12 x0 x1 x2 x3 x4 x5) shapeCasts_S256x1024_S1x256x1024 (ix3 0 r j)) rfl ?_
  refine (shapeCast_apply _ _ _ (ix2 r j) ?_).trans (tileV_apply ..)
  rw [Shape.rowMajor_val_two, Shape.rowMajor_val_three]
  show r.val * 1024 + j.val = (0 * 256 + r.val) * 1024 + j.val
  omega

theorem outB_tail (hc0 : cond0_0 i) (r : Fin 16) (j : Fin 1024) :
    out0_B_7 (F := Ideal) c i a2 h2 a3 h3 a4 h4 a5 h5 a6 h6 a7 h7 a8 h8 a9 h9 a10 h10 a11 h11 a12 h12 hc0 x0 x1 x2 x3 x4 x5 (ix3 0 r j)
      = rms (fun k => x0 (ix3 0 ⟨240 + r.val, by have := r.isLt; omega⟩ k)) (fun k => x2 (ix2 0 k)) j := by
  have hr := r.isLt
  unfold out0_B_7
  rw [View.read_writes_eq_canon _ _ _ (cover0_B_7 c i a2 h2 a3 h3 a4 h4 a5 h5 a6 h6 a7 h7 a8 h8 a9 h9 a10 h10 a11 h11 a12 h12 hc0 x0 x1 x2 x3 x4 x5)]
  unfold kernelRun0_B
  dsimp only
  rw [View.canon_cons_unit_lit _ _ _ (by decide)]
  refine Eq.trans (b := k0_pay6 (k0_pay3 (View.readAt (Elt Ideal) a2.view (Rect.unit (s := S1x256x1024) ![0, 0, 0] S1x256x1024.size inb_S1x256x1024_S1x256x1024_0_0_0).toLoadRect (h2.unread x0)) (View.readAt (Elt Ideal) a4.view (Rect.unit (s := S1x1024) ![0, 0] S1x1024.size inb_S1x1024_S1x1024_0_0).toLoadRect (h4.unread x2))) (ix3 0 r j)) rfl ?_
  rw [tile_eq, gain_eq]
  unfold k0_pay6
  refine (shapeCast_apply _ _ _ (ix2 r j) ?_).trans ?_
  · rw [Shape.rowMajor_val_two, Shape.rowMajor_val_three]
    show r.val * 1024 + j.val = (0 * 16 + r.val) * 1024 + j.val
    omega
  refine (extractStridedSlice_apply _ _ _ _ (ix2 ⟨240 + r.val, by omega⟩ j) (fun a => by
    match a with
    | ⟨0, _⟩ => rfl
    | ⟨1, _⟩ => show j.val = 0 + j.val; omega)).trans ?_
  exact norm_at ..

end Blocks

end Cert.Pool
-- ==== Proof.PoolRef.lean ====
/- The pooling reference's results at their entries. -/
module

public import proofs.«01_k».proof.Proof.PoolBlock
public import proofs.«01_k».proof.Proof.Gen.Reference4Ideal.Read

@[expose] public section

set_option maxRecDepth 16384

noncomputable section

namespace Cert.Reference4Ideal.Pool

open Idealize.ShloMosaic Cert.Ffn Cert.Pool Cert.Reference4Ideal Cert.Reference4Ideal.Gen Cert.Reference4Ideal.Read

/-- The prompt's normed rows. -/
theorem hp_at (x0 : (⟨S8x2048x1024, .f32⟩ : BufTy).Contents (Elt Ideal)) (x1 : (⟨S1024, .f32⟩ : BufTy).Contents (Elt Ideal)) (b : Fin 8) (n : Fin 2048) (j : Fin 1024) :
    val_main_v12 (F := Ideal) x0 x1 (ix3 b n j) = rms (fun k => x0 (ix3 b n k)) (fun k => x1 (ix1 k)) j := by
  have e : ∀ k, idx_main_v1 (idx_main_v2 (idx_main_v8 (ix3 b n j))) k = ix3 b n k := fun k => funext fun a => Fin.ext (by
      match a with
      | ⟨0, _⟩ => rfl
      | ⟨1, _⟩ => rfl
      | ⟨2, _⟩ => rfl)
  have g : idx_main_v10 (idx_main_v11 (ix3 b n j)) = ix1 j := funext fun a => Fin.ext (by
      match a with
      | ⟨0, _⟩ => rfl)
  have z : FloatOps.ofBits (F := Ideal) .f32 0x00000000#32 = (0 : EReal) := Ideal.ofBits_zero_f32
  rw [val_main_v12_apply, val_main_v9_apply, val_main_v8_apply, val_main_v7_apply, val_main_v6_apply, val_main_v4_apply, val_main_v2_apply, val_main_v1_apply, val_main_v3_apply, val_main_v5_apply, val_main_v11_apply, val_main_v10_apply, val_main_cst_apply, val_main_cst_0_apply, val_main_cst_1_apply, g, z, zero_add]
  simp only [val_main_v0_apply, e]
  rfl

/-- The normed rows under fifteen rows of zeros. -/
theorem pad_at (x0 : (⟨S8x2048x1024, .f32⟩ : BufTy).Contents (Elt Ideal)) (x1 : (⟨S1024, .f32⟩ : BufTy).Contents (Elt Ideal)) (b : Fin 8) (q : Fin 2063) (j : Fin 1024) :
    val_main_v14 (F := Ideal) x0 x1 (ix3 b q j) = seq (fun n k => x0 (ix3 b n k)) (fun k => x1 (ix1 k)) (17 + q.val) j := by
  have hq := q.isLt
  unfold val_main_v14
  rcases Nat.lt_or_ge q.val 15 with h | h
  · rw [seq_before _ _ _ (by omega)]
    refine (concatenate_pair_apply_left (t := S8x2063x1024) (s₁ := S8x15x1024) (s₂ := S8x2048x1024) 1 _ _ _ (ix3 b q j) rfl (ix3 b (⟨q.val, h⟩ : Fin 15) j) (fun a => by
      match a with
      | ⟨0, _⟩ => rfl
      | ⟨1, _⟩ => rfl
      | ⟨2, _⟩ => rfl)).trans ?_
    rw [val_main_v13_apply, val_main_cst_2_apply]
    exact Ideal.ofBits_zero_f32
  · rw [seq_in _ _ (⟨q.val - 15, by omega⟩ : Fin 2048) _ (by show 17 + q.val = 32 + (q.val - 15); omega)]
    refine (concatenate_pair_apply_right (t := S8x2063x1024) (s₁ := S8x15x1024) (s₂ := S8x2048x1024) 1 _ _ _ (ix3 b q j) rfl rfl (ix3 b (⟨q.val - 15, by omega⟩ : Fin 2048) j) (fun a ha => by
      match a with
      | ⟨0, _⟩ => rfl
      | ⟨1, _⟩ => exact absurd rfl ha
      | ⟨2, _⟩ => rfl) (Nat.sub_add_cancel h)).trans ?_
    exact hp_at x0 x1 b _ j

/-- A shifted slice of the padded rows. -/
theorem slice_at (x0 : (⟨S8x2048x1024, .f32⟩ : BufTy).Contents (Elt Ideal)) (x1 : (⟨S1024, .f32⟩ : BufTy).Contents (Elt Ideal)) (b : Fin 8) (n : Fin 2048) (l : Fin 256) (g : Fin 4) (d : ℕ) (hd : d ≤ 15) (i : S8x2063x1024.Idx)
    (h1 : (i 1).val = 15 - d + n.val) (h0 : (i 0).val = b.val) (h2 : (i 2).val = 256 * g.val + l.val) :
    val_main_v14 (F := Ideal) x0 x1 i = seq (fun n k => x0 (ix3 b n k)) (fun k => x1 (ix1 k)) (32 + n.val - d) (gcol g l) := by
  have hn := n.isLt
  have e : i = ix3 b (⟨15 - d + n.val, by omega⟩ : Fin 2063) (gcol g l) := funext fun a => Fin.ext (by
    match a with
    | ⟨0, _⟩ => exact h0
    | ⟨1, _⟩ => exact h1
    | ⟨2, _⟩ => exact h2)
  rw [e, pad_at]
  congr 1
  show 17 + (15 - d + n.val) = 32 + n.val - d
  omega

/-- Group 0: the sum of the last 2 normed rows. -/
theorem sum0_at (x0 : (⟨S8x2048x1024, .f32⟩ : BufTy).Contents (Elt Ideal)) (x1 : (⟨S1024, .f32⟩ : BufTy).Contents (Elt Ideal)) (b : Fin 8) (n : Fin 2048) (l : Fin 256) :
    val_main_v24 (F := Ideal) x0 x1 (ix3 b n l) = back (fun p => seq (fun n k => x0 (ix3 b n k)) (fun k => x1 (ix1 k)) p (gcol 0 l)) (32 + n.val) (reach 0) := by
  have s0 : val_main_v22 (F := Ideal) x0 x1 (ix3 b n l) = seq (fun n k => x0 (ix3 b n k)) (fun k => x1 (ix1 k)) (32 + n.val - 0) (gcol 0 l) := by
    rw [val_main_v22_apply]
    exact slice_at x0 x1 b n l 0 0 (by omega) _ (by show 15 + n.val = 15 - 0 + n.val; omega) rfl (by show l.val = 256 * 0 + l.val; omega)
  have s1 : val_main_v23 (F := Ideal) x0 x1 (ix3 b n l) = seq (fun n k => x0 (ix3 b n k)) (fun k => x1 (ix1 k)) (32 + n.val - 1) (gcol 0 l) := by
    rw [val_main_v23_apply]
    exact slice_at x0 x1 b n l 0 1 (by omega) _ (by show 14 + n.val = 15 - 1 + n.val; omega) rfl (by show l.val = 256 * 0 + l.val; omega)
  rw [val_main_v24_apply, s0, s1]
  rfl

/-- Group 0: the number of rows averaged. -/
theorem cnt0_at (b : Fin 8) (n : Fin 2048) (l : Fin 256) : val_main_v25 (F := Ideal) (ix3 b n l) = cnt n.val (win 0) := by
  rw [val_main_v25_apply, val_main_v21_apply, val_main_v20_apply, val_main_v19_apply, val_main_v17_apply, val_main_v18_apply, val_main_v15_apply, val_main_v16_apply, val_main_c_apply, val_main_c_3_apply]
  rfl

/-- Group 0: its product. -/
theorem grp0_at (x0 : (⟨S8x2048x1024, .f32⟩ : BufTy).Contents (Elt Ideal)) (x1 : (⟨S1024, .f32⟩ : BufTy).Contents (Elt Ideal)) (x3 : (⟨S4x256x256, .f32⟩ : BufTy).Contents (Elt Ideal)) (b : Fin 8) (n : Fin 2048) (q : Fin 256) :
    val_main_v31 (F := Ideal) x0 x1 x3 (ix3 b n q)
      = grp (seq (fun n k => x0 (ix3 b n k)) (fun k => x1 (ix1 k))) n.val (32 + n.val) (fun l q => x3 (ix3 0 l q)) 0 q := by
  rw [val_main_v31_apply]
  unfold grp
  refine Finset.sum_congr rfl fun l _ => ?_
  have el : lidx_main_v31 (ix3 b n q) l = ix3 b n l := funext fun a => Fin.ext (by
      match a with
      | ⟨0, _⟩ => rfl
      | ⟨1, _⟩ => rfl
      | ⟨2, _⟩ => rfl)
  have ew : idx_main_v29 (idx_main_v30 (ridx_main_v31 (ix3 b n q) l)) = ix3 0 l q := funext fun a => Fin.ext (by
      have hl := l.isLt
      have hq := q.isLt
      match a with
      | ⟨0, _⟩ => rfl
      | ⟨1, _⟩ => show (l.val * 256 + q.val) / 256 % 256 = l.val; omega
      | ⟨2, _⟩ => show (l.val * 256 + q.val) % 256 = q.val; omega)
  have eh : idx_main_v27 (ix3 b n l) = ix3 b n (gcol 0 l) := funext fun a => Fin.ext (by
      match a with
      | ⟨0, _⟩ => rfl
      | ⟨1, _⟩ => rfl
      | ⟨2, _⟩ => show l.val = 256 * 0 + l.val; omega)
  rw [el, val_main_v28_apply, val_main_v26_apply, val_main_v27_apply, val_main_v30_apply, val_main_v29_apply, ew, eh, sum0_at, cnt0_at, hp_at, ← seq_in (fun n k => x0 (ix3 b n k)) _ n _ rfl]
  rfl

/-- Group 1: the sum of the last 4 normed rows. -/
theorem sum1_at (x0 : (⟨S8x2048x1024, .f32⟩ : BufTy).Contents (Elt Ideal)) (x1 : (⟨S1024, .f32⟩ : BufTy).Contents (Elt Ideal)) (b : Fin 8) (n : Fin 2048) (l : Fin 256) :
    val_main_v44 (F := Ideal) x0 x1 (ix3 b n l) = back (fun p => seq (fun n k => x0 (ix3 b n k)) (fun k => x1 (ix1 k)) p (gcol 1 l)) (32 + n.val) (reach 1) := by
  have s0 : val_main_v38 (F := Ideal) x0 x1 (ix3 b n l) = seq (fun n k => x0 (ix3 b n k)) (fun k => x1 (ix1 k)) (32 + n.val - 0) (gcol 1 l) := by
    rw [val_main_v38_apply]
    exact slice_at x0 x1 b n l 1 0 (by omega) _ (by show 15 + n.val = 15 - 0 + n.val; omega) rfl rfl
  have s1 : val_main_v39 (F := Ideal) x0 x1 (ix3 b n l) = seq (fun n k => x0 (ix3 b n k)) (fun k => x1 (ix1 k)) (32 + n.val - 1) (gcol 1 l) := by
    rw [val_main_v39_apply]
    exact slice_at x0 x1 b n l 1 1 (by omega) _ (by show 14 + n.val = 15 - 1 + n.val; omega) rfl rfl
  have s2 : val_main_v41 (F := Ideal) x0 x1 (ix3 b n l) = seq (fun n k => x0 (ix3 b n k)) (fun k => x1 (ix1 k)) (32 + n.val - 2) (gcol 1 l) := by
    rw [val_main_v41_apply]
    exact slice_at x0 x1 b n l 1 2 (by omega) _ (by show 13 + n.val = 15 - 2 + n.val; omega) rfl rfl
  have s3 : val_main_v43 (F := Ideal) x0 x1 (ix3 b n l) = seq (fun n k => x0 (ix3 b n k)) (fun k => x1 (ix1 k)) (32 + n.val - 3) (gcol 1 l) := by
    rw [val_main_v43_apply]
    exact slice_at x0 x1 b n l 1 3 (by omega) _ (by show 12 + n.val = 15 - 3 + n.val; omega) rfl rfl
  rw [val_main_v44_apply, val_main_v42_apply, val_main_v40_apply, s0, s1, s2, s3]
  rfl

/-- Group 1: the number of rows averaged. -/
theorem cnt1_at (b : Fin 8) (n : Fin 2048) (l : Fin 256) : val_main_v45 (F := Ideal) (ix3 b n l) = cnt n.val (win 1) := by
  rw [val_main_v45_apply, val_main_v37_apply, val_main_v36_apply, val_main_v35_apply, val_main_v33_apply, val_main_v34_apply, val_main_v15_apply, val_main_v32_apply, val_main_c_4_apply, val_main_c_5_apply]
  rfl

/-- Group 1: its product. -/
theorem grp1_at (x0 : (⟨S8x2048x1024, .f32⟩ : BufTy).Contents (Elt Ideal)) (x1 : (⟨S1024, .f32⟩ : BufTy).Contents (Elt Ideal)) (x3 : (⟨S4x256x256, .f32⟩ : BufTy).Contents (Elt Ideal)) (b : Fin 8) (n : Fin 2048) (q : Fin 256) :
    val_main_v51 (F := Ideal) x0 x1 x3 (ix3 b n q)
      = grp (seq (fun n k => x0 (ix3 b n k)) (fun k => x1 (ix1 k))) n.val (32 + n.val) (fun l q => x3 (ix3 1 l q)) 1 q := by
  rw [val_main_v51_apply]
  unfold grp
  refine Finset.sum_congr rfl fun l _ => ?_
  have el : lidx_main_v51 (ix3 b n q) l = ix3 b n l := funext fun a => Fin.ext (by
      match a with
      | ⟨0, _⟩ => rfl
      | ⟨1, _⟩ => rfl
      | ⟨2, _⟩ => rfl)
  have ew : idx_main_v49 (idx_main_v50 (ridx_main_v51 (ix3 b n q) l)) = ix3 1 l q := funext fun a => Fin.ext (by
      have hl := l.isLt
      have hq := q.isLt
      match a with
      | ⟨0, _⟩ => rfl
      | ⟨1, _⟩ => show (l.val * 256 + q.val) / 256 % 256 = l.val; omega
      | ⟨2, _⟩ => show (l.val * 256 + q.val) % 256 = q.val; omega)
  have eh : idx_main_v47 (ix3 b n l) = ix3 b n (gcol 1 l) := funext fun a => Fin.ext (by
      match a with
      | ⟨0, _⟩ => rfl
      | ⟨1, _⟩ => rfl
      | ⟨2, _⟩ => rfl)
  rw [el, val_main_v48_apply, val_main_v46_apply, val_main_v47_apply, val_main_v50_apply, val_main_v49_apply, ew, eh, sum1_at, cnt1_at, hp_at, ← seq_in (fun n k => x0 (ix3 b n k)) _ n _ rfl]
  rfl

/-- Group 2: the sum of the last 8 normed rows. -/
theorem sum2_at (x0 : (⟨S8x2048x1024, .f32⟩ : BufTy).Contents (Elt Ideal)) (x1 : (⟨S1024, .f32⟩ : BufTy).Contents (Elt Ideal)) (b : Fin 8) (n : Fin 2048) (l : Fin 256) :
    val_main_v72 (F := Ideal) x0 x1 (ix3 b n l) = back (fun p => seq (fun n k => x0 (ix3 b n k)) (fun k => x1 (ix1 k)) p (gcol 2 l)) (32 + n.val) (reach 2) := by
  have s0 : val_main_v58 (F := Ideal) x0 x1 (ix3 b n l) = seq (fun n k => x0 (ix3 b n k)) (fun k => x1 (ix1 k)) (32 + n.val - 0) (gcol 2 l) := by
    rw [val_main_v58_apply]
    exact slice_at x0 x1 b n l 2 0 (by omega) _ (by show 15 + n.val = 15 - 0 + n.val; omega) rfl rfl
  have s1 : val_main_v59 (F := Ideal) x0 x1 (ix3 b n l) = seq (fun n k => x0 (ix3 b n k)) (fun k => x1 (ix1 k)) (32 + n.val - 1) (gcol 2 l) := by
    rw [val_main_v59_apply]
    exact slice_at x0 x1 b n l 2 1 (by omega) _ (by show 14 + n.val = 15 - 1 + n.val; omega) rfl rfl
  have s2 : val_main_v61 (F := Ideal) x0 x1 (ix3 b n l) = seq (fun n k => x0 (ix3 b n k)) (fun k => x1 (ix1 k)) (32 + n.val - 2) (gcol 2 l) := by
    rw [val_main_v61_apply]
    exact slice_at x0 x1 b n l 2 2 (by omega) _ (by show 13 + n.val = 15 - 2 + n.val; omega) rfl rfl
  have s3 : val_main_v63 (F := Ideal) x0 x1 (ix3 b n l) = seq (fun n k => x0 (ix3 b n k)) (fun k => x1 (ix1 k)) (32 + n.val - 3) (gcol 2 l) := by
    rw [val_main_v63_apply]
    exact slice_at x0 x1 b n l 2 3 (by omega) _ (by show 12 + n.val = 15 - 3 + n.val; omega) rfl rfl
  have s4 : val_main_v65 (F := Ideal) x0 x1 (ix3 b n l) = seq (fun n k => x0 (ix3 b n k)) (fun k => x1 (ix1 k)) (32 + n.val - 4) (gcol 2 l) := by
    rw [val_main_v65_apply]
    exact slice_at x0 x1 b n l 2 4 (by omega) _ (by show 11 + n.val = 15 - 4 + n.val; omega) rfl rfl
  have s5 : val_main_v67 (F := Ideal) x0 x1 (ix3 b n l) = seq (fun n k => x0 (ix3 b n k)) (fun k => x1 (ix1 k)) (32 + n.val - 5) (gcol 2 l) := by
    rw [val_main_v67_apply]
    exact slice_at x0 x1 b n l 2 5 (by omega) _ (by show 10 + n.val = 15 - 5 + n.val; omega) rfl rfl
  have s6 : val_main_v69 (F := Ideal) x0 x1 (ix3 b n l) = seq (fun n k => x0 (ix3 b n k)) (fun k => x1 (ix1 k)) (32 + n.val - 6) (gcol 2 l) := by
    rw [val_main_v69_apply]
    exact slice_at x0 x1 b n l 2 6 (by omega) _ (by show 9 + n.val = 15 - 6 + n.val; omega) rfl rfl
  have s7 : val_main_v71 (F := Ideal) x0 x1 (ix3 b n l) = seq (fun n k => x0 (ix3 b n k)) (fun k => x1 (ix1 k)) (32 + n.val - 7) (gcol 2 l) := by
    rw [val_main_v71_apply]
    exact slice_at x0 x1 b n l 2 7 (by omega) _ (by show 8 + n.val = 15 - 7 + n.val; omega) rfl rfl
  rw [val_main_v72_apply, val_main_v70_apply, val_main_v68_apply, val_main_v66_apply, val_main_v64_apply, val_main_v62_apply, val_main_v60_apply, s0, s1, s2, s3, s4, s5, s6, s7]
  rfl

/-- Group 2: the number of rows averaged. -/
theorem cnt2_at (b : Fin 8) (n : Fin 2048) (l : Fin 256) : val_main_v73 (F := Ideal) (ix3 b n l) = cnt n.val (win 2) := by
  rw [val_main_v73_apply, val_main_v57_apply, val_main_v56_apply, val_main_v55_apply, val_main_v53_apply, val_main_v54_apply, val_main_v15_apply, val_main_v52_apply, val_main_c_6_apply, val_main_c_7_apply]
  rfl

/-- Group 2: its product. -/
theorem grp2_at (x0 : (⟨S8x2048x1024, .f32⟩ : BufTy).Contents (Elt Ideal)) (x1 : (⟨S1024, .f32⟩ : BufTy).Contents (Elt Ideal)) (x3 : (⟨S4x256x256, .f32⟩ : BufTy).Contents (Elt Ideal)) (b : Fin 8) (n : Fin 2048) (q : Fin 256) :
    val_main_v79 (F := Ideal) x0 x1 x3 (ix3 b n q)
      = grp (seq (fun n k => x0 (ix3 b n k)) (fun k => x1 (ix1 k))) n.val (32 + n.val) (fun l q => x3 (ix3 2 l q)) 2 q := by
  rw [val_main_v79_apply]
  unfold grp
  refine Finset.sum_congr rfl fun l _ => ?_
  have el : lidx_main_v79 (ix3 b n q) l = ix3 b n l := funext fun a => Fin.ext (by
      match a with
      | ⟨0, _⟩ => rfl
      | ⟨1, _⟩ => rfl
      | ⟨2, _⟩ => rfl)
  have ew : idx_main_v77 (idx_main_v78 (ridx_main_v79 (ix3 b n q) l)) = ix3 2 l q := funext fun a => Fin.ext (by
      have hl := l.isLt
      have hq := q.isLt
      match a with
      | ⟨0, _⟩ => rfl
      | ⟨1, _⟩ => show (l.val * 256 + q.val) / 256 % 256 = l.val; omega
      | ⟨2, _⟩ => show (l.val * 256 + q.val) % 256 = q.val; omega)
  have eh : idx_main_v75 (ix3 b n l) = ix3 b n (gcol 2 l) := funext fun a => Fin.ext (by
      match a with
      | ⟨0, _⟩ => rfl
      | ⟨1, _⟩ => rfl
      | ⟨2, _⟩ => rfl)
  rw [el, val_main_v76_apply, val_main_v74_apply, val_main_v75_apply, val_main_v78_apply, val_main_v77_apply, ew, eh, sum2_at, cnt2_at, hp_at, ← seq_in (fun n k => x0 (ix3 b n k)) _ n _ rfl]
  rfl

/-- Group 3: the sum of the last 16 normed rows. -/
theorem sum3_at (x0 : (⟨S8x2048x1024, .f32⟩ : BufTy).Contents (Elt Ideal)) (x1 : (⟨S1024, .f32⟩ : BufTy).Contents (Elt Ideal)) (b : Fin 8) (n : Fin 2048) (l : Fin 256) :
    val_main_v116 (F := Ideal) x0 x1 (ix3 b n l) = back (fun p => seq (fun n k => x0 (ix3 b n k)) (fun k => x1 (ix1 k)) p (gcol 3 l)) (32 + n.val) (reach 3) := by
  have s0 : val_main_v86 (F := Ideal) x0 x1 (ix3 b n l) = seq (fun n k => x0 (ix3 b n k)) (fun k => x1 (ix1 k)) (32 + n.val - 0) (gcol 3 l) := by
    rw [val_main_v86_apply]
    exact slice_at x0 x1 b n l 3 0 (by omega) _ (by show 15 + n.val = 15 - 0 + n.val; omega) rfl rfl
  have s1 : val_main_v87 (F := Ideal) x0 x1 (ix3 b n l) = seq (fun n k => x0 (ix3 b n k)) (fun k => x1 (ix1 k)) (32 + n.val - 1) (gcol 3 l) := by
    rw [val_main_v87_apply]
    exact slice_at x0 x1 b n l 3 1 (by omega) _ (by show 14 + n.val = 15 - 1 + n.val; omega) rfl rfl
  have s2 : val_main_v89 (F := Ideal) x0 x1 (ix3 b n l) = seq (fun n k => x0 (ix3 b n k)) (fun k => x1 (ix1 k)) (32 + n.val - 2) (gcol 3 l) := by
    rw [val_main_v89_apply]
    exact slice_at x0 x1 b n l 3 2 (by omega) _ (by show 13 + n.val = 15 - 2 + n.val; omega) rfl rfl
  have s3 : val_main_v91 (F := Ideal) x0 x1 (ix3 b n l) = seq (fun n k => x0 (ix3 b n k)) (fun k => x1 (ix1 k)) (32 + n.val - 3) (gcol 3 l) := by
    rw [val_main_v91_apply]
    exact slice_at x0 x1 b n l 3 3 (by omega) _ (by show 12 + n.val = 15 - 3 + n.val; omega) rfl rfl
  have s4 : val_main_v93 (F := Ideal) x0 x1 (ix3 b n l) = seq (fun n k => x0 (ix3 b n k)) (fun k => x1 (ix1 k)) (32 + n.val - 4) (gcol 3 l) := by
    rw [val_main_v93_apply]
    exact slice_at x0 x1 b n l 3 4 (by omega) _ (by show 11 + n.val = 15 - 4 + n.val; omega) rfl rfl
  have s5 : val_main_v95 (F := Ideal) x0 x1 (ix3 b n l) = seq (fun n k => x0 (ix3 b n k)) (fun k => x1 (ix1 k)) (32 + n.val - 5) (gcol 3 l) := by
    rw [val_main_v95_apply]
    exact slice_at x0 x1 b n l 3 5 (by omega) _ (by show 10 + n.val = 15 - 5 + n.val; omega) rfl rfl
  have s6 : val_main_v97 (F := Ideal) x0 x1 (ix3 b n l) = seq (fun n k => x0 (ix3 b n k)) (fun k => x1 (ix1 k)) (32 + n.val - 6) (gcol 3 l) := by
    rw [val_main_v97_apply]
    exact slice_at x0 x1 b n l 3 6 (by omega) _ (by show 9 + n.val = 15 - 6 + n.val; omega) rfl rfl
  have s7 : val_main_v99 (F := Ideal) x0 x1 (ix3 b n l) = seq (fun n k => x0 (ix3 b n k)) (fun k => x1 (ix1 k)) (32 + n.val - 7) (gcol 3 l) := by
    rw [val_main_v99_apply]
    exact slice_at x0 x1 b n l 3 7 (by omega) _ (by show 8 + n.val = 15 - 7 + n.val; omega) rfl rfl
  have s8 : val_main_v101 (F := Ideal) x0 x1 (ix3 b n l) = seq (fun n k => x0 (ix3 b n k)) (fun k => x1 (ix1 k)) (32 + n.val - 8) (gcol 3 l) := by
    rw [val_main_v101_apply]
    exact slice_at x0 x1 b n l 3 8 (by omega) _ (by show 7 + n.val = 15 - 8 + n.val; omega) rfl rfl
  have s9 : val_main_v103 (F := Ideal) x0 x1 (ix3 b n l) = seq (fun n k => x0 (ix3 b n k)) (fun k => x1 (ix1 k)) (32 + n.val - 9) (gcol 3 l) := by
    rw [val_main_v103_apply]
    exact slice_at x0 x1 b n l 3 9 (by omega) _ (by show 6 + n.val = 15 - 9 + n.val; omega) rfl rfl
  have s10 : val_main_v105 (F := Ideal) x0 x1 (ix3 b n l) = seq (fun n k => x0 (ix3 b n k)) (fun k => x1 (ix1 k)) (32 + n.val - 10) (gcol 3 l) := by
    rw [val_main_v105_apply]
    exact slice_at x0 x1 b n l 3 10 (by omega) _ (by show 5 + n.val = 15 - 10 + n.val; omega) rfl rfl
  have s11 : val_main_v107 (F := Ideal) x0 x1 (ix3 b n l) = seq (fun n k => x0 (ix3 b n k)) (fun k => x1 (ix1 k)) (32 + n.val - 11) (gcol 3 l) := by
    rw [val_main_v107_apply]
    exact slice_at x0 x1 b n l 3 11 (by omega) _ (by show 4 + n.val = 15 - 11 + n.val; omega) rfl rfl
  have s12 : val_main_v109 (F := Ideal) x0 x1 (ix3 b n l) = seq (fun n k => x0 (ix3 b n k)) (fun k => x1 (ix1 k)) (32 + n.val - 12) (gcol 3 l) := by
    rw [val_main_v109_apply]
    exact slice_at x0 x1 b n l 3 12 (by omega) _ (by show 3 + n.val = 15 - 12 + n.val; omega) rfl rfl
  have s13 : val_main_v111 (F := Ideal) x0 x1 (ix3 b n l) = seq (fun n k => x0 (ix3 b n k)) (fun k => x1 (ix1 k)) (32 + n.val - 13) (gcol 3 l) := by
    rw [val_main_v111_apply]
    exact slice_at x0 x1 b n l 3 13 (by omega) _ (by show 2 + n.val = 15 - 13 + n.val; omega) rfl rfl
  have s14 : val_main_v113 (F := Ideal) x0 x1 (ix3 b n l) = seq (fun n k => x0 (ix3 b n k)) (fun k => x1 (ix1 k)) (32 + n.val - 14) (gcol 3 l) := by
    rw [val_main_v113_apply]
    exact slice_at x0 x1 b n l 3 14 (by omega) _ (by show 1 + n.val = 15 - 14 + n.val; omega) rfl rfl
  have s15 : val_main_v115 (F := Ideal) x0 x1 (ix3 b n l) = seq (fun n k => x0 (ix3 b n k)) (fun k => x1 (ix1 k)) (32 + n.val - 15) (gcol 3 l) := by
    rw [val_main_v115_apply]
    exact slice_at x0 x1 b n l 3 15 (by omega) _ (by show n.val = 15 - 15 + n.val; omega) rfl rfl
  rw [val_main_v116_apply, val_main_v114_apply, val_main_v112_apply, val_main_v110_apply, val_main_v108_apply, val_main_v106_apply, val_main_v104_apply, val_main_v102_apply, val_main_v100_apply, val_main_v98_apply, val_main_v96_apply, val_main_v94_apply, val_main_v92_apply, val_main_v90_apply, val_main_v88_apply, s0, s1, s2, s3, s4, s5, s6, s7, s8, s9, s10, s11, s12, s13, s14, s15]
  rfl

/-- Group 3: the number of rows averaged. -/
theorem cnt3_at (b : Fin 8) (n : Fin 2048) (l : Fin 256) : val_main_v117 (F := Ideal) (ix3 b n l) = cnt n.val (win 3) := by
  rw [val_main_v117_apply, val_main_v85_apply, val_main_v84_apply, val_main_v83_apply, val_main_v81_apply, val_main_v82_apply, val_main_v15_apply, val_main_v80_apply, val_main_c_8_apply, val_main_c_9_apply]
  rfl

/-- Group 3: its product. -/
theorem grp3_at (x0 : (⟨S8x2048x1024, .f32⟩ : BufTy).Contents (Elt Ideal)) (x1 : (⟨S1024, .f32⟩ : BufTy).Contents (Elt Ideal)) (x3 : (⟨S4x256x256, .f32⟩ : BufTy).Contents (Elt Ideal)) (b : Fin 8) (n : Fin 2048) (q : Fin 256) :
    val_main_v123 (F := Ideal) x0 x1 x3 (ix3 b n q)
      = grp (seq (fun n k => x0 (ix3 b n k)) (fun k => x1 (ix1 k))) n.val (32 + n.val) (fun l q => x3 (ix3 3 l q)) 3 q := by
  rw [val_main_v123_apply]
  unfold grp
  refine Finset.sum_congr rfl fun l _ => ?_
  have el : lidx_main_v123 (ix3 b n q) l = ix3 b n l := funext fun a => Fin.ext (by
      match a with
      | ⟨0, _⟩ => rfl
      | ⟨1, _⟩ => rfl
      | ⟨2, _⟩ => rfl)
  have ew : idx_main_v121 (idx_main_v122 (ridx_main_v123 (ix3 b n q) l)) = ix3 3 l q := funext fun a => Fin.ext (by
      have hl := l.isLt
      have hq := q.isLt
      match a with
      | ⟨0, _⟩ => rfl
      | ⟨1, _⟩ => show (l.val * 256 + q.val) / 256 % 256 = l.val; omega
      | ⟨2, _⟩ => show (l.val * 256 + q.val) % 256 = q.val; omega)
  have eh : idx_main_v119 (ix3 b n l) = ix3 b n (gcol 3 l) := funext fun a => Fin.ext (by
      match a with
      | ⟨0, _⟩ => rfl
      | ⟨1, _⟩ => rfl
      | ⟨2, _⟩ => rfl)
  rw [el, val_main_v120_apply, val_main_v118_apply, val_main_v119_apply, val_main_v122_apply, val_main_v121_apply, ew, eh, sum3_at, cnt3_at, hp_at, ← seq_in (fun n k => x0 (ix3 b n k)) _ n _ rfl]
  rfl

/-- The four groups side by side. -/
theorem groups_at (x0 : (⟨S8x2048x1024, .f32⟩ : BufTy).Contents (Elt Ideal)) (x1 : (⟨S1024, .f32⟩ : BufTy).Contents (Elt Ideal)) (x3 : (⟨S4x256x256, .f32⟩ : BufTy).Contents (Elt Ideal)) (b : Fin 8) (n : Fin 2048) (j : Fin 1024) :
    val_main_v124 (F := Ideal) x0 x1 x3 (ix3 b n j)
      = grp (seq (fun n k => x0 (ix3 b n k)) (fun k => x1 (ix1 k))) n.val (32 + n.val) (fun l q => x3 (ix3 (gof j) l q)) (gof j) (lof j) := by
  have hj := j.isLt
  have key : ∀ g : Fin 4, gof j = g → val_main_v124 (F := Ideal) x0 x1 x3 (ix3 b n j)
      = (![val_main_v31 (F := Ideal) x0 x1 x3, val_main_v51 (F := Ideal) x0 x1 x3, val_main_v79 (F := Ideal) x0 x1 x3, val_main_v123 (F := Ideal) x0 x1 x3] : Fin 4 → (⟨S8x2048x256, .f32⟩ : BufTy).Contents (Elt Ideal)) g (ix3 b n (lof j)) := by
    intro g hg
    subst hg
    exact concatenate_ofFn_apply (t := S8x2048x1024) (s₁ := S8x2048x256) 2
      (![val_main_v31 (F := Ideal) x0 x1 x3, val_main_v51 (F := Ideal) x0 x1 x3, val_main_v79 (F := Ideal) x0 x1 x3, val_main_v123 (F := Ideal) x0 x1 x3] : Fin 4 → (⟨S8x2048x256, .f32⟩ : BufTy).Contents (Elt Ideal)) _ rfl 256 rfl (ix3 b n j) (gof j) rfl
      (ix3 b n (lof j)) rfl (fun a ha => by
        match a with
        | ⟨0, _⟩ => rfl
        | ⟨1, _⟩ => rfl
        | ⟨2, _⟩ => exact absurd rfl ha)
  generalize hg : gof j = g
  rw [key g hg]
  match g with
  | ⟨0, _⟩ => exact grp0_at x0 x1 x3 b n (lof j)
  | ⟨1, _⟩ => exact grp1_at x0 x1 x3 b n (lof j)
  | ⟨2, _⟩ => exact grp2_at x0 x1 x3 b n (lof j)
  | ⟨3, _⟩ => exact grp3_at x0 x1 x3 b n (lof j)

/-- The scaled mixer's norm. -/
theorem normed_at (x0 : (⟨S8x2048x1024, .f32⟩ : BufTy).Contents (Elt Ideal)) (x1 x2 : (⟨S1024, .f32⟩ : BufTy).Contents (Elt Ideal)) (x3 : (⟨S4x256x256, .f32⟩ : BufTy).Contents (Elt Ideal)) (x4 : (⟨S1024, .f32⟩ : BufTy).Contents (Elt Ideal)) (b : Fin 8) (n : Fin 2048) (j : Fin 1024) :
    val_main_v140 (F := Ideal) x0 x1 x2 x3 x4 (ix3 b n j) = rms (fun k => (val_main_v127 (F := Ideal) x0 x1 x3 x4) (ix3 b n k)) (fun k => x2 (ix1 k)) j := by
  have e : ∀ k, idx_main_v129 (idx_main_v130 (idx_main_v136 (ix3 b n j))) k = ix3 b n k := fun k => funext fun a => Fin.ext (by
      match a with
      | ⟨0, _⟩ => rfl
      | ⟨1, _⟩ => rfl
      | ⟨2, _⟩ => rfl)
  have g : idx_main_v138 (idx_main_v139 (ix3 b n j)) = ix1 j := funext fun a => Fin.ext (by
      match a with
      | ⟨0, _⟩ => rfl)
  have z : FloatOps.ofBits (F := Ideal) .f32 0x00000000#32 = (0 : EReal) := Ideal.ofBits_zero_f32
  rw [val_main_v140_apply, val_main_v137_apply, val_main_v136_apply, val_main_v135_apply, val_main_v134_apply, val_main_v132_apply, val_main_v130_apply, val_main_v129_apply, val_main_v131_apply, val_main_v133_apply, val_main_v139_apply, val_main_v138_apply, val_main_cst_10_apply, val_main_cst_11_apply, val_main_cst_12_apply, g, z, zero_add]
  simp only [val_main_v128_apply, e]
  rfl

/-- The prompt's rows after the mixer. -/
theorem mixed_at (x0 : (⟨S8x2048x1024, .f32⟩ : BufTy).Contents (Elt Ideal)) (x1 x2 : (⟨S1024, .f32⟩ : BufTy).Contents (Elt Ideal)) (x3 : (⟨S4x256x256, .f32⟩ : BufTy).Contents (Elt Ideal)) (x4 : (⟨S1024, .f32⟩ : BufTy).Contents (Elt Ideal)) (b : Fin 8) (n : Fin 2048) (j : Fin 1024) :
    val_main_v141 (F := Ideal) x0 x1 x2 x3 x4 (ix3 b n j)
      = mixed (fun n k => x0 (ix3 b n k)) (fun k => x1 (ix1 k)) (fun k => x2 (ix1 k)) (fun g l q => x3 (ix3 g l q)) (fun k => x4 (ix1 k)) n j := by
  rw [val_main_v141_apply, normed_at]
  have e : ∀ k, val_main_v127 (F := Ideal) x0 x1 x3 x4 (ix3 b n k)
      = grp (seq (fun n k => x0 (ix3 b n k)) (fun k => x1 (ix1 k))) n.val (32 + n.val) (fun l q => x3 (ix3 (gof k) l q)) (gof k) (lof k) * x4 (ix1 k) := by
    intro k
    have es : idx_main_v125 (idx_main_v126 (ix3 b n k)) = ix1 k := funext fun a => Fin.ext (by
      match a with
      | ⟨0, _⟩ => rfl)
    rw [val_main_v127_apply, val_main_v126_apply, val_main_v125_apply, es, groups_at]
    rfl
  simp only [e]
  rfl

/-- The last sixteen normed rows. -/
theorem tail_at (x0 : (⟨S8x2048x1024, .f32⟩ : BufTy).Contents (Elt Ideal)) (x1 : (⟨S1024, .f32⟩ : BufTy).Contents (Elt Ideal)) (b : Fin 8) (r : Fin 16) (j : Fin 1024) :
    val_main_v142 (F := Ideal) x0 x1 (ix3 b r j) = rms (fun k => x0 (ix3 b (⟨2032 + r.val, by have := r.isLt; omega⟩ : Fin 2048) k)) (fun k => x1 (ix1 k)) j := by
  have hr := r.isLt
  have e : idx_main_v142 (ix3 b r j) = ix3 b (⟨2032 + r.val, by omega⟩ : Fin 2048) j := funext fun a => Fin.ext (by
    match a with
    | ⟨0, _⟩ => rfl
    | ⟨1, _⟩ => rfl
    | ⟨2, _⟩ => rfl)
  rw [val_main_v142_apply, e, hp_at]

end Cert.Reference4Ideal.Pool
-- ==== Proof.PoolEqual.lean ====
/- The pooling call: its two result arrays are the reference's. -/
module

public import proofs.«01_k».proof.Proof.PoolTile
public import proofs.«01_k».proof.Proof.PoolRef
public import Idealize.ShloMosaic.Lib.Pointwise
public import Idealize.ShloMosaic.Lib.IdealHost

@[expose] public section

set_option maxRecDepth 16384

noncomputable section

namespace Cert.Pool

open Cert.Kernel4Ideal.Facts Cert.Ffn
open Idealize.ShloMosaic Cert.Kernel4Ideal Cert.Kernel4Ideal.Gen Idealize.ShloMosaic.TcCoe Idealize.SL.Sem

/-! ## The prepared arrays and the blocks -/

theorem coords_eq : ∀ t : Fin grid0.N, (grid0.coords t 1).val = t.val % 8 := by decide +kernel
theorem idx0 : ∀ t : Fin grid0.N, win0_0.index t = ![t.val / 8, t.val % 8, 0] := by decide +kernel
theorem idx1 : ∀ t : Fin grid0.N, win0_1.index t = ![t.val / 8, 8 * (t.val % 8) - 1, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0, 0] := by decide +kernel
theorem idx5 : ∀ t : Fin grid0.N, win0_5.index t = ![0, 0] := by decide +kernel
theorem idx6 : ∀ t : Fin grid0.N, win0_6.index t = ![t.val / 8, t.val % 8, 0] := by decide +kernel
theorem idx7 : ∀ t : Fin grid0.N, win0_7.index t = ![t.val / 8, 0, 0] := by decide +kernel
theorem flush7 : ∀ t : Fin cfg0.N, (cfg0.win 7).flush t = true → t.val % 8 = 7 := by decide +kernel

variable (m : (ℓ : Loc nD τ sig) → Buf (Elt Ideal) ℓ) (c : Dev nD) (t : Fin cfg0.N)

abbrev ax : FVec Ideal S8x2048x1024 .f32 := m ((c : Thread nD τ).loc main_arg0)
abbrev ag : FVec Ideal S1024 .f32 := m ((c : Thread nD τ).loc main_arg1)
abbrev ah : FVec Ideal S1024 .f32 := m ((c : Thread nD τ).loc main_arg2)
abbrev aw : FVec Ideal S4x256x256 .f32 := m ((c : Thread nD τ).loc main_arg3)
abbrev asc : FVec Ideal S1024 .f32 := m ((c : Thread nD τ).loc main_arg4)

theorem V_g : (V m c main_v0 : FVec Ideal S1x1024 .f32) = shapeCast S1x1024 (ag m c) shapeCasts_S1024_S1x1024 := by
  show StableHlo.after _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_h : (V m c main_v1 : FVec Ideal S1x1024 .f32) = shapeCast S1x1024 (ah m c) shapeCasts_S1024_S1x1024 := by
  show StableHlo.after _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_s : (V m c main_v3 : FVec Ideal S1x1024 .f32) = shapeCast S1x1024 (asc m c) shapeCasts_S1024_S1x1024 := by
  show StableHlo.after _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_w : (V m c main_v2 : FVec Ideal S4x256x256 .bf16) = truncf .bf16 (aw m c) bitsLt_bf16_f32 := by
  show StableHlo.after _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

/-- The batch of a point, and the position of a row of its tile. -/
def bat : Fin 8 := ⟨t.val / 8, by have h : t.val < 64 := t.isLt; omega⟩
def pos (r : Fin 256) : Fin 2048 := ⟨256 * (t.val % 8) + r.val, by have := r.isLt; omega⟩

theorem x_at (r : Fin 256) (k : Fin 1024) : ((iblk m c 0 t : Vec Ideal S1x256x1024 .f32) (ix3 0 r k) : EReal) = ax m c (ix3 (bat t) (pos t r) k) := by
  have e : (iblk m c 0 t : Vec Ideal S1x256x1024 .f32) (ix3 0 r k) = (V m c main_arg0 : FVec Ideal S8x2048x1024 .f32) (ix3 (bat t) (pos t r) k) := by
    unfold iblk
    generalize V m c (Pipeline.arrRef spec0 0) = X
    unfold bat pos
    blk_ext [idx0 t]
  rw [e, V_main_arg0]

theorem before_at (h : t.val % 8 ≠ 0) (r : Fin 32) (k : Fin 1024) (n : Fin 2048) (hn : n.val + 32 = 256 * (t.val % 8) + r.val) :
    ((iblk m c 1 t : Vec Ideal S1x32x1024 .f32) (ix3 0 r k) : EReal) = ax m c (ix3 (bat t) n k) := by
  have e : (iblk m c 1 t : Vec Ideal S1x32x1024 .f32) (ix3 0 r k) = (V m c main_arg0 : FVec Ideal S8x2048x1024 .f32) (ix3 (bat t) n k) := by
    unfold iblk
    generalize V m c (Pipeline.arrRef spec0 1) = X
    have en : n = ⟨(8 * (t.val % 8) - 1) * 32 + r.val, by have := r.isLt; omega⟩ := Fin.ext (by show n.val = (8 * (t.val % 8) - 1) * 32 + r.val; omega)
    rw [en]
    unfold bat
    blk_ext [idx1 t]
  rw [e, V_main_arg0]

theorem g_at (k : Fin 1024) : ((iblk m c 2 t : Vec Ideal S1x1024 .f32) (ix2 0 k) : EReal) = ag m c (ix1 k) := by
  have e : (iblk m c 2 t : Vec Ideal S1x1024 .f32) (ix2 0 k) = (V m c main_v0 : FVec Ideal S1x1024 .f32) (ix2 0 k) := by
    unfold iblk
    generalize V m c (Pipeline.arrRef spec0 2) = X
    blk_ext [idx2 t]
  rw [e, V_g]
  pointwise

theorem h_at (k : Fin 1024) : ((iblk m c 3 t : Vec Ideal S1x1024 .f32) (ix2 0 k) : EReal) = ah m c (ix1 k) := by
  have e : (iblk m c 3 t : Vec Ideal S1x1024 .f32) (ix2 0 k) = (V m c main_v1 : FVec Ideal S1x1024 .f32) (ix2 0 k) := by
    unfold iblk
    generalize V m c (Pipeline.arrRef spec0 3) = X
    blk_ext [idx3 t]
  rw [e, V_h]
  pointwise

theorem s_at (k : Fin 1024) : ((iblk m c 5 t : Vec Ideal S1x1024 .f32) (ix2 0 k) : EReal) = asc m c (ix1 k) := by
  have e : (iblk m c 5 t : Vec Ideal S1x1024 .f32) (ix2 0 k) = (V m c main_v3 : FVec Ideal S1x1024 .f32) (ix2 0 k) := by
    unfold iblk
    generalize V m c (Pipeline.arrRef spec0 5) = X
    blk_ext [idx5 t]
  rw [e, V_s]
  pointwise

theorem w_at (g : Fin 4) (l q : Fin 256) : ((iblk m c 4 t : Vec Ideal S4x256x256 .bf16) (ix3 g l q) : EReal) = aw m c (ix3 g l q) := by
  have e : (iblk m c 4 t : Vec Ideal S4x256x256 .bf16) (ix3 g l q) = (V m c main_v2 : FVec Ideal S4x256x256 .bf16) (ix3 g l q) := by
    unfold iblk
    generalize V m c (Pipeline.arrRef spec0 4) = X
    blk_ext [idx4 t]
  rw [e, V_w]
  pointwise

/-! ## The blocks as rows of a batch -/

abbrev rowsOf (b : Fin 8) (n : Fin 2048) (k : Fin 1024) : EReal := ax m c (ix3 b n k)
abbrev gainOf (k : Fin 1024) : EReal := ag m c (ix1 k)
abbrev outGainOf (k : Fin 1024) : EReal := ah m c (ix1 k)
abbrev poolOf (g : Fin 4) (l q : Fin 256) : EReal := aw m c (ix3 g l q)
abbrev scaleOf (k : Fin 1024) : EReal := asc m c (ix1 k)

/-- A tile's rows with the 32 before them are a stretch of the batch's sequence. -/
theorem tile_seq (q : ℕ) (hq : q < 288) (j : Fin 1024) :
    tileRows ((grid0.coords t 1).val = 0) (iblk m c 1 t) (iblk m c 0 t) (fun k => (iblk m c 2 t : Vec Ideal S1x1024 .f32) (ix2 0 k)) q j
      = seq (rowsOf m c (bat t)) (gainOf m c) (256 * (t.val % 8) + q) j := by
  have eg : (fun k => (iblk m c 2 t : Vec Ideal S1x1024 .f32) (ix2 0 k)) = gainOf m c := funext fun k => g_at m c t k
  have hc := coords_eq t
  unfold tileRows
  rw [eg]
  by_cases h1 : q < 32
  · rw [dif_pos h1]
    by_cases h2 : t.val % 8 = 0
    · rw [if_pos (by rw [hc]; exact h2), seq_before _ _ _ (by omega)]
    · rw [if_neg (by rw [hc]; exact h2), seq_in _ _ (⟨256 * (t.val % 8) + q - 32, by omega⟩ : Fin 2048) _ (by show _ = 32 + (256 * (t.val % 8) + q - 32); omega)]
      congr 1
      funext k
      exact before_at m c t h2 ⟨q, h1⟩ k _ (by show 256 * (t.val % 8) + q - 32 + 32 = 256 * (t.val % 8) + q; omega)
  · rw [dif_neg h1, dif_pos (by omega), seq_in _ _ (pos t ⟨q - 32, by omega⟩) _ (by show _ = 32 + (256 * (t.val % 8) + (q - 32)); omega)]
    congr 1
    funext k
    exact x_at m c t ⟨q - 32, by omega⟩ k

/-- A tile's mixed row is the batch's. -/
theorem tile_mixed (s : Fin 256) (j : Fin 1024) :
    tileMix (grid0.coords t) (iblk m c 0 t) (iblk m c 1 t) (iblk m c 2 t) (iblk m c 3 t) (iblk m c 4 t) (iblk m c 5 t) s j
      = mixed (rowsOf m c (bat t)) (gainOf m c) (outGainOf m c) (poolOf m c) (scaleOf m c) (pos t s) j := by
  have hs := s.isLt
  have ex : (fun k => (iblk m c 0 t : Vec Ideal S1x256x1024 .f32) (ix3 0 s k)) = rowsOf m c (bat t) (pos t s) := funext fun k => x_at m c t s k
  have eg : (fun k => (iblk m c 3 t : Vec Ideal S1x1024 .f32) (ix2 0 k)) = outGainOf m c := funext fun k => h_at m c t k
  have ew : (fun g l q => (iblk m c 4 t : Vec Ideal S4x256x256 .bf16) (ix3 g l q)) = poolOf m c :=
    funext fun g => funext fun l => funext fun q => w_at m c t g l q
  have es : (fun k => (iblk m c 5 t : Vec Ideal S1x1024 .f32) (ix2 0 k)) = scaleOf m c := funext fun k => s_at m c t k
  unfold mixed tileMix
  rw [ex, eg, ew, es, show 256 * (grid0.coords t 1).val + s.val = (pos t s).val from by rw [coords_eq t]; rfl]
  refine (mix_shift _ (seq (rowsOf m c (bat t)) (gainOf m c)) _ (pos t s).val (32 + (pos t s).val) (32 + s.val) _ _ _ (fun k hk j => ?_) j).symm
  rw [tile_seq m c t (32 + s.val - k) (by omega) j]
  congr 1
  show 32 + (256 * (t.val % 8) + s.val) - k = 256 * (t.val % 8) + (32 + s.val - k)
  omega

theorem outB_at (h : t.val % 8 = 7) : (outsAt0 m c t.val t.isLt).1 = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h) (iblk m c 0 t) (iblk m c 1 t) (iblk m c 2 t) (iblk m c 3 t) (iblk m c 4 t) (iblk m c 5 t) := by
  rw [outsAt0_B m c t h]

theorem outA_at (h : ¬t.val % 8 = 7) : (outsAt0 m c t.val t.isLt).1 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun g => h ((hcond0_0 t).mp g)) (iblk m c 0 t) (iblk m c 1 t) (iblk m c 2 t) (iblk m c 3 t) (iblk m c 4 t) (iblk m c 5 t) := by
  rw [outsAt0_A m c t h]

theorem tailB_at (h : t.val % 8 = 7) : (outsAt0 m c t.val t.isLt).2 = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h) (iblk m c 0 t) (iblk m c 1 t) (iblk m c 2 t) (iblk m c 3 t) (iblk m c 4 t) (iblk m c 5 t) := by
  rw [outsAt0_B m c t h]

theorem out_apply (r : Fin 256) (j : Fin 1024) :
    (outsAt0 m c t.val t.isLt).1 (ix3 0 r j)
      = mixed (rowsOf m c (bat t)) (gainOf m c) (outGainOf m c) (poolOf m c) (scaleOf m c) (pos t r) j := by
  rw [← tile_mixed m c t r j]
  by_cases h : t.val % 8 = 7
  · rw [outB_at m c t h, outB_apply]
  · rw [outA_at m c t h, outA_apply]

theorem tail_apply (h : t.val % 8 = 7) (r : Fin 16) (j : Fin 1024) :
    (outsAt0 m c t.val t.isLt).2 (ix3 0 r j)
      = rms (rowsOf m c (bat t) ⟨2032 + r.val, by have := r.isLt; omega⟩) (gainOf m c) j := by
  have hr := r.isLt
  have eg : (fun k => (iblk m c 2 t : Vec Ideal S1x1024 .f32) (ix2 0 k)) = gainOf m c := funext fun k => g_at m c t k
  have e : pos t ⟨240 + r.val, by omega⟩ = ⟨2032 + r.val, by omega⟩ := Fin.ext (by show 256 * (t.val % 8) + (240 + r.val) = 2032 + r.val; omega)
  rw [tailB_at m c t h, outB_tail, eg, ← e]
  congr 1
  funext k
  exact x_at m c t _ k

/-! ## The results -/

/-- The two result arrays. -/
def G : FVec Ideal S8x2048x1024 .f32 := fun i =>
  mixed (rowsOf m c (i 0)) (gainOf m c) (outGainOf m c) (poolOf m c) (scaleOf m c) (i 1) (i 2)
def H : FVec Ideal S8x16x1024 .f32 := fun i =>
  rms (rowsOf m c (i 0) ⟨2032 + (i 1).val, by have h : (i 1).val < 16 := (i 1).isLt; omega⟩) (gainOf m c) (i 2)

theorem arr : (dats m 0 c).arrAt 6 cfg0.N = G m c := by
  refine (dats m 0 c).arrAt_eq_of_covers 6 (G m c) (by decide +kernel) (fun t hf i => ?_)
  idx_vars i
  obtain rfl : i0 = 0 := Subsingleton.elim _ _
  blk_simp
  rw [after0_6]
  refine (out_apply m c t i1 i2).trans ?_
  show G m c (ix3 (bat t) (pos t i1) i2) = _
  refine congrArg (G m c) ?_
  unfold bat pos
  blk_ext [idx6 t]

theorem arr_tail : (dats m 0 c).arrAt 7 cfg0.N = H m c := by
  refine (dats m 0 c).arrAt_eq_of_covers 7 (H m c) (by decide +kernel) (fun t hf i => ?_)
  idx_vars i
  obtain rfl : i0 = 0 := Subsingleton.elim _ _
  blk_simp
  rw [after0_7]
  refine (tail_apply m c t (flush7 t hf) i1 i2).trans ?_
  show H m c (ix3 (bat t) i1 i2) = _
  refine congrArg (H m c) ?_
  unfold bat
  blk_ext [idx7 t]

theorem result : (dats m 0 c).arrAt 6 cfg0.N
    = Cert.Reference4Ideal.Read.val_main_v141 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  rw [arr]
  funext i
  idx_vars i
  exact (Cert.Reference4Ideal.Pool.mixed_at (ax m c) (ag m c) (ah m c) (aw m c) (asc m c) i0 i1 i2).symm

theorem tail : (dats m 0 c).arrAt 7 cfg0.N
    = Cert.Reference4Ideal.Read.val_main_v142 (F := Ideal) (m ((c : Thread nD τ).loc main_arg0)) (m ((c : Thread nD τ).loc main_arg1)) := by
  rw [arr_tail]
  funext i
  idx_vars i
  exact (Cert.Reference4Ideal.Pool.tail_at (ax m c) (ag m c) i0 i1 i2).symm

end Cert.Pool
-- ==== Proof.InRows.lean ====
/- The steps of the projection into queries, keys, values, gates and the convolution's input, on one row; and the kernel's vector forms of
   them, for any number of rows. -/
module

public import proofs.«01_k».proof.Proof.FfnRows

@[expose] public section

set_option maxRecDepth 16384

noncomputable section

namespace Cert.InProj

open Idealize.ShloMosaic Cert.Ffn

/-- A stack of one matrix. -/
abbrev One (a b : Nat) : Shape := ⟨3, ![1, a, b]⟩

/-! ## One row -/

/-- The factor of the queries, as the word the program holds. -/
def qscale : EReal := Ideal.ofBits .f32 0x3E38AA3B#32

/-- The normed row times the weights. -/
def proj (x g : Fin 1024 → EReal) (w : Fin 1024 → Fin 2568 → EReal) (j : Fin 2568) : EReal := ∑ k, rms x g k * w k j

/-- The logarithm of the logistic function. -/
def lsig (x : EReal) : EReal := min x 0 - Ideal.log1p (Ideal.exp (0 - max x (-x)))

/-- `a / (1 + e^(-b))`. -/
def glu (a b : EReal) : EReal := a * Ideal.div 1 (1 + Ideal.exp (-b))

/-- The parts of a projected row. -/
def query (x g : Fin 1024 → EReal) (w : Fin 1024 → Fin 2568 → EReal) (j : Fin 512) : EReal := proj x g w ⟨j.val, by omega⟩ * qscale
def key (x g : Fin 1024 → EReal) (w : Fin 1024 → Fin 2568 → EReal) (j : Fin 512) : EReal := proj x g w ⟨512 + j.val, by omega⟩
def value (x g : Fin 1024 → EReal) (w : Fin 1024 → Fin 2568 → EReal) (j : Fin 512) : EReal := proj x g w ⟨1024 + j.val, by omega⟩
def logf (x g : Fin 1024 → EReal) (w : Fin 1024 → Fin 2568 → EReal) (b : Fin 8 → EReal) (h : Fin 8) : EReal :=
  lsig (proj x g w ⟨1536 + h.val, by omega⟩ + b h)
def conv (x g : Fin 1024 → EReal) (w : Fin 1024 → Fin 2568 → EReal) (j : Fin 512) : EReal :=
  glu (proj x g w ⟨1544 + j.val, by omega⟩) (proj x g w ⟨2056 + j.val, by omega⟩)

theorem log1p_exp_ne_bot (y : EReal) : Ideal.log1p (Ideal.exp y) ≠ ⊥ := by
  unfold Ideal.log1p
  induction y using EReal.rec with
  | bot =>
    rw [Ideal.exp_bot, add_zero, ← EReal.coe_one, Ideal.log_coe, if_neg (by norm_num)]
    exact EReal.coe_ne_bot _
  | top =>
    rw [Ideal.exp_top, EReal.add_top_of_ne_bot (by decide), Ideal.log_top]
    decide
  | coe r =>
    have h := Real.exp_pos r
    rw [Ideal.exp_coe, ← EReal.coe_one, ← EReal.coe_add, Ideal.log_coe, if_neg (by linarith)]
    exact EReal.coe_ne_bot _

/-- The other way of writing it: minus the logarithm of one plus `e^(-x)`. -/
theorem lsig_eq (x : EReal) : -(max (-x) 0 + Ideal.log1p (Ideal.exp (-(max (-x - 0) (-(-x - 0)))))) = lsig x := by
  have e : (0 : EReal) - max x (-x) = -(max (-x - 0) (-(-x - 0))) := by rw [zero_sub, sub_zero, neg_neg, max_comm]
  unfold lsig
  rw [e]
  generalize hL : Ideal.log1p (Ideal.exp (-(max (-x - 0) (-(-x - 0))))) = L
  have hb : L ≠ ⊥ := hL ▸ log1p_exp_ne_bot _
  have h0 : max (-x) 0 ≠ ⊥ := ne_of_gt (lt_of_lt_of_le (EReal.bot_lt_coe 0) (le_max_right _ _))
  rw [EReal.neg_add (Or.inl h0) (Or.inr hb)]
  congr 1
  rcases le_total x 0 with h | h
  · rw [min_eq_left h, max_eq_left (by rw [EReal.le_neg]; simpa using h), neg_neg]
  · rw [min_eq_right h, max_eq_right (by rw [EReal.neg_le]; simpa using h), neg_zero]

/-- A choice on whether a value differs from itself. -/
theorem select_self (d a b : EReal) : Scalar.select (α := EReal) (FloatOps.cmpf (F := Ideal) (φ := .f32) .une d d) a b = b := by
  have h : FloatOps.cmpf (F := Ideal) (φ := .f32) .une d d = 0#1 := by
    show BitVec.ofBool (decide (d ≠ d)) = 0#1
    simp
  rw [h]
  rfl

/-! ## The kernel's vector forms -/

theorem up_apply {a b : Nat} {φ : FTy} (v : FVec Ideal (Mat a b) φ) (h : (Mat a b).ShapeCasts (One a b)) (r : Fin a) (j : Fin b) :
    shapeCast (One a b) v h (ix3 0 r j) = v (ix2 r j) :=
  shapeCast_apply v h (ix3 0 r j) (ix2 r j) (by
    rw [Shape.rowMajor_val_two, Shape.rowMajor_val_three]
    show r.val * b + j.val = (0 * a + r.val) * b + j.val
    rw [Nat.zero_mul, Nat.zero_add])

theorem down_apply {a b : Nat} {φ : FTy} (v : FVec Ideal (One a b) φ) (h : (One a b).ShapeCasts (Mat a b)) (r : Fin a) (j : Fin b) :
    shapeCast (Mat a b) v h (ix2 r j) = v (ix3 0 r j) :=
  shapeCast_apply v h (ix2 r j) (ix3 0 r j) (by
    rw [Shape.rowMajor_val_two, Shape.rowMajor_val_three]
    show (0 * a + r.val) * b + j.val = r.val * b + j.val
    rw [Nat.zero_mul, Nat.zero_add])

theorem cut_apply {n d w : Nat} {φ : FTy} (z : FVec Ideal (Mat n d) φ) (o : Nat) (h : (Mat n d).Slices ![0, o] (Mat n w)) (r : Fin n) (j : Fin w)
    (J : Fin d) (hJ : J.val = o + j.val) : extractStridedSlice (Mat n w) ![0, o] z h (ix2 r j) = z (ix2 r J) :=
  extractStridedSlice_apply _ z h _ _ (fun a => by
    match a with
    | ⟨0, _⟩ => show r.val = 0 + r.val; omega
    | ⟨1, _⟩ => exact hJ)

theorem top_apply {n d p : Nat} {φ : FTy} (z : FVec Ideal (Mat n d) φ) (h : (Mat n d).Slices ![0, 0] (Mat p d)) (r : Fin p) (j : Fin d)
    (R : Fin n) (hR : R.val = r.val) : extractStridedSlice (Mat p d) ![0, 0] z h (ix2 r j) = z (ix2 R j) :=
  extractStridedSlice_apply _ z h _ _ (fun a => by
    match a with
    | ⟨0, _⟩ => show R.val = 0 + r.val; omega
    | ⟨1, _⟩ => show j.val = 0 + j.val; omega)

theorem flip_apply {a b : Nat} {φ : FTy} (v : FVec Ideal (Mat a b) φ) (h : (Mat a b).Transposes [1, 0] (Mat b a)) (r : Fin b) (j : Fin a) :
    transpose (Mat b a) [1, 0] v h (ix2 r j) = v (ix2 j r) :=
  transpose_apply _ v h _ _ (fun c => by
    match c with
    | ⟨0, _⟩ => rfl
    | ⟨1, _⟩ => rfl)

/-- The product of the normed rows with all the columns. -/
def zV {n : Nat} (x : FVec Ideal (One n 1024) .f32) (g : FVec Ideal (Mat 1 1024) .f32) (w : FVec Ideal (Mat 1024 2688) .bf16)
    (hx : (One n 1024).ShapeCasts (Mat n 1024)) (hr : (Mat n 1024).Reduces [1] (Row n)) (hc : (Row n).ShapeCasts (Mat n 1))
    (hb : (Mat n 1).Broadcasts (Mat n 1024)) (hg : (Mat 1 1024).Broadcasts (Mat n 1024)) (hl : FTy.bf16.bits < FTy.f32.bits) : FVec Ideal (Mat n 2688) .f32 :=
  matmul (DotDims.plain n 1024 2688) none (truncf .bf16 (rmsV (shapeCast (Mat n 1024) x hx) g hr hc hb hg) hl) w (constant (F := Ideal) _ .f32 0x00000000#32)

theorem zV_apply {n : Nat} (x : FVec Ideal (One n 1024) .f32) (g : FVec Ideal (Mat 1 1024) .f32) (w : FVec Ideal (Mat 1024 2688) .bf16)
    (hx : (One n 1024).ShapeCasts (Mat n 1024)) (hr : (Mat n 1024).Reduces [1] (Row n)) (hc : (Row n).ShapeCasts (Mat n 1))
    (hb : (Mat n 1).Broadcasts (Mat n 1024)) (hg : (Mat 1 1024).Broadcasts (Mat n 1024)) (hl : FTy.bf16.bits < FTy.f32.bits) (r : Fin n) (j : Fin 2688) :
    zV x g w hx hr hc hb hg hl (ix2 r j)
      = ∑ k : Fin 1024, rms (fun k => x (ix3 0 r k)) (fun k => g (ix2 0 k)) k * w (ix2 k j) := by
  unfold zV
  rw [plain_apply]
  refine Finset.sum_congr rfl fun k _ => ?_
  refine congrArg (· * w (ix2 k j)) ?_
  refine (rmsV_apply (shapeCast (Mat n 1024) x hx) g hr hc hb hg r k).trans ?_
  refine congrArg (fun f => rms f _ k) (funext fun l => ?_)
  exact down_apply x hx r l

/-- The columns of the product at one of the weights' columns. -/
theorem zV_col {n : Nat} (x : FVec Ideal (One n 1024) .f32) (g : FVec Ideal (Mat 1 1024) .f32) (w : FVec Ideal (Mat 1024 2688) .bf16)
    (hx : (One n 1024).ShapeCasts (Mat n 1024)) (hr : (Mat n 1024).Reduces [1] (Row n)) (hc : (Row n).ShapeCasts (Mat n 1))
    (hb : (Mat n 1).Broadcasts (Mat n 1024)) (hg : (Mat 1 1024).Broadcasts (Mat n 1024)) (hl : FTy.bf16.bits < FTy.f32.bits) (r : Fin n) (j : Fin 2688)
    (X G : Fin 1024 → EReal) (W : Fin 1024 → Fin 2568 → EReal) (J : Fin 2568) (eX : ∀ k, x (ix3 0 r k) = X k) (eG : ∀ k, g (ix2 0 k) = G k)
    (eW : ∀ k, w (ix2 k j) = W k J) : zV x g w hx hr hc hb hg hl (ix2 r j) = proj X G W J := by
  rw [zV_apply, show (fun k => x (ix3 0 r k)) = X from funext eX, show (fun k => g (ix2 0 k)) = G from funext eG]
  exact Finset.sum_congr rfl fun k _ => congrArg (rms X G k * ·) (eW k)

/-- The gated convolution input of `n` rows. -/
def gluV {n : Nat} (a b : FVec Ideal (Mat n 512) .f32) : FVec Ideal (Mat n 512) .f32 :=
  mulf a (divf (broadcast (Mat n 512) (Scalar.ofBits .f32 0x3F800000#32))
    (addf (broadcast (Mat n 512) (Scalar.ofBits .f32 0x3F800000#32)) (exp (subf (broadcast (Mat n 512) (Scalar.ofBits .f32 0x00000000#32)) b))))

theorem gluV_apply {n : Nat} (a b : FVec Ideal (Mat n 512) .f32) (r : Fin n) (j : Fin 512) : gluV a b (ix2 r j) = glu (a (ix2 r j)) (b (ix2 r j)) := by
  pointwise [gluV, one_word]
  rw [glu, zero_sub]

/-- The log gates of `n` rows, before the transpose. -/
def lsigV {n : Nat} (z : FVec Ideal (Mat n 128) .f32) (b : FVec Ideal (Mat 1 128) .f32) (hb : (Mat 1 128).Broadcasts (Mat n 128)) : FVec Ideal (Mat n 128) .f32 :=
  subf (minimumf (addf z (broadcastTo (Mat n 128) b hb)) (broadcast (Mat n 128) (Scalar.ofBits .f32 0x00000000#32)))
    (log1p (exp (subf (broadcast (Mat n 128) (Scalar.ofBits .f32 0x00000000#32)) (absf (addf z (broadcastTo (Mat n 128) b hb))))))

theorem lsigV_apply {n : Nat} (z : FVec Ideal (Mat n 128) .f32) (b : FVec Ideal (Mat 1 128) .f32) (hb : (Mat 1 128).Broadcasts (Mat n 128)) (r : Fin n) (j : Fin 128) :
    lsigV z b hb (ix2 r j) = lsig (z (ix2 r j) + b (ix2 0 j)) := by
  have e : broadcastTo (Mat n 128) b hb (ix2 r j) = b (ix2 0 j) := broadcastTo_apply b hb (ix2 r j) (ix2 0 j) (fun a => by
    match a with
    | ⟨0, _⟩ => rfl
    | ⟨1, _⟩ => rfl)
  have z0 : Scalar.ofBits (F := Ideal) .f32 0x00000000#32 = (0 : EReal) := Ideal.ofBits_zero_f32
  unfold lsigV
  rw [subf_apply, minimumf_apply, log1p_apply, exp_apply, subf_apply, absf_apply, addf_apply, e]
  show min _ (Scalar.ofBits (F := Ideal) .f32 0x00000000#32) - Ideal.log1p (Ideal.exp (Scalar.ofBits (F := Ideal) .f32 0x00000000#32 - max _ _)) = _
  rw [z0]
  rfl

/-! ## The prepared weights -/

/-- The weights with the columns put in the kernel's order and zero columns after them. -/
def wideV (w : FVec Ideal (Mat 1024 2568) .f32) (z : FVec Ideal (Mat 1024 120) .f32) (h1 : (Mat 1024 2568).Slices ![0, 0] (Mat 1024 1536))
    (h2 : (Mat 1024 2568).Slices ![0, 1544] (Mat 1024 1024)) (h3 : (Mat 1024 2568).Slices ![0, 1536] (Mat 1024 8))
    (hc : Shape.Concatenates [Mat 1024 1536, Mat 1024 1024, Mat 1024 8, Mat 1024 120] (Mat 1024 2688) 1) (hl : FTy.bf16.bits < FTy.f32.bits) :
    FVec Ideal (Mat 1024 2688) .bf16 :=
  truncf .bf16 (concatenate (Mat 1024 2688) 1 [⟨Mat 1024 1536, extractStridedSlice (Mat 1024 1536) ![0, 0] w h1⟩,
    ⟨Mat 1024 1024, extractStridedSlice (Mat 1024 1024) ![0, 1544] w h2⟩, ⟨Mat 1024 8, extractStridedSlice (Mat 1024 8) ![0, 1536] w h3⟩,
    ⟨Mat 1024 120, z⟩] hc : FVec Ideal (Mat 1024 2688) .f32) hl

variable (w : FVec Ideal (Mat 1024 2568) .f32) (z : FVec Ideal (Mat 1024 120) .f32) (h1 : (Mat 1024 2568).Slices ![0, 0] (Mat 1024 1536))
    (h2 : (Mat 1024 2568).Slices ![0, 1544] (Mat 1024 1024)) (h3 : (Mat 1024 2568).Slices ![0, 1536] (Mat 1024 8))
    (hc : Shape.Concatenates [Mat 1024 1536, Mat 1024 1024, Mat 1024 8, Mat 1024 120] (Mat 1024 2688) 1) (hl : FTy.bf16.bits < FTy.f32.bits)

/-- The same columns before the rounding. -/
def joinV : FVec Ideal (Mat 1024 2688) .f32 :=
  concatenate (Mat 1024 2688) 1 [⟨Mat 1024 1536, extractStridedSlice (Mat 1024 1536) ![0, 0] w h1⟩,
    ⟨Mat 1024 1024, extractStridedSlice (Mat 1024 1024) ![0, 1544] w h2⟩, ⟨Mat 1024 8, extractStridedSlice (Mat 1024 8) ![0, 1536] w h3⟩,
    ⟨Mat 1024 120, z⟩] hc

theorem wide_a (k : Fin 1024) (J : Fin 2688) (S : Fin 2568) (h : J.val < 1536) (hS : S.val = J.val) : wideV w z h1 h2 h3 hc hl (ix2 k J) = w (ix2 k S) := by
  have e : joinV w z h1 h2 h3 hc (ix2 k J) = extractStridedSlice (Mat 1024 1536) ![0, 0] w h1 (ix2 k (⟨J.val, by omega⟩ : Fin 1536)) := by
    unfold joinV
    exact concatenate_apply_piece (t := Mat 1024 2688) 1 _ _ (ix2 k J) 0 (by show 0 < 4; omega) (Mat 1024 1536) _ rfl rfl 0 rfl
      (ix2 k (⟨J.val, by omega⟩ : Fin 1536)) (fun b hb => by
        match b with
        | ⟨0, _⟩ => rfl
        | ⟨1, _⟩ => exact absurd rfl hb) (by show 0 + (J.val) = J.val; omega)
  exact Eq.trans e (cut_apply w 0 h1 k _ S (by show S.val = 0 + (J.val); omega))

theorem wide_b (k : Fin 1024) (J : Fin 2688) (S : Fin 2568) (h : 1536 ≤ J.val) (h' : J.val < 2560) (hS : S.val = J.val + 8) : wideV w z h1 h2 h3 hc hl (ix2 k J) = w (ix2 k S) := by
  have e : joinV w z h1 h2 h3 hc (ix2 k J) = extractStridedSlice (Mat 1024 1024) ![0, 1544] w h2 (ix2 k (⟨J.val - 1536, by omega⟩ : Fin 1024)) := by
    unfold joinV
    exact concatenate_apply_piece (t := Mat 1024 2688) 1 _ _ (ix2 k J) 1 (by show 1 < 4; omega) (Mat 1024 1024) _ rfl rfl 1536 rfl
      (ix2 k (⟨J.val - 1536, by omega⟩ : Fin 1024)) (fun b hb => by
        match b with
        | ⟨0, _⟩ => rfl
        | ⟨1, _⟩ => exact absurd rfl hb) (by show 1536 + (J.val - 1536) = J.val; omega)
  exact Eq.trans e (cut_apply w 1544 h2 k _ S (by show S.val = 1544 + (J.val - 1536); omega))

theorem wide_c (k : Fin 1024) (J : Fin 2688) (S : Fin 2568) (h : 2560 ≤ J.val) (h' : J.val < 2568) (hS : S.val + 1024 = J.val) : wideV w z h1 h2 h3 hc hl (ix2 k J) = w (ix2 k S) := by
  have e : joinV w z h1 h2 h3 hc (ix2 k J) = extractStridedSlice (Mat 1024 8) ![0, 1536] w h3 (ix2 k (⟨J.val - 2560, by omega⟩ : Fin 8)) := by
    unfold joinV
    exact concatenate_apply_piece (t := Mat 1024 2688) 1 _ _ (ix2 k J) 2 (by show 2 < 4; omega) (Mat 1024 8) _ rfl rfl 2560 rfl
      (ix2 k (⟨J.val - 2560, by omega⟩ : Fin 8)) (fun b hb => by
        match b with
        | ⟨0, _⟩ => rfl
        | ⟨1, _⟩ => exact absurd rfl hb) (by show 2560 + (J.val - 2560) = J.val; omega)
  exact Eq.trans e (cut_apply w 1536 h3 k _ S (by show S.val = 1536 + (J.val - 2560); omega))

/-- The gates' biases as a row, with zeros after them. -/
theorem bias_at (b : FVec Ideal (Row 8) .f32) (z : FVec Ideal (Row 120) .f32) (hc : Shape.Concatenates [Row 8, Row 120] (Row 128) 0)
    (hs : (Row 128).ShapeCasts (Mat 1 128)) (h : Fin 8) (J : Fin 128) (hJ : J.val = h.val) :
    shapeCast (Mat 1 128) (concatenate (Row 128) 0 [⟨Row 8, b⟩, ⟨Row 120, z⟩] hc : FVec Ideal (Row 128) .f32) hs (ix2 0 J) = b (ix1 h) := by
  refine (shapeCast_apply _ hs (ix2 0 J) (ix1 J) (by
    rw [Shape.rowMajor_val_one, Shape.rowMajor_val_two]
    show J.val = 0 * 128 + J.val
    omega)).trans ?_
  exact concatenate_pair_apply_left (t := Row 128) (s₁ := Row 8) (s₂ := Row 120) 0 _ _ hc (ix1 J) rfl (ix1 h) (fun a => by
    match a with
    | ⟨0, _⟩ => exact hJ.symm)

end Cert.InProj
-- ==== Proof.InPTile.lean ====
/- The projection on the prompt: the blocks one grid point writes, entry by entry. -/
module

public import proofs.«01_k».proof.Proof.InRows
public import proofs.«01_k».proof.Proof.Gen.Kernel5Ideal.Value
public import Idealize.ShloMosaic.Lib.Pointwise
public import Idealize.ShloMosaic.Lib.Pipeline.ValueKit

@[expose] public section

set_option maxRecDepth 16384

noncomputable section

namespace Cert.InP

open Cert.Kernel5Ideal.Facts Cert.Ffn Cert.InProj
open Idealize.ShloMosaic Cert.Kernel5Ideal Cert.Kernel5Ideal.Gen Idealize.ShloMosaic.TcCoe Idealize.SL.Sem

/-- The product of a block's normed rows with the prepared weights. -/
def tz (x : Vec Ideal S1x512x1024 .f32) (g : Vec Ideal S1x1024 .f32) (w : Vec Ideal S1024x2688 .bf16) : FVec Ideal S512x2688 .f32 :=
  zV x g w shapeCasts_S1x512x1024_S512x1024 reduces_S512x1024_S512 shapeCasts_S512_S512x1 broadcasts_S512x1_S512x1024 broadcasts_S1x1024_S512x1024 bitsLt_bf16_f32

section
variable (x : Vec Ideal S1x512x1024 .f32) (g : Vec Ideal S1x1024 .f32) (w : Vec Ideal S1024x2688 .bf16) (b : Vec Ideal S1x128 .f32)

theorem product_eq : k0_pay3 x g w = tz x g w := by
  unfold k0_pay3
  try dsimp only
  rw [shapeCast_self, shapeCast_self]
  rfl

theorem v_part (r : Fin 512) (j : Fin 512) : k0_pay4 x g w (ix2 r j) = tz x g w (ix2 r ⟨1024 + j.val, by have := j.isLt; omega⟩) := by
  unfold k0_pay4
  try dsimp only
  rw [product_eq]
  exact cut_apply _ 1024 _ r j _ rfl

theorem a_part (r : Fin 512) (j : Fin 512) : k0_pay5 x g w (ix2 r j) = tz x g w (ix2 r ⟨1536 + j.val, by have := j.isLt; omega⟩) := by
  unfold k0_pay5
  try dsimp only
  rw [product_eq]
  exact cut_apply _ 1536 _ r j _ rfl

theorem b_part (r : Fin 512) (j : Fin 512) : k0_pay6 x g w (ix2 r j) = tz x g w (ix2 r ⟨2048 + j.val, by have := j.isLt; omega⟩) := by
  unfold k0_pay6
  try dsimp only
  rw [product_eq]
  exact cut_apply _ 2048 _ r j _ rfl

theorem f_part (r : Fin 512) (j : Fin 128) : k0_pay7 x g w (ix2 r j) = tz x g w (ix2 r ⟨2560 + j.val, by have := j.isLt; omega⟩) := by
  unfold k0_pay7
  try dsimp only
  rw [product_eq]
  exact cut_apply _ 2560 _ r j _ rfl

theorem q_out (r : Fin 512) (j : Fin 512) : (k0_pay8 x g w (ix3 0 r j) : EReal) = tz x g w (ix2 r ⟨j.val, by have := j.isLt; omega⟩) * qscale := by
  unfold k0_pay8
  try dsimp only
  rw [up_apply, product_eq]
  show (extractStridedSlice _ _ _ _ _ : EReal) * Scalar.ofBits (F := Ideal) .f32 0x3E38AA3B#32 = _
  rw [cut_apply (tz x g w) 0 _ r j ⟨j.val, by have := j.isLt; omega⟩ (by show j.val = 0 + j.val; omega)]
  rfl

theorem k_part (j : Fin 512) (r : Fin 512) : k0_pay9 x g w (ix2 j r) = tz x g w (ix2 r ⟨512 + j.val, by have := j.isLt; omega⟩) := by
  unfold k0_pay9
  try dsimp only
  rw [product_eq, flip_apply]
  exact cut_apply _ 512 _ r j _ rfl

theorem k_out (j : Fin 512) (r : Fin 512) : k0_pay10 (k0_pay9 x g w) (ix3 0 j r) = tz x g w (ix2 r ⟨512 + j.val, by have := j.isLt; omega⟩) := by
  unfold k0_pay10
  try dsimp only
  rw [up_apply, k_part]

theorem v_out (j : Fin 512) (r : Fin 512) : k0_pay11 (k0_pay4 x g w) (ix3 0 j r) = tz x g w (ix2 r ⟨1024 + j.val, by have := j.isLt; omega⟩) := by
  unfold k0_pay11
  try dsimp only
  rw [up_apply, flip_apply, v_part]

theorem kb_out (j : Fin 512) (r : Fin 512) : (k0_pay12 (k0_pay9 x g w) (ix3 0 j r) : EReal) = tz x g w (ix2 r ⟨512 + j.val, by have := j.isLt; omega⟩) := by
  unfold k0_pay12
  try dsimp only
  rw [up_apply]
  exact k_part x g w j r

theorem vb_out (r : Fin 512) (j : Fin 512) : (k0_pay13 (k0_pay4 x g w) (ix3 0 r j) : EReal) = tz x g w (ix2 r ⟨1024 + j.val, by have := j.isLt; omega⟩) := by
  unfold k0_pay13
  try dsimp only
  rw [up_apply]
  exact v_part x g w r j

theorem u_out (r : Fin 512) (j : Fin 512) : k0_pay14 (k0_pay5 x g w) (k0_pay6 x g w) (ix3 0 r j)
    = glu (tz x g w (ix2 r ⟨1536 + j.val, by have := j.isLt; omega⟩)) (tz x g w (ix2 r ⟨2048 + j.val, by have := j.isLt; omega⟩)) := by
  unfold k0_pay14
  try dsimp only
  rw [up_apply]
  refine (gluV_apply (k0_pay5 x g w) (k0_pay6 x g w) r j).trans ?_
  rw [a_part, b_part]

theorem f_sum (r : Fin 512) (j : Fin 128) : lsigV (k0_pay7 x g w) b broadcasts_S1x128_S512x128 (ix2 r j)
    = lsig (tz x g w (ix2 r ⟨2560 + j.val, by have := j.isLt; omega⟩) + b (ix2 0 j)) := by
  rw [lsigV_apply, f_part]

theorem f_eq : (k0_pay18 (k0_pay16 (k0_pay7 x g w) b) (k0_pay17 (k0_pay7 x g w) b)) = extractStridedSlice S8x512 ![0, 0] (transpose S128x512 [1, 0] (lsigV (k0_pay7 x g w) b broadcasts_S1x128_S512x128)
    transposes_S512x128_p1_0_S128x512) slices_S128x512_o0_0_S8x512 := by
  unfold k0_pay18 k0_pay16 k0_pay17 k0_pay15
  try dsimp only
  rw [shapeCast_self]
  rfl

theorem f_out (h : Fin 8) (r : Fin 512) : k0_pay19 (k0_pay16 (k0_pay7 x g w) b) (k0_pay17 (k0_pay7 x g w) b) (ix3 0 h r)
    = lsig (tz x g w (ix2 r ⟨2560 + h.val, by have := h.isLt; omega⟩) + b (ix2 0 ⟨h.val, by have := h.isLt; omega⟩)) := by
  unfold k0_pay19
  try dsimp only
  rw [up_apply, f_eq]
  refine (top_apply _ slices_S128x512_o0_0_S8x512 h r (⟨h.val, by have := h.isLt; omega⟩ : Fin 128) rfl).trans ?_
  rw [flip_apply]
  exact f_sum x g w b r _

end

section
variable (c : Dev nD) (i : grid0.Coords) (a2 : Memref sig .tc .vmem S1x512x1024 .f32) (h2 : a2.IsWhole) (a3 : Memref sig .tc .vmem S1x1024 .f32) (h3 : a3.IsWhole) (a4 : Memref sig .tc .vmem S1024x2688 .bf16) (h4 : a4.IsWhole) (a5 : Memref sig .tc .vmem S1x128 .f32) (h5 : a5.IsWhole) (a6 : Memref sig .tc .vmem S128x128 .f32) (h6 : a6.IsWhole) (a7 : Memref sig .tc .vmem S1x512x512 .bf16) (h7 : a7.IsWhole) (a8 : Memref sig .tc .vmem S1x512x512 .f32) (h8 : a8.IsWhole) (a9 : Memref sig .tc .vmem S1x512x512 .f32) (h9 : a9.IsWhole) (a10 : Memref sig .tc .vmem S1x512x512 .bf16) (h10 : a10.IsWhole) (a11 : Memref sig .tc .vmem S1x512x512 .bf16) (h11 : a11.IsWhole) (a12 : Memref sig .tc .vmem S1x8x512 .f32) (h12 : a12.IsWhole) (a13 : Memref sig .tc .vmem S1x512x512 .f32) (h13 : a13.IsWhole) (a14 : Memref sig .tc .vmem S1x512x8 .f32) (h14 : a14.IsWhole) (a15 : Memref sig .tc .vmem S1x8x512 .f32) (h15 : a15.IsWhole) (a16 : Memref sig .tc .vmem S8x128 .f32) (h16 : a16.IsWhole)
   (x0 : Vec Ideal S1x512x1024 .f32) (x1 : Vec Ideal S1x1024 .f32) (x2 : Vec Ideal S1024x2688 .bf16) (x3 : Vec Ideal S1x128 .f32) (x4 : Vec Ideal S128x128 .f32) (xs0 : Vec Ideal S8x128 .f32)

theorem x_ld : (View.readAt (Elt Ideal) a2.view (Rect.unit (s := S1x512x1024) ![0, 0, 0] S1x512x1024.size inb_S1x512x1024_S1x512x1024_0_0_0).toLoadRect (h2.unread x0)) = x0 := by
  rw [View.readAt_eq_ld, h2.read_unread]
  exact View.ld_unit_lit _ x0 (by decide)

theorem g_ld : (View.readAt (Elt Ideal) a3.view (Rect.unit (s := S1x1024) ![0, 0] S1x1024.size inb_S1x1024_S1x1024_0_0).toLoadRect (h3.unread x1)) = x1 := by
  rw [View.readAt_eq_ld, h3.read_unread]
  exact View.ld_unit_lit _ x1 (by decide)

theorem w_ld : (View.readAt (Elt Ideal) a4.view (Rect.unit (s := S1024x2688) ![0, 0] S1024x2688.size inb_S1024x2688_S1024x2688_0_0).toLoadRect (h4.unread x2)) = x2 := by
  rw [View.readAt_eq_ld, h4.read_unread]
  exact View.ld_unit_lit _ x2 (by decide)

theorem b_ld : (View.readAt (Elt Ideal) a5.view (Rect.unit (s := S1x128) ![0, 0] S1x128.size inb_S1x128_S1x128_0_0).toLoadRect (h5.unread x3)) = x3 := by
  rw [View.readAt_eq_ld, h5.read_unread]
  exact View.ld_unit_lit _ x3 (by decide)

theorem outA_q (hc0 : cond0_0 i) (p : Fin 512) (s : Fin 512) :
    (out0_A_5 (F := Ideal) c i a2 h2 a3 h3 a4 h4 a5 h5 a6 h6 a7 h7 a8 h8 a9 h9 a10 h10 a11 h11 a12 h12 a13 h13 a14 h14 a15 h15 a16 h16 hc0 x0 x1 x2 x3 x4 (ix3 0 p s) : EReal) = tz x0 x1 x2 (ix2 p ⟨s.val, by have := s.isLt; omega⟩) * qscale := by
  unfold out0_A_5
  rw [View.read_writes_eq_canon _ _ _ (cover0_A_5 c i a2 h2 a3 h3 a4 h4 a5 h5 a6 h6 a7 h7 a8 h8 a9 h9 a10 h10 a11 h11 a12 h12 a13 h13 a14 h14 a15 h15 a16 h16 hc0 x0 x1 x2 x3 x4)]
  unfold kernelRun0_A
  try dsimp only
  rw [View.canon_cons_unit_lit _ _ _ (by decide)]
  refine Eq.trans (b := k0_pay8 (View.readAt (Elt Ideal) a2.view (Rect.unit (s := S1x512x1024) ![0, 0, 0] S1x512x1024.size inb_S1x512x1024_S1x512x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2)) (ix3 0 p s)) rfl ?_
  rw [x_ld, g_ld, w_ld]
  exact q_out x0 x1 x2 p s

theorem outA_k (hc0 : cond0_0 i) (p : Fin 512) (s : Fin 512) :
    (out0_A_6 (F := Ideal) c i a2 h2 a3 h3 a4 h4 a5 h5 a6 h6 a7 h7 a8 h8 a9 h9 a10 h10 a11 h11 a12 h12 a13 h13 a14 h14 a15 h15 a16 h16 hc0 x0 x1 x2 x3 x4 (ix3 0 p s) : EReal) = tz x0 x1 x2 (ix2 s ⟨512 + p.val, by have := p.isLt; omega⟩) := by
  unfold out0_A_6
  rw [View.read_writes_eq_canon _ _ _ (cover0_A_6 c i a2 h2 a3 h3 a4 h4 a5 h5 a6 h6 a7 h7 a8 h8 a9 h9 a10 h10 a11 h11 a12 h12 a13 h13 a14 h14 a15 h15 a16 h16 hc0 x0 x1 x2 x3 x4)]
  unfold kernelRun0_A
  try dsimp only
  rw [View.canon_cons_unit_lit _ _ _ (by decide)]
  refine Eq.trans (b := k0_pay10 (k0_pay9 (View.readAt (Elt Ideal) a2.view (Rect.unit (s := S1x512x1024) ![0, 0, 0] S1x512x1024.size inb_S1x512x1024_S1x512x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (ix3 0 p s)) rfl ?_
  rw [x_ld, g_ld, w_ld]
  exact k_out x0 x1 x2 p s

theorem outA_v (hc0 : cond0_0 i) (p : Fin 512) (s : Fin 512) :
    (out0_A_7 (F := Ideal) c i a2 h2 a3 h3 a4 h4 a5 h5 a6 h6 a7 h7 a8 h8 a9 h9 a10 h10 a11 h11 a12 h12 a13 h13 a14 h14 a15 h15 a16 h16 hc0 x0 x1 x2 x3 x4 (ix3 0 p s) : EReal) = tz x0 x1 x2 (ix2 s ⟨1024 + p.val, by have := p.isLt; omega⟩) := by
  unfold out0_A_7
  rw [View.read_writes_eq_canon _ _ _ (cover0_A_7 c i a2 h2 a3 h3 a4 h4 a5 h5 a6 h6 a7 h7 a8 h8 a9 h9 a10 h10 a11 h11 a12 h12 a13 h13 a14 h14 a15 h15 a16 h16 hc0 x0 x1 x2 x3 x4)]
  unfold kernelRun0_A
  try dsimp only
  rw [View.canon_cons_unit_lit _ _ _ (by decide)]
  refine Eq.trans (b := k0_pay11 (k0_pay4 (View.readAt (Elt Ideal) a2.view (Rect.unit (s := S1x512x1024) ![0, 0, 0] S1x512x1024.size inb_S1x512x1024_S1x512x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (ix3 0 p s)) rfl ?_
  rw [x_ld, g_ld, w_ld]
  exact v_out x0 x1 x2 p s

theorem outA_kb (hc0 : cond0_0 i) (p : Fin 512) (s : Fin 512) :
    (out0_A_8 (F := Ideal) c i a2 h2 a3 h3 a4 h4 a5 h5 a6 h6 a7 h7 a8 h8 a9 h9 a10 h10 a11 h11 a12 h12 a13 h13 a14 h14 a15 h15 a16 h16 hc0 x0 x1 x2 x3 x4 (ix3 0 p s) : EReal) = tz x0 x1 x2 (ix2 s ⟨512 + p.val, by have := p.isLt; omega⟩) := by
  unfold out0_A_8
  rw [View.read_writes_eq_canon _ _ _ (cover0_A_8 c i a2 h2 a3 h3 a4 h4 a5 h5 a6 h6 a7 h7 a8 h8 a9 h9 a10 h10 a11 h11 a12 h12 a13 h13 a14 h14 a15 h15 a16 h16 hc0 x0 x1 x2 x3 x4)]
  unfold kernelRun0_A
  try dsimp only
  rw [View.canon_cons_unit_lit _ _ _ (by decide)]
  refine Eq.trans (b := k0_pay12 (k0_pay9 (View.readAt (Elt Ideal) a2.view (Rect.unit (s := S1x512x1024) ![0, 0, 0] S1x512x1024.size inb_S1x512x1024_S1x512x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (ix3 0 p s)) rfl ?_
  rw [x_ld, g_ld, w_ld]
  exact kb_out x0 x1 x2 p s

theorem outA_vb (hc0 : cond0_0 i) (p : Fin 512) (s : Fin 512) :
    (out0_A_9 (F := Ideal) c i a2 h2 a3 h3 a4 h4 a5 h5 a6 h6 a7 h7 a8 h8 a9 h9 a10 h10 a11 h11 a12 h12 a13 h13 a14 h14 a15 h15 a16 h16 hc0 x0 x1 x2 x3 x4 (ix3 0 p s) : EReal) = tz x0 x1 x2 (ix2 p ⟨1024 + s.val, by have := s.isLt; omega⟩) := by
  unfold out0_A_9
  rw [View.read_writes_eq_canon _ _ _ (cover0_A_9 c i a2 h2 a3 h3 a4 h4 a5 h5 a6 h6 a7 h7 a8 h8 a9 h9 a10 h10 a11 h11 a12 h12 a13 h13 a14 h14 a15 h15 a16 h16 hc0 x0 x1 x2 x3 x4)]
  unfold kernelRun0_A
  try dsimp only
  rw [View.canon_cons_unit_lit _ _ _ (by decide)]
  refine Eq.trans (b := k0_pay13 (k0_pay4 (View.readAt (Elt Ideal) a2.view (Rect.unit (s := S1x512x1024) ![0, 0, 0] S1x512x1024.size inb_S1x512x1024_S1x512x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (ix3 0 p s)) rfl ?_
  rw [x_ld, g_ld, w_ld]
  exact vb_out x0 x1 x2 p s

theorem outA_f (hc0 : cond0_0 i) (p : Fin 8) (s : Fin 512) :
    (out0_A_10 (F := Ideal) c i a2 h2 a3 h3 a4 h4 a5 h5 a6 h6 a7 h7 a8 h8 a9 h9 a10 h10 a11 h11 a12 h12 a13 h13 a14 h14 a15 h15 a16 h16 hc0 x0 x1 x2 x3 x4 (ix3 0 p s) : EReal) = lsig (tz x0 x1 x2 (ix2 s ⟨2560 + p.val, by have := p.isLt; omega⟩) + x3 (ix2 0 ⟨p.val, by have := p.isLt; omega⟩)) := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 a15 h15 a16 h16 hc0 x0 x1 x2 x3 x4)]
  unfold kernelRun0_A
  try dsimp only
  rw [View.canon_cons_unit_lit _ _ _ (by decide)]
  refine Eq.trans (b := k0_pay19 (k0_pay16 (k0_pay7 (View.readAt (Elt Ideal) a2.view (Rect.unit (s := S1x512x1024) ![0, 0, 0] S1x512x1024.size inb_S1x512x1024_S1x512x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (View.readAt (Elt Ideal) a5.view (Rect.unit (s := S1x128) ![0, 0] S1x128.size inb_S1x128_S1x128_0_0).toLoadRect (h5.unread x3))) (k0_pay17 (k0_pay7 (View.readAt (Elt Ideal) a2.view (Rect.unit (s := S1x512x1024) ![0, 0, 0] S1x512x1024.size inb_S1x512x1024_S1x512x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (View.readAt (Elt Ideal) a5.view (Rect.unit (s := S1x128) ![0, 0] S1x128.size inb_S1x128_S1x128_0_0).toLoadRect (h5.unread x3))) (ix3 0 p s)) rfl ?_
  rw [x_ld, g_ld, w_ld, b_ld]
  exact f_out x0 x1 x2 x3 p s

theorem outA_u (hc0 : cond0_0 i) (p : Fin 512) (s : Fin 512) :
    (out0_A_11 (F := Ideal) c i a2 h2 a3 h3 a4 h4 a5 h5 a6 h6 a7 h7 a8 h8 a9 h9 a10 h10 a11 h11 a12 h12 a13 h13 a14 h14 a15 h15 a16 h16 hc0 x0 x1 x2 x3 x4 (ix3 0 p s) : EReal) = glu (tz x0 x1 x2 (ix2 p ⟨1536 + s.val, by have := s.isLt; omega⟩)) (tz x0 x1 x2 (ix2 p ⟨2048 + s.val, by have := s.isLt; omega⟩)) := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 a15 h15 a16 h16 hc0 x0 x1 x2 x3 x4)]
  unfold kernelRun0_A
  try dsimp only
  rw [View.canon_cons_unit_lit _ _ _ (by decide)]
  refine Eq.trans (b := k0_pay14 (k0_pay5 (View.readAt (Elt Ideal) a2.view (Rect.unit (s := S1x512x1024) ![0, 0, 0] S1x512x1024.size inb_S1x512x1024_S1x512x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (k0_pay6 (View.readAt (Elt Ideal) a2.view (Rect.unit (s := S1x512x1024) ![0, 0, 0] S1x512x1024.size inb_S1x512x1024_S1x512x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (ix3 0 p s)) rfl ?_
  rw [x_ld, g_ld, w_ld]
  exact u_out x0 x1 x2 p s

theorem outB_q (hc0 : ¬cond0_0 i) (p : Fin 512) (s : Fin 512) :
    (out0_B_5 (F := Ideal) c i a2 h2 a3 h3 a4 h4 a5 h5 a6 h6 a7 h7 a8 h8 a9 h9 a10 h10 a11 h11 a12 h12 a13 h13 a14 h14 a15 h15 a16 h16 hc0 x0 x1 x2 x3 x4 xs0 (ix3 0 p s) : EReal) = tz x0 x1 x2 (ix2 p ⟨s.val, by have := s.isLt; omega⟩) * qscale := by
  unfold out0_B_5
  rw [View.read_writes_eq_canon _ _ _ (cover0_B_5 c i a2 h2 a3 h3 a4 h4 a5 h5 a6 h6 a7 h7 a8 h8 a9 h9 a10 h10 a11 h11 a12 h12 a13 h13 a14 h14 a15 h15 a16 h16 hc0 x0 x1 x2 x3 x4 xs0)]
  unfold kernelRun0_B
  try dsimp only
  rw [View.canon_cons_unit_lit _ _ _ (by decide)]
  refine Eq.trans (b := k0_pay8 (View.readAt (Elt Ideal) a2.view (Rect.unit (s := S1x512x1024) ![0, 0, 0] S1x512x1024.size inb_S1x512x1024_S1x512x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2)) (ix3 0 p s)) rfl ?_
  rw [x_ld, g_ld, w_ld]
  exact q_out x0 x1 x2 p s

theorem outB_k (hc0 : ¬cond0_0 i) (p : Fin 512) (s : Fin 512) :
    (out0_B_6 (F := Ideal) c i a2 h2 a3 h3 a4 h4 a5 h5 a6 h6 a7 h7 a8 h8 a9 h9 a10 h10 a11 h11 a12 h12 a13 h13 a14 h14 a15 h15 a16 h16 hc0 x0 x1 x2 x3 x4 xs0 (ix3 0 p s) : EReal) = tz x0 x1 x2 (ix2 s ⟨512 + p.val, by have := p.isLt; omega⟩) := by
  unfold out0_B_6
  rw [View.read_writes_eq_canon _ _ _ (cover0_B_6 c i a2 h2 a3 h3 a4 h4 a5 h5 a6 h6 a7 h7 a8 h8 a9 h9 a10 h10 a11 h11 a12 h12 a13 h13 a14 h14 a15 h15 a16 h16 hc0 x0 x1 x2 x3 x4 xs0)]
  unfold kernelRun0_B
  try dsimp only
  rw [View.canon_cons_unit_lit _ _ _ (by decide)]
  refine Eq.trans (b := k0_pay10 (k0_pay9 (View.readAt (Elt Ideal) a2.view (Rect.unit (s := S1x512x1024) ![0, 0, 0] S1x512x1024.size inb_S1x512x1024_S1x512x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (ix3 0 p s)) rfl ?_
  rw [x_ld, g_ld, w_ld]
  exact k_out x0 x1 x2 p s

theorem outB_v (hc0 : ¬cond0_0 i) (p : Fin 512) (s : Fin 512) :
    (out0_B_7 (F := Ideal) c i a2 h2 a3 h3 a4 h4 a5 h5 a6 h6 a7 h7 a8 h8 a9 h9 a10 h10 a11 h11 a12 h12 a13 h13 a14 h14 a15 h15 a16 h16 hc0 x0 x1 x2 x3 x4 xs0 (ix3 0 p s) : EReal) = tz x0 x1 x2 (ix2 s ⟨1024 + p.val, by have := p.isLt; omega⟩) := by
  unfold out0_B_7
  rw [View.read_writes_eq_canon _ _ _ (cover0_B_7 c i a2 h2 a3 h3 a4 h4 a5 h5 a6 h6 a7 h7 a8 h8 a9 h9 a10 h10 a11 h11 a12 h12 a13 h13 a14 h14 a15 h15 a16 h16 hc0 x0 x1 x2 x3 x4 xs0)]
  unfold kernelRun0_B
  try dsimp only
  rw [View.canon_cons_unit_lit _ _ _ (by decide)]
  refine Eq.trans (b := k0_pay11 (k0_pay4 (View.readAt (Elt Ideal) a2.view (Rect.unit (s := S1x512x1024) ![0, 0, 0] S1x512x1024.size inb_S1x512x1024_S1x512x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (ix3 0 p s)) rfl ?_
  rw [x_ld, g_ld, w_ld]
  exact v_out x0 x1 x2 p s

theorem outB_kb (hc0 : ¬cond0_0 i) (p : Fin 512) (s : Fin 512) :
    (out0_B_8 (F := Ideal) c i a2 h2 a3 h3 a4 h4 a5 h5 a6 h6 a7 h7 a8 h8 a9 h9 a10 h10 a11 h11 a12 h12 a13 h13 a14 h14 a15 h15 a16 h16 hc0 x0 x1 x2 x3 x4 xs0 (ix3 0 p s) : EReal) = tz x0 x1 x2 (ix2 s ⟨512 + p.val, by have := p.isLt; omega⟩) := by
  unfold out0_B_8
  rw [View.read_writes_eq_canon _ _ _ (cover0_B_8 c i a2 h2 a3 h3 a4 h4 a5 h5 a6 h6 a7 h7 a8 h8 a9 h9 a10 h10 a11 h11 a12 h12 a13 h13 a14 h14 a15 h15 a16 h16 hc0 x0 x1 x2 x3 x4 xs0)]
  unfold kernelRun0_B
  try dsimp only
  rw [View.canon_cons_unit_lit _ _ _ (by decide)]
  refine Eq.trans (b := k0_pay12 (k0_pay9 (View.readAt (Elt Ideal) a2.view (Rect.unit (s := S1x512x1024) ![0, 0, 0] S1x512x1024.size inb_S1x512x1024_S1x512x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (ix3 0 p s)) rfl ?_
  rw [x_ld, g_ld, w_ld]
  exact kb_out x0 x1 x2 p s

theorem outB_vb (hc0 : ¬cond0_0 i) (p : Fin 512) (s : Fin 512) :
    (out0_B_9 (F := Ideal) c i a2 h2 a3 h3 a4 h4 a5 h5 a6 h6 a7 h7 a8 h8 a9 h9 a10 h10 a11 h11 a12 h12 a13 h13 a14 h14 a15 h15 a16 h16 hc0 x0 x1 x2 x3 x4 xs0 (ix3 0 p s) : EReal) = tz x0 x1 x2 (ix2 p ⟨1024 + s.val, by have := s.isLt; omega⟩) := by
  unfold out0_B_9
  rw [View.read_writes_eq_canon _ _ _ (cover0_B_9 c i a2 h2 a3 h3 a4 h4 a5 h5 a6 h6 a7 h7 a8 h8 a9 h9 a10 h10 a11 h11 a12 h12 a13 h13 a14 h14 a15 h15 a16 h16 hc0 x0 x1 x2 x3 x4 xs0)]
  unfold kernelRun0_B
  try dsimp only
  rw [View.canon_cons_unit_lit _ _ _ (by decide)]
  refine Eq.trans (b := k0_pay13 (k0_pay4 (View.readAt (Elt Ideal) a2.view (Rect.unit (s := S1x512x1024) ![0, 0, 0] S1x512x1024.size inb_S1x512x1024_S1x512x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (ix3 0 p s)) rfl ?_
  rw [x_ld, g_ld, w_ld]
  exact vb_out x0 x1 x2 p s

theorem outB_f (hc0 : ¬cond0_0 i) (p : Fin 8) (s : Fin 512) :
    (out0_B_10 (F := Ideal) c i a2 h2 a3 h3 a4 h4 a5 h5 a6 h6 a7 h7 a8 h8 a9 h9 a10 h10 a11 h11 a12 h12 a13 h13 a14 h14 a15 h15 a16 h16 hc0 x0 x1 x2 x3 x4 xs0 (ix3 0 p s) : EReal) = lsig (tz x0 x1 x2 (ix2 s ⟨2560 + p.val, by have := p.isLt; omega⟩) + x3 (ix2 0 ⟨p.val, by have := p.isLt; omega⟩)) := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 a15 h15 a16 h16 hc0 x0 x1 x2 x3 x4 xs0)]
  unfold kernelRun0_B
  try dsimp only
  rw [View.canon_cons_unit_lit _ _ _ (by decide)]
  refine Eq.trans (b := k0_pay19 (k0_pay16 (k0_pay7 (View.readAt (Elt Ideal) a2.view (Rect.unit (s := S1x512x1024) ![0, 0, 0] S1x512x1024.size inb_S1x512x1024_S1x512x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (View.readAt (Elt Ideal) a5.view (Rect.unit (s := S1x128) ![0, 0] S1x128.size inb_S1x128_S1x128_0_0).toLoadRect (h5.unread x3))) (k0_pay17 (k0_pay7 (View.readAt (Elt Ideal) a2.view (Rect.unit (s := S1x512x1024) ![0, 0, 0] S1x512x1024.size inb_S1x512x1024_S1x512x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (View.readAt (Elt Ideal) a5.view (Rect.unit (s := S1x128) ![0, 0] S1x128.size inb_S1x128_S1x128_0_0).toLoadRect (h5.unread x3))) (ix3 0 p s)) rfl ?_
  rw [x_ld, g_ld, w_ld, b_ld]
  exact f_out x0 x1 x2 x3 p s

theorem outB_u (hc0 : ¬cond0_0 i) (p : Fin 512) (s : Fin 512) :
    (out0_B_11 (F := Ideal) c i a2 h2 a3 h3 a4 h4 a5 h5 a6 h6 a7 h7 a8 h8 a9 h9 a10 h10 a11 h11 a12 h12 a13 h13 a14 h14 a15 h15 a16 h16 hc0 x0 x1 x2 x3 x4 xs0 (ix3 0 p s) : EReal) = glu (tz x0 x1 x2 (ix2 p ⟨1536 + s.val, by have := s.isLt; omega⟩)) (tz x0 x1 x2 (ix2 p ⟨2048 + s.val, by have := s.isLt; omega⟩)) := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 a15 h15 a16 h16 hc0 x0 x1 x2 x3 x4 xs0)]
  unfold kernelRun0_B
  try dsimp only
  rw [View.canon_cons_unit_lit _ _ _ (by decide)]
  refine Eq.trans (b := k0_pay14 (k0_pay5 (View.readAt (Elt Ideal) a2.view (Rect.unit (s := S1x512x1024) ![0, 0, 0] S1x512x1024.size inb_S1x512x1024_S1x512x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (k0_pay6 (View.readAt (Elt Ideal) a2.view (Rect.unit (s := S1x512x1024) ![0, 0, 0] S1x512x1024.size inb_S1x512x1024_S1x512x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (ix3 0 p s)) rfl ?_
  rw [x_ld, g_ld, w_ld]
  exact u_out x0 x1 x2 p s

end

end Cert.InP
-- ==== Proof.InP.lean ====
/- The projection on the prompt: what its result arrays hold. -/
module

public import proofs.«01_k».proof.Proof.InPTile
public import Idealize.ShloMosaic.Lib.IdealHost

@[expose] public section

set_option maxRecDepth 16384

noncomputable section

namespace Cert.InP

open Cert.Kernel5Ideal.Facts Cert.Ffn Cert.InProj
open Idealize.ShloMosaic Cert.Kernel5Ideal Cert.Kernel5Ideal.Gen Idealize.ShloMosaic.TcCoe Idealize.SL.Sem

/-! ## The prepared arrays and the blocks -/

theorem idx0 : ∀ t : Fin grid0.N, win0_0.index t = ![t.val / 4, t.val % 4, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx5 : ∀ t : Fin grid0.N, win0_5.index t = ![t.val / 4, t.val % 4, 0] := by decide +kernel
theorem idx6 : ∀ t : Fin grid0.N, win0_6.index t = ![t.val / 4, 0, t.val % 4] := by decide +kernel
theorem idx7 : ∀ t : Fin grid0.N, win0_7.index t = ![t.val / 4, 0, t.val % 4] := by decide +kernel
theorem idx8 : ∀ t : Fin grid0.N, win0_8.index t = ![t.val / 4, 0, t.val % 4] := by decide +kernel
theorem idx9 : ∀ t : Fin grid0.N, win0_9.index t = ![t.val / 4, t.val % 4, 0] := by decide +kernel
theorem idx10 : ∀ t : Fin grid0.N, win0_10.index t = ![t.val / 4, 0, t.val % 4] := by decide +kernel
theorem idx11 : ∀ t : Fin grid0.N, win0_11.index t = ![t.val / 4, t.val % 4, 0] := by decide +kernel

variable (m : (ℓ : Loc nD τ sig) → Buf (Elt Ideal) ℓ) (c : Dev nD) (t : Fin cfg0.N)

abbrev ax : FVec Ideal S8x2048x1024 .f32 := m ((c : Thread nD τ).loc main_arg0)
abbrev ag : FVec Ideal S1024 .f32 := m ((c : Thread nD τ).loc main_arg1)
abbrev aw : FVec Ideal S1024x2568 .f32 := m ((c : Thread nD τ).loc main_arg2)
abbrev ab : FVec Ideal S8 .f32 := m ((c : Thread nD τ).loc main_arg3)

theorem V_g : (V m c main_v16 : FVec Ideal S1x1024 .f32) = shapeCast S1x1024 (ag m c) shapeCasts_S1024_S1x1024 := by
  show StableHlo.after _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_w : (V m c main_v5 : FVec Ideal S1024x2688 .bf16) = wideV (aw m c) (broadcastInDim S1024x120 ![] bcast_S_S1024x120 (constant S_ .f32 0x00000000#32))
    slices_S1024x2568_S1024x1536_0_0 slices_S1024x2568_S1024x1024_0_1544 slices_S1024x2568_S1024x8_0_1536
    concatenates_S1024x1536_S1024x1024_S1024x8_S1024x120_S1024x2688_d1 bitsLt_bf16_f32 := by
  show StableHlo.after _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_b : (V m c main_v8 : FVec Ideal S1x128 .f32) = shapeCast S1x128 (concatenate S128 0 [⟨S8, ab m c⟩,
    ⟨S120, broadcastInDim S120 ![] bcast_S_S120 (constant (F := Ideal) S_ .f32 0x00000000#32)⟩] concatenates_S8_S120_S128_d0) shapeCasts_S128_S1x128 := by
  show StableHlo.after _ _ _ = _
  simp only [hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

/-- The batch of a point, and the position of a row of its tile. -/
def bat : Fin 8 := ⟨t.val / 4, by have h : t.val < 32 := t.isLt; omega⟩
def pos (r : Fin 512) : Fin 2048 := ⟨512 * (t.val % 4) + r.val, by have := r.isLt; omega⟩

theorem x_at (r : Fin 512) (k : Fin 1024) : ((iblk m c 0 t : Vec Ideal S1x512x1024 .f32) (ix3 0 r k) : EReal) = ax m c (ix3 (bat t) (pos t r) k) := by
  have e : (iblk m c 0 t : Vec Ideal S1x512x1024 .f32) (ix3 0 r k) = (V m c main_arg0 : FVec Ideal S8x2048x1024 .f32) (ix3 (bat t) (pos t r) k) := by
    unfold iblk
    generalize V m c (Pipeline.arrRef spec0 0) = X
    unfold bat pos
    blk_ext [idx0 t]
  rw [e, V_main_arg0]

theorem g_at (k : Fin 1024) : ((iblk m c 1 t : Vec Ideal S1x1024 .f32) (ix2 0 k) : EReal) = ag m c (ix1 k) := by
  have e : (iblk m c 1 t : Vec Ideal S1x1024 .f32) (ix2 0 k) = (V m c main_v16 : FVec Ideal S1x1024 .f32) (ix2 0 k) := by
    unfold iblk
    generalize V m c (Pipeline.arrRef spec0 1) = X
    blk_ext [idx1 t]
  rw [e, V_g]
  pointwise

theorem w_blk (k : Fin 1024) (J : Fin 2688) : ((iblk m c 2 t : Vec Ideal S1024x2688 .bf16) (ix2 k J) : EReal) = (V m c main_v5 : FVec Ideal S1024x2688 .bf16) (ix2 k J) := by
  unfold iblk
  generalize V m c (Pipeline.arrRef spec0 2) = X
  blk_ext [idx2 t]

theorem w_a (k : Fin 1024) (J : Fin 2688) (S : Fin 2568) (h : J.val < 1536) (hS : S.val = J.val) :
    ((iblk m c 2 t : Vec Ideal S1024x2688 .bf16) (ix2 k J) : EReal) = aw m c (ix2 k S) := by
  rw [w_blk, V_w]
  exact wide_a _ _ _ _ _ _ _ k J S h hS

theorem w_b (k : Fin 1024) (J : Fin 2688) (S : Fin 2568) (h : 1536 ≤ J.val) (h' : J.val < 2560) (hS : S.val = J.val + 8) :
    ((iblk m c 2 t : Vec Ideal S1024x2688 .bf16) (ix2 k J) : EReal) = aw m c (ix2 k S) := by
  rw [w_blk, V_w]
  exact wide_b _ _ _ _ _ _ _ k J S h h' hS

theorem w_c (k : Fin 1024) (J : Fin 2688) (S : Fin 2568) (h : 2560 ≤ J.val) (h' : J.val < 2568) (hS : S.val + 1024 = J.val) :
    ((iblk m c 2 t : Vec Ideal S1024x2688 .bf16) (ix2 k J) : EReal) = aw m c (ix2 k S) := by
  rw [w_blk, V_w]
  exact wide_c _ _ _ _ _ _ _ k J S h h' hS

theorem b_at (h : Fin 8) (J : Fin 128) (hJ : J.val = h.val) : ((iblk m c 3 t : Vec Ideal S1x128 .f32) (ix2 0 J) : EReal) = ab m c (ix1 h) := by
  have e : (iblk m c 3 t : Vec Ideal S1x128 .f32) (ix2 0 J) = (V m c main_v8 : FVec Ideal S1x128 .f32) (ix2 0 J) := by
    unfold iblk
    generalize V m c (Pipeline.arrRef spec0 3) = X
    blk_ext [idx3 t]
  rw [e, V_b]
  exact bias_at (ab m c) _ _ _ h J hJ

/-! ## The blocks as parts of projected rows -/

abbrev rowOf (b : Fin 8) (n : Fin 2048) (k : Fin 1024) : EReal := ax m c (ix3 b n k)
abbrev gainOf (k : Fin 1024) : EReal := ag m c (ix1 k)
abbrev weightOf (k : Fin 1024) (j : Fin 2568) : EReal := aw m c (ix2 k j)
abbrev biasOf (h : Fin 8) : EReal := ab m c (ix1 h)

theorem tz_a (r : Fin 512) (J : Fin 2688) (S : Fin 2568) (h : J.val < 1536) (hS : S.val = J.val) :
    tz (iblk m c 0 t) (iblk m c 1 t) (iblk m c 2 t) (ix2 r J) = proj (rowOf m c (bat t) (pos t r)) (gainOf m c) (weightOf m c) S :=
  zV_col _ _ _ _ _ _ _ _ _ r J _ _ _ S (fun k => x_at m c t r k) (fun k => g_at m c t k) (fun k => w_a m c t k J S h hS)

theorem tz_b (r : Fin 512) (J : Fin 2688) (S : Fin 2568) (h : 1536 ≤ J.val) (h' : J.val < 2560) (hS : S.val = J.val + 8) :
    tz (iblk m c 0 t) (iblk m c 1 t) (iblk m c 2 t) (ix2 r J) = proj (rowOf m c (bat t) (pos t r)) (gainOf m c) (weightOf m c) S :=
  zV_col _ _ _ _ _ _ _ _ _ r J _ _ _ S (fun k => x_at m c t r k) (fun k => g_at m c t k) (fun k => w_b m c t k J S h h' hS)

theorem tz_c (r : Fin 512) (J : Fin 2688) (S : Fin 2568) (h : 2560 ≤ J.val) (h' : J.val < 2568) (hS : S.val + 1024 = J.val) :
    tz (iblk m c 0 t) (iblk m c 1 t) (iblk m c 2 t) (ix2 r J) = proj (rowOf m c (bat t) (pos t r)) (gainOf m c) (weightOf m c) S :=
  zV_col _ _ _ _ _ _ _ _ _ r J _ _ _ S (fun k => x_at m c t r k) (fun k => g_at m c t k) (fun k => w_c m c t k J S h h' hS)

theorem atA_q (h0 : t.val % 4 = 0) : (outsAt0 m c t.val t.isLt).1 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) := by rw [outsAt0_A m c t h0]

theorem atB_q (h0 : ¬t.val % 4 = 0) : (outsAt0 m c t.val t.isLt).1 = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.2.2.2.2.2 := by rw [outsAt0_B m c t h0]

theorem q_blk (r : Fin 512) (j : Fin 512) : ((outsAt0 m c t.val t.isLt).1 (ix3 0 r j) : EReal) = query (rowOf m c (bat t) (pos t r)) (gainOf m c) (weightOf m c) j := by
  have hj := j.isLt
  refine Eq.trans (b := (tz (iblk m c 0 t) (iblk m c 1 t) (iblk m c 2 t) (ix2 r ⟨j.val, by omega⟩) : EReal) * qscale) ?_ ?_
  · by_cases h0 : t.val % 4 = 0
    · rw [atA_q m c t h0]
      exact outA_q ..
    · rw [atB_q m c t h0]
      exact outB_q ..
  · exact congrArg (· * qscale) (tz_a m c t r _ ⟨j.val, by omega⟩ (by show j.val < 1536; omega) rfl)

theorem atA_k (h0 : t.val % 4 = 0) : (outsAt0 m c t.val t.isLt).2.1 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) := by rw [outsAt0_A m c t h0]

theorem atB_k (h0 : ¬t.val % 4 = 0) : (outsAt0 m c t.val t.isLt).2.1 = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.2.2.2.2.2 := by rw [outsAt0_B m c t h0]

theorem k_blk (j : Fin 512) (r : Fin 512) : ((outsAt0 m c t.val t.isLt).2.1 (ix3 0 j r) : EReal) = key (rowOf m c (bat t) (pos t r)) (gainOf m c) (weightOf m c) j := by
  have hj := j.isLt
  refine Eq.trans (b := (tz (iblk m c 0 t) (iblk m c 1 t) (iblk m c 2 t) (ix2 r ⟨512 + j.val, by omega⟩) : EReal)) ?_ ?_
  · by_cases h0 : t.val % 4 = 0
    · rw [atA_k m c t h0]
      exact outA_k ..
    · rw [atB_k m c t h0]
      exact outB_k ..
  · exact tz_a m c t r _ ⟨512 + j.val, by omega⟩ (by show 512 + j.val < 1536; omega) rfl

theorem atA_v (h0 : t.val % 4 = 0) : (outsAt0 m c t.val t.isLt).2.2.1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) := by rw [outsAt0_A m c t h0]

theorem atB_v (h0 : ¬t.val % 4 = 0) : (outsAt0 m c t.val t.isLt).2.2.1 = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.2.2.2.2.2 := by rw [outsAt0_B m c t h0]

theorem v_blk (j : Fin 512) (r : Fin 512) : ((outsAt0 m c t.val t.isLt).2.2.1 (ix3 0 j r) : EReal) = value (rowOf m c (bat t) (pos t r)) (gainOf m c) (weightOf m c) j := by
  have hj := j.isLt
  refine Eq.trans (b := (tz (iblk m c 0 t) (iblk m c 1 t) (iblk m c 2 t) (ix2 r ⟨1024 + j.val, by omega⟩) : EReal)) ?_ ?_
  · by_cases h0 : t.val % 4 = 0
    · rw [atA_v m c t h0]
      exact outA_v ..
    · rw [atB_v m c t h0]
      exact outB_v ..
  · exact tz_a m c t r _ ⟨1024 + j.val, by omega⟩ (by show 1024 + j.val < 1536; omega) rfl

theorem atA_kb (h0 : t.val % 4 = 0) : (outsAt0 m c t.val t.isLt).2.2.2.1 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) := by rw [outsAt0_A m c t h0]

theorem atB_kb (h0 : ¬t.val % 4 = 0) : (outsAt0 m c t.val t.isLt).2.2.2.1 = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.2.2.2.2.2 := by rw [outsAt0_B m c t h0]

theorem kb_blk (j : Fin 512) (r : Fin 512) : ((outsAt0 m c t.val t.isLt).2.2.2.1 (ix3 0 j r) : EReal) = key (rowOf m c (bat t) (pos t r)) (gainOf m c) (weightOf m c) j := by
  have hj := j.isLt
  refine Eq.trans (b := (tz (iblk m c 0 t) (iblk m c 1 t) (iblk m c 2 t) (ix2 r ⟨512 + j.val, by omega⟩) : EReal)) ?_ ?_
  · by_cases h0 : t.val % 4 = 0
    · rw [atA_kb m c t h0]
      exact outA_kb ..
    · rw [atB_kb m c t h0]
      exact outB_kb ..
  · exact tz_a m c t r _ ⟨512 + j.val, by omega⟩ (by show 512 + j.val < 1536; omega) rfl

theorem atA_vb (h0 : t.val % 4 = 0) : (outsAt0 m c t.val t.isLt).2.2.2.2.1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) := by rw [outsAt0_A m c t h0]

theorem atB_vb (h0 : ¬t.val % 4 = 0) : (outsAt0 m c t.val t.isLt).2.2.2.2.1 = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.2.2.2.2.2 := by rw [outsAt0_B m c t h0]

theorem vb_blk (r : Fin 512) (j : Fin 512) : ((outsAt0 m c t.val t.isLt).2.2.2.2.1 (ix3 0 r j) : EReal) = value (rowOf m c (bat t) (pos t r)) (gainOf m c) (weightOf m c) j := by
  have hj := j.isLt
  refine Eq.trans (b := (tz (iblk m c 0 t) (iblk m c 1 t) (iblk m c 2 t) (ix2 r ⟨1024 + j.val, by omega⟩) : EReal)) ?_ ?_
  · by_cases h0 : t.val % 4 = 0
    · rw [atA_vb m c t h0]
      exact outA_vb ..
    · rw [atB_vb m c t h0]
      exact outB_vb ..
  · exact tz_a m c t r _ ⟨1024 + j.val, by omega⟩ (by show 1024 + j.val < 1536; omega) rfl

theorem atA_f (h0 : t.val % 4 = 0) : (outsAt0 m c t.val t.isLt).2.2.2.2.2.1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) := by rw [outsAt0_A m c t h0]

theorem atB_f (h0 : ¬t.val % 4 = 0) : (outsAt0 m c t.val t.isLt).2.2.2.2.2.1 = out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.2.2.2.2.2 := by rw [outsAt0_B m c t h0]

theorem f_blk (j : Fin 8) (r : Fin 512) : ((outsAt0 m c t.val t.isLt).2.2.2.2.2.1 (ix3 0 j r) : EReal) = logf (rowOf m c (bat t) (pos t r)) (gainOf m c) (weightOf m c) (biasOf m c) j := by
  have hj := j.isLt
  refine Eq.trans (b := lsig ((tz (iblk m c 0 t) (iblk m c 1 t) (iblk m c 2 t) (ix2 r ⟨2560 + j.val, by omega⟩) : EReal) + (iblk m c 3 t : Vec Ideal S1x128 .f32) (ix2 0 ⟨j.val, by omega⟩))) ?_ ?_
  · by_cases h0 : t.val % 4 = 0
    · rw [atA_f m c t h0]
      exact outA_f ..
    · rw [atB_f m c t h0]
      exact outB_f ..
  · rw [tz_c m c t r _ ⟨1536 + j.val, by omega⟩ (by show 2560 ≤ 2560 + j.val; omega) (by show 2560 + j.val < 2568; omega)
      (by show 1536 + j.val + 1024 = 2560 + j.val; omega), b_at m c t j _ rfl]
    rfl

theorem atA_u (h0 : t.val % 4 = 0) : (outsAt0 m c t.val t.isLt).2.2.2.2.2.2.1 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) := by rw [outsAt0_A m c t h0]

theorem atB_u (h0 : ¬t.val % 4 = 0) : (outsAt0 m c t.val t.isLt).2.2.2.2.2.2.1 = out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.2.2.2.2.2 := by rw [outsAt0_B m c t h0]

theorem u_blk (r : Fin 512) (j : Fin 512) : ((outsAt0 m c t.val t.isLt).2.2.2.2.2.2.1 (ix3 0 r j) : EReal) = conv (rowOf m c (bat t) (pos t r)) (gainOf m c) (weightOf m c) j := by
  have hj := j.isLt
  refine Eq.trans (b := glu (tz (iblk m c 0 t) (iblk m c 1 t) (iblk m c 2 t) (ix2 r ⟨1536 + j.val, by omega⟩) : EReal) (tz (iblk m c 0 t) (iblk m c 1 t) (iblk m c 2 t) (ix2 r ⟨2048 + j.val, by omega⟩) : EReal)) ?_ ?_
  · by_cases h0 : t.val % 4 = 0
    · rw [atA_u m c t h0]
      exact outA_u ..
    · rw [atB_u m c t h0]
      exact outB_u ..
  · rw [tz_b m c t r ⟨1536 + j.val, _⟩ ⟨1544 + j.val, by omega⟩ (by show 1536 ≤ 1536 + j.val; omega) (by show 1536 + j.val < 2560; omega)
      (by show 1544 + j.val = 1536 + j.val + 8; omega),
      tz_b m c t r ⟨2048 + j.val, _⟩ ⟨2056 + j.val, by omega⟩ (by show 1536 ≤ 2048 + j.val; omega) (by show 2048 + j.val < 2560; omega)
      (by show 2056 + j.val = 2048 + j.val + 8; omega)]
    rfl

/-! ## The result arrays -/

/-- The result array 1. -/
def G_q : FVec Ideal S8x2048x512 .bf16 := fun i => query (rowOf m c (i 0) (i 1)) (gainOf m c) (weightOf m c) (i 2)

theorem arr_q : (dats m 0 c).arrAt 5 cfg0.N = G_q m c := by
  refine (dats m 0 c).arrAt_eq_of_covers 5 (G_q m c) (by decide +kernel) (fun t hf i => ?_)
  idx_vars i
  obtain rfl : i0 = 0 := Subsingleton.elim _ _
  blk_simp
  rw [after0_5]
  refine (q_blk m c t i1 i2).trans ?_
  show G_q m c (ix3 (bat t) (pos t i1) i2) = _
  refine congrArg (G_q m c) ?_
  unfold bat pos
  blk_ext [idx5 t]

/-- The result array 2. -/
def G_k : FVec Ideal S8x512x2048 .f32 := fun i => key (rowOf m c (i 0) (i 2)) (gainOf m c) (weightOf m c) (i 1)

theorem arr_k : (dats m 0 c).arrAt 6 cfg0.N = G_k m c := by
  refine (dats m 0 c).arrAt_eq_of_covers 6 (G_k m c) (by decide +kernel) (fun t hf i => ?_)
  idx_vars i
  obtain rfl : i0 = 0 := Subsingleton.elim _ _
  blk_simp
  rw [after0_6]
  refine (k_blk m c t i1 i2).trans ?_
  show G_k m c (ix3 (bat t) i1 (pos t i2)) = _
  refine congrArg (G_k m c) ?_
  unfold bat pos
  blk_ext [idx6 t]

/-- The result array 3. -/
def G_v : FVec Ideal S8x512x2048 .f32 := fun i => value (rowOf m c (i 0) (i 2)) (gainOf m c) (weightOf m c) (i 1)

theorem arr_v : (dats m 0 c).arrAt 7 cfg0.N = G_v m c := by
  refine (dats m 0 c).arrAt_eq_of_covers 7 (G_v m c) (by decide +kernel) (fun t hf i => ?_)
  idx_vars i
  obtain rfl : i0 = 0 := Subsingleton.elim _ _
  blk_simp
  rw [after0_7]
  refine (v_blk m c t i1 i2).trans ?_
  show G_v m c (ix3 (bat t) i1 (pos t i2)) = _
  refine congrArg (G_v m c) ?_
  unfold bat pos
  blk_ext [idx7 t]

/-- The result array 4. -/
def G_kb : FVec Ideal S8x512x2048 .bf16 := fun i => key (rowOf m c (i 0) (i 2)) (gainOf m c) (weightOf m c) (i 1)

theorem arr_kb : (dats m 0 c).arrAt 8 cfg0.N = G_kb m c := by
  refine (dats m 0 c).arrAt_eq_of_covers 8 (G_kb m c) (by decide +kernel) (fun t hf i => ?_)
  idx_vars i
  obtain rfl : i0 = 0 := Subsingleton.elim _ _
  blk_simp
  rw [after0_8]
  refine (kb_blk m c t i1 i2).trans ?_
  show G_kb m c (ix3 (bat t) i1 (pos t i2)) = _
  refine congrArg (G_kb m c) ?_
  unfold bat pos
  blk_ext [idx8 t]

/-- The result array 5. -/
def G_vb : FVec Ideal S8x2048x512 .bf16 := fun i => value (rowOf m c (i 0) (i 1)) (gainOf m c) (weightOf m c) (i 2)

theorem arr_vb : (dats m 0 c).arrAt 9 cfg0.N = G_vb m c := by
  refine (dats m 0 c).arrAt_eq_of_covers 9 (G_vb m c) (by decide +kernel) (fun t hf i => ?_)
  idx_vars i
  obtain rfl : i0 = 0 := Subsingleton.elim _ _
  blk_simp
  rw [after0_9]
  refine (vb_blk m c t i1 i2).trans ?_
  show G_vb m c (ix3 (bat t) (pos t i1) i2) = _
  refine congrArg (G_vb m c) ?_
  unfold bat pos
  blk_ext [idx9 t]

/-- The result array 6. -/
def G_f : FVec Ideal S8x8x2048 .f32 := fun i => logf (rowOf m c (i 0) (i 2)) (gainOf m c) (weightOf m c) (biasOf m c) (i 1)

theorem arr_f : (dats m 0 c).arrAt 10 cfg0.N = G_f m c := by
  refine (dats m 0 c).arrAt_eq_of_covers 10 (G_f m c) (by decide +kernel) (fun t hf i => ?_)
  idx_vars i
  obtain rfl : i0 = 0 := Subsingleton.elim _ _
  blk_simp
  rw [after0_10]
  refine (f_blk m c t i1 i2).trans ?_
  show G_f m c (ix3 (bat t) i1 (pos t i2)) = _
  refine congrArg (G_f m c) ?_
  unfold bat pos
  blk_ext [idx10 t]

/-- The result array 7. -/
def G_u : FVec Ideal S8x2048x512 .f32 := fun i => conv (rowOf m c (i 0) (i 1)) (gainOf m c) (weightOf m c) (i 2)

theorem arr_u : (dats m 0 c).arrAt 11 cfg0.N = G_u m c := by
  refine (dats m 0 c).arrAt_eq_of_covers 11 (G_u m c) (by decide +kernel) (fun t hf i => ?_)
  idx_vars i
  obtain rfl : i0 = 0 := Subsingleton.elim _ _
  blk_simp
  rw [after0_11]
  refine (u_blk m c t i1 i2).trans ?_
  show G_u m c (ix3 (bat t) (pos t i1) i2) = _
  refine congrArg (G_u m c) ?_
  unfold bat pos
  blk_ext [idx11 t]

end Cert.InP
-- ==== Proof.InPRef.lean ====
/- The projection reference on the prompt: its values at an entry are the parts of the entry's projected row; so the call and the reference end equal. -/
module

public import proofs.«01_k».proof.Proof.InP
public import proofs.«01_k».proof.Proof.Gen.Reference5Ideal.Run
public import proofs.«01_k».proof.Proof.Gen.Reference5Ideal.Read

@[expose] public section

set_option maxRecDepth 16384

noncomputable section

namespace Cert.InP.Plain

open Idealize.ShloMosaic Cert.Reference5Ideal Cert.Reference5Ideal.Read Cert.Ffn Cert.InProj

/-- The norm. -/
theorem norm_at (x0 : (⟨S8x2048x1024, .f32⟩ : BufTy).Contents (Elt Ideal)) (x1 : (⟨S1024, .f32⟩ : BufTy).Contents (Elt Ideal)) (b : Fin 8) (n : Fin 2048) (j : Fin 1024) :
    val_main_v12 (F := Ideal) x0 x1 (ix3 b n j) = rms (fun k => x0 (ix3 b n k)) (fun k => x1 (ix1 k)) j := by
  have e : ∀ k, idx_main_v1 (idx_main_v2 (idx_main_v8 (ix3 b n j))) k = ix3 b n k := fun k => funext fun a => Fin.ext (by
      match a with
      | ⟨0, _⟩ => rfl
      | ⟨1, _⟩ => rfl
      | ⟨2, _⟩ => rfl)
  have g : idx_main_v10 (idx_main_v11 (ix3 b n j)) = ix1 j := funext fun a => Fin.ext (by
      match a with
      | ⟨0, _⟩ => rfl)
  have z : FloatOps.ofBits (F := Ideal) .f32 0x00000000#32 = (0 : EReal) := Ideal.ofBits_zero_f32
  rw [val_main_v12_apply, val_main_v9_apply, val_main_v8_apply, val_main_v7_apply, val_main_v6_apply, val_main_v4_apply, val_main_v2_apply, val_main_v1_apply, val_main_v3_apply, val_main_v5_apply, val_main_v11_apply, val_main_v10_apply, val_main_cst_apply, val_main_cst_0_apply, val_main_cst_1_apply, g, z, zero_add]
  simp only [val_main_v0_apply, e]
  rfl

variable (x0 : (⟨S8x2048x1024, .f32⟩ : BufTy).Contents (Elt Ideal)) (x1 : (⟨S1024, .f32⟩ : BufTy).Contents (Elt Ideal)) (x2 : (⟨S1024x2568, .f32⟩ : BufTy).Contents (Elt Ideal)) (x3 : (⟨S8, .f32⟩ : BufTy).Contents (Elt Ideal)) (b : Fin 8) (n : Fin 2048)

/-- The projection. -/
theorem proj_at (J : Fin 2568) : val_main_v13 (F := Ideal) x0 x1 x2 (ix3 b n J) = proj (fun k => x0 (ix3 b n k)) (fun k => x1 (ix1 k)) (fun k j => x2 (ix2 k j)) J := by
  rw [val_main_v13_apply]
  refine Finset.sum_congr rfl fun k _ => ?_
  have el : lidx_main_v13 (ix3 b n J) k = ix3 b n k := funext fun a => Fin.ext (by
      match a with
      | ⟨0, _⟩ => rfl
      | ⟨1, _⟩ => rfl
      | ⟨2, _⟩ => rfl)
  have er : ridx_main_v13 (ix3 b n J) k = ix2 k J := funext fun a => Fin.ext (by
      match a with
      | ⟨0, _⟩ => rfl
      | ⟨1, _⟩ => rfl)
  rw [el, er, norm_at]

theorem q_part (j : Fin 512) : val_main_v14 (F := Ideal) x0 x1 x2 (ix3 b n j) = proj (fun k => x0 (ix3 b n k)) (fun k => x1 (ix1 k)) (fun k j => x2 (ix2 k j)) ⟨j.val, by have := j.isLt; omega⟩ := by
  have hj := j.isLt
  have e : idx_main_v14 (ix3 b n j) = ix3 b n (⟨j.val, by omega⟩ : Fin 2568) := funext fun a => Fin.ext (by
    match a with
    | ⟨0, _⟩ => first | rfl | exact Nat.zero_add _ | exact Nat.add_zero _
    | ⟨1, _⟩ => first | rfl | exact Nat.zero_add _ | exact Nat.add_zero _
    | ⟨2, _⟩ => first | rfl | exact Nat.zero_add _ | exact Nat.add_comm _ _)
  rw [val_main_v14_apply, e, proj_at]

theorem k_part (j : Fin 512) : val_main_v15 (F := Ideal) x0 x1 x2 (ix3 b n j) = proj (fun k => x0 (ix3 b n k)) (fun k => x1 (ix1 k)) (fun k j => x2 (ix2 k j)) ⟨512 + j.val, by have := j.isLt; omega⟩ := by
  have hj := j.isLt
  have e : idx_main_v15 (ix3 b n j) = ix3 b n (⟨512 + j.val, by omega⟩ : Fin 2568) := funext fun a => Fin.ext (by
    match a with
    | ⟨0, _⟩ => first | rfl | exact Nat.zero_add _ | exact Nat.add_zero _
    | ⟨1, _⟩ => first | rfl | exact Nat.zero_add _ | exact Nat.add_zero _
    | ⟨2, _⟩ => first | rfl | exact Nat.zero_add _ | exact Nat.add_comm _ _)
  rw [val_main_v15_apply, e, proj_at]

theorem v_part (j : Fin 512) : val_main_v16 (F := Ideal) x0 x1 x2 (ix3 b n j) = proj (fun k => x0 (ix3 b n k)) (fun k => x1 (ix1 k)) (fun k j => x2 (ix2 k j)) ⟨1024 + j.val, by have := j.isLt; omega⟩ := by
  have hj := j.isLt
  have e : idx_main_v16 (ix3 b n j) = ix3 b n (⟨1024 + j.val, by omega⟩ : Fin 2568) := funext fun a => Fin.ext (by
    match a with
    | ⟨0, _⟩ => first | rfl | exact Nat.zero_add _ | exact Nat.add_zero _
    | ⟨1, _⟩ => first | rfl | exact Nat.zero_add _ | exact Nat.add_zero _
    | ⟨2, _⟩ => first | rfl | exact Nat.zero_add _ | exact Nat.add_comm _ _)
  rw [val_main_v16_apply, e, proj_at]

theorem f_part (j : Fin 8) : val_main_v17 (F := Ideal) x0 x1 x2 (ix3 b n j) = proj (fun k => x0 (ix3 b n k)) (fun k => x1 (ix1 k)) (fun k j => x2 (ix2 k j)) ⟨1536 + j.val, by have := j.isLt; omega⟩ := by
  have hj := j.isLt
  have e : idx_main_v17 (ix3 b n j) = ix3 b n (⟨1536 + j.val, by omega⟩ : Fin 2568) := funext fun a => Fin.ext (by
    match a with
    | ⟨0, _⟩ => first | rfl | exact Nat.zero_add _ | exact Nat.add_zero _
    | ⟨1, _⟩ => first | rfl | exact Nat.zero_add _ | exact Nat.add_zero _
    | ⟨2, _⟩ => first | rfl | exact Nat.zero_add _ | exact Nat.add_comm _ _)
  rw [val_main_v17_apply, e, proj_at]

theorem a_part (j : Fin 512) : val_main_v18 (F := Ideal) x0 x1 x2 (ix3 b n j) = proj (fun k => x0 (ix3 b n k)) (fun k => x1 (ix1 k)) (fun k j => x2 (ix2 k j)) ⟨1544 + j.val, by have := j.isLt; omega⟩ := by
  have hj := j.isLt
  have e : idx_main_v18 (ix3 b n j) = ix3 b n (⟨1544 + j.val, by omega⟩ : Fin 2568) := funext fun a => Fin.ext (by
    match a with
    | ⟨0, _⟩ => first | rfl | exact Nat.zero_add _ | exact Nat.add_zero _
    | ⟨1, _⟩ => first | rfl | exact Nat.zero_add _ | exact Nat.add_zero _
    | ⟨2, _⟩ => first | rfl | exact Nat.zero_add _ | exact Nat.add_comm _ _)
  rw [val_main_v18_apply, e, proj_at]

theorem b_part (j : Fin 512) : val_main_v19 (F := Ideal) x0 x1 x2 (ix3 b n j) = proj (fun k => x0 (ix3 b n k)) (fun k => x1 (ix1 k)) (fun k j => x2 (ix2 k j)) ⟨2056 + j.val, by have := j.isLt; omega⟩ := by
  have hj := j.isLt
  have e : idx_main_v19 (ix3 b n j) = ix3 b n (⟨2056 + j.val, by omega⟩ : Fin 2568) := funext fun a => Fin.ext (by
    match a with
    | ⟨0, _⟩ => first | rfl | exact Nat.zero_add _ | exact Nat.add_zero _
    | ⟨1, _⟩ => first | rfl | exact Nat.zero_add _ | exact Nat.add_zero _
    | ⟨2, _⟩ => first | rfl | exact Nat.zero_add _ | exact Nat.add_comm _ _)
  rw [val_main_v19_apply, e, proj_at]

theorem query_at (j : Fin 512) : (val_main_v33 (F := Ideal) x0 x1 x2 (ix3 b n j) : EReal) = query (fun k => x0 (ix3 b n k)) (fun k => x1 (ix1 k)) (fun k j => x2 (ix2 k j)) j := by
  rw [val_main_v33_apply, val_main_v32_apply, val_main_v31_apply, val_main_cst_4_apply, q_part]
  rfl

theorem conv_at (j : Fin 512) : val_main_v30 (F := Ideal) x0 x1 x2 (ix3 b n j) = conv (fun k => x0 (ix3 b n k)) (fun k => x1 (ix1 k)) (fun k j => x2 (ix2 k j)) j := by
  have o1 : FloatOps.ofBits (F := Ideal) .f32 0x3F800000#32 = (1 : EReal) := one_word
  rw [val_main_v30_apply, val_main_v29_apply, val_main_v28_apply, val_main_v27_apply, val_main_v26_apply, val_main_v25_apply, val_main_v24_apply, val_main_cst_2_apply, val_main_cst_3_apply, o1, a_part, b_part]
  rfl

theorem gate_at (h : Fin 8) : val_main_v22 (F := Ideal) x0 x1 x2 x3 (ix3 b n h) = proj (fun k => x0 (ix3 b n k)) (fun k => x1 (ix1 k)) (fun k j => x2 (ix2 k j)) ⟨1536 + h.val, by have := h.isLt; omega⟩ + x3 (ix1 h) := by
  have e : idx_main_v20 (idx_main_v21 (ix3 b n h)) = ix1 h := funext fun a => Fin.ext (by
    match a with
    | ⟨0, _⟩ => rfl)
  rw [val_main_v22_apply, val_main_v21_apply, val_main_v20_apply, e, f_part]
  rfl

theorem logf_at (h : Fin 8) : val_main_v23 (F := Ideal) x0 x1 x2 x3 (ix3 b n h) = logf (fun k => x0 (ix3 b n k)) (fun k => x1 (ix1 k)) (fun k j => x2 (ix2 k j)) (fun h => x3 (ix1 h)) h := by
  have z : FloatOps.ofBits (F := Ideal) .f32 0x00000000#32 = (0 : EReal) := Ideal.ofBits_zero_f32
  rw [val_main_v23_apply, val_main_call0_v1_apply, val_main_call0_call0_v4_apply, select_self, val_main_call0_call0_v11_apply, val_main_call0_call0_v1_apply,
    val_main_call0_call0_v10_apply, val_main_call0_call0_v9_apply, val_main_call0_call0_v8_apply, val_main_call0_call0_v7_apply, val_main_call0_call0_v3_apply,
    val_main_call0_call0_v2_apply, val_main_call0_call0_v0_apply, val_main_call0_call0_cst_apply, val_main_call0_v0_apply, gate_at, z]
  exact lsig_eq _

theorem key_at (j : Fin 512) : val_main_v34 (F := Ideal) x0 x1 x2 (ix3 b j n) = key (fun k => x0 (ix3 b n k)) (fun k => x1 (ix1 k)) (fun k j => x2 (ix2 k j)) j := by
  have e : idx_main_v34 (ix3 b j n) = ix3 b n j := funext fun a => Fin.ext (by
    match a with
    | ⟨0, _⟩ => rfl
    | ⟨1, _⟩ => rfl
    | ⟨2, _⟩ => rfl)
  rw [val_main_v34_apply, e, k_part]
  rfl

theorem value_at (j : Fin 512) : val_main_v35 (F := Ideal) x0 x1 x2 (ix3 b j n) = value (fun k => x0 (ix3 b n k)) (fun k => x1 (ix1 k)) (fun k j => x2 (ix2 k j)) j := by
  have e : idx_main_v35 (ix3 b j n) = ix3 b n j := funext fun a => Fin.ext (by
    match a with
    | ⟨0, _⟩ => rfl
    | ⟨1, _⟩ => rfl
    | ⟨2, _⟩ => rfl)
  rw [val_main_v35_apply, e, v_part]
  rfl

theorem key_short_at (j : Fin 512) : (val_main_v37 (F := Ideal) x0 x1 x2 (ix3 b j n) : EReal) = key (fun k => x0 (ix3 b n k)) (fun k => x1 (ix1 k)) (fun k j => x2 (ix2 k j)) j := by
  have e : idx_main_v36 (ix3 b j n) = ix3 b n j := funext fun a => Fin.ext (by
    match a with
    | ⟨0, _⟩ => rfl
    | ⟨1, _⟩ => rfl
    | ⟨2, _⟩ => rfl)
  rw [val_main_v37_apply, val_main_v36_apply, e, k_part]
  rfl

theorem value_short_at (j : Fin 512) : (val_main_v38 (F := Ideal) x0 x1 x2 (ix3 b n j) : EReal) = value (fun k => x0 (ix3 b n k)) (fun k => x1 (ix1 k)) (fun k j => x2 (ix2 k j)) j := by
  rw [val_main_v38_apply, v_part]
  rfl

theorem gates_at (h : Fin 8) : val_main_v39 (F := Ideal) x0 x1 x2 x3 (ix3 b h n) = logf (fun k => x0 (ix3 b n k)) (fun k => x1 (ix1 k)) (fun k j => x2 (ix2 k j)) (fun h => x3 (ix1 h)) h := by
  have e : idx_main_v39 (ix3 b h n) = ix3 b n h := funext fun a => Fin.ext (by
    match a with
    | ⟨0, _⟩ => rfl
    | ⟨1, _⟩ => rfl
    | ⟨2, _⟩ => rfl)
  rw [val_main_v39_apply, e, logf_at]

end Cert.InP.Plain

namespace Cert.InP

open Idealize.ShloMosaic Cert.Kernel5Ideal Cert.Kernel5Ideal.Gen Idealize.ShloMosaic.TcCoe

variable (m : (ℓ : Loc nD τ sig) → Buf (Elt Ideal) ℓ) (c : Dev nD)

theorem res_q : (dats m 0 c).arrAt 5 cfg0.N = Cert.Reference5Ideal.Read.val_main_v33 (F := Ideal) (ax m c) (ag m c) (aw m c) := by
  rw [arr_q]
  funext i
  idx_vars i
  exact (Plain.query_at _ _ _ i0 i1 i2).symm

theorem res_k : (dats m 0 c).arrAt 6 cfg0.N = Cert.Reference5Ideal.Read.val_main_v34 (F := Ideal) (ax m c) (ag m c) (aw m c) := by
  rw [arr_k]
  funext i
  idx_vars i
  exact (Plain.key_at _ _ _ i0 i2 i1).symm

theorem res_v : (dats m 0 c).arrAt 7 cfg0.N = Cert.Reference5Ideal.Read.val_main_v35 (F := Ideal) (ax m c) (ag m c) (aw m c) := by
  rw [arr_v]
  funext i
  idx_vars i
  exact (Plain.value_at _ _ _ i0 i2 i1).symm

theorem res_kb : (dats m 0 c).arrAt 8 cfg0.N = Cert.Reference5Ideal.Read.val_main_v37 (F := Ideal) (ax m c) (ag m c) (aw m c) := by
  rw [arr_kb]
  funext i
  idx_vars i
  exact (Plain.key_short_at _ _ _ i0 i2 i1).symm

theorem res_vb : (dats m 0 c).arrAt 9 cfg0.N = Cert.Reference5Ideal.Read.val_main_v38 (F := Ideal) (ax m c) (ag m c) (aw m c) := by
  rw [arr_vb]
  funext i
  idx_vars i
  exact (Plain.value_short_at _ _ _ i0 i1 i2).symm

theorem res_f : (dats m 0 c).arrAt 10 cfg0.N = Cert.Reference5Ideal.Read.val_main_v39 (F := Ideal) (ax m c) (ag m c) (aw m c) (ab m c) := by
  rw [arr_f]
  funext i
  idx_vars i
  exact (Plain.gates_at _ _ _ _ i0 i2 i1).symm

theorem res_u : (dats m 0 c).arrAt 11 cfg0.N = Cert.Reference5Ideal.Read.val_main_v30 (F := Ideal) (ax m c) (ag m c) (aw m c) := by
  rw [arr_u]
  funext i
  idx_vars i
  exact (Plain.conv_at _ _ _ i0 i1 i2).symm

end Cert.InP
-- ==== Proof.InSTile.lean ====
/- The projection on the samples: the blocks one grid point writes, entry by entry. -/
module

public import proofs.«01_k».proof.Proof.InRows
public import proofs.«01_k».proof.Proof.Gen.Kernel6Ideal.Value
public import Idealize.ShloMosaic.Lib.Pointwise
public import Idealize.ShloMosaic.Lib.Pipeline.ValueKit

@[expose] public section

set_option maxRecDepth 16384

noncomputable section

namespace Cert.InS

open Cert.Kernel6Ideal.Facts Cert.Ffn Cert.InProj
open Idealize.ShloMosaic Cert.Kernel6Ideal Cert.Kernel6Ideal.Gen Idealize.ShloMosaic.TcCoe Idealize.SL.Sem

/-- The product of a block's normed rows with the prepared weights. -/
def tz (x : Vec Ideal S1x128x1024 .f32) (g : Vec Ideal S1x1024 .f32) (w : Vec Ideal S1024x2688 .bf16) : FVec Ideal S128x2688 .f32 :=
  zV x g w shapeCasts_S1x128x1024_S128x1024 reduces_S128x1024_S128 shapeCasts_S128_S128x1 broadcasts_S128x1_S128x1024 broadcasts_S1x1024_S128x1024 bitsLt_bf16_f32

section
variable (x : Vec Ideal S1x128x1024 .f32) (g : Vec Ideal S1x1024 .f32) (w : Vec Ideal S1024x2688 .bf16) (b : Vec Ideal S1x128 .f32)

theorem product_eq : k0_pay7 x g w = tz x g w := by
  unfold k0_pay7
  try dsimp only
  rw [shapeCast_self, shapeCast_self]
  rfl

theorem v_part (r : Fin 128) (j : Fin 512) : k0_pay9 x g w (ix2 r j) = tz x g w (ix2 r ⟨1024 + j.val, by have := j.isLt; omega⟩) := by
  unfold k0_pay9
  try dsimp only
  rw [product_eq]
  exact cut_apply _ 1024 _ r j _ rfl

theorem a_part (r : Fin 128) (j : Fin 512) : k0_pay10 x g w (ix2 r j) = tz x g w (ix2 r ⟨1536 + j.val, by have := j.isLt; omega⟩) := by
  unfold k0_pay10
  try dsimp only
  rw [product_eq]
  exact cut_apply _ 1536 _ r j _ rfl

theorem b_part (r : Fin 128) (j : Fin 512) : k0_pay11 x g w (ix2 r j) = tz x g w (ix2 r ⟨2048 + j.val, by have := j.isLt; omega⟩) := by
  unfold k0_pay11
  try dsimp only
  rw [product_eq]
  exact cut_apply _ 2048 _ r j _ rfl

theorem f_part (r : Fin 128) (j : Fin 128) : k0_pay12 x g w (ix2 r j) = tz x g w (ix2 r ⟨2560 + j.val, by have := j.isLt; omega⟩) := by
  unfold k0_pay12
  try dsimp only
  rw [product_eq]
  exact cut_apply _ 2560 _ r j _ rfl

theorem q_out (r : Fin 128) (j : Fin 512) : (k0_pay13 x g w (ix3 0 r j) : EReal) = tz x g w (ix2 r ⟨j.val, by have := j.isLt; omega⟩) * qscale := by
  unfold k0_pay13
  try dsimp only
  rw [up_apply, product_eq]
  show (extractStridedSlice _ _ _ _ _ : EReal) * Scalar.ofBits (F := Ideal) .f32 0x3E38AA3B#32 = _
  rw [cut_apply (tz x g w) 0 _ r j ⟨j.val, by have := j.isLt; omega⟩ (by show j.val = 0 + j.val; omega)]
  rfl

theorem k_part (r : Fin 128) (j : Fin 512) : k0_pay8 x g w (ix2 r j) = tz x g w (ix2 r ⟨512 + j.val, by have := j.isLt; omega⟩) := by
  unfold k0_pay8
  try dsimp only
  rw [product_eq]
  exact cut_apply _ 512 _ r j _ rfl

theorem k_out (r : Fin 128) (j : Fin 512) : k0_pay14 (k0_pay8 x g w) (ix3 0 r j) = tz x g w (ix2 r ⟨512 + j.val, by have := j.isLt; omega⟩) := by
  unfold k0_pay14
  try dsimp only
  rw [up_apply, k_part]

theorem v_out (r : Fin 128) (j : Fin 512) : k0_pay15 (k0_pay9 x g w) (ix3 0 r j) = tz x g w (ix2 r ⟨1024 + j.val, by have := j.isLt; omega⟩) := by
  unfold k0_pay15
  try dsimp only
  rw [up_apply, v_part]

theorem u_out (r : Fin 128) (j : Fin 512) : k0_pay16 (k0_pay10 x g w) (k0_pay11 x g w) (ix3 0 r j)
    = glu (tz x g w (ix2 r ⟨1536 + j.val, by have := j.isLt; omega⟩)) (tz x g w (ix2 r ⟨2048 + j.val, by have := j.isLt; omega⟩)) := by
  unfold k0_pay16
  try dsimp only
  rw [up_apply]
  refine (gluV_apply (k0_pay10 x g w) (k0_pay11 x g w) r j).trans ?_
  rw [a_part, b_part]

theorem f_sum (r : Fin 128) (j : Fin 128) : lsigV (k0_pay12 x g w) b broadcasts_S1x128_S128x128 (ix2 r j)
    = lsig (tz x g w (ix2 r ⟨2560 + j.val, by have := j.isLt; omega⟩) + b (ix2 0 j)) := by
  rw [lsigV_apply, f_part]

theorem f_eq : (k0_pay17 (k0_pay12 x g w) b) = extractStridedSlice S8x128 ![0, 0] (transpose S128x128 [1, 0] (lsigV (k0_pay12 x g w) b broadcasts_S1x128_S128x128)
    transposes_S128x128_p1_0_S128x128) slices_S128x128_o0_0_S8x128 := by
  unfold k0_pay17
  try dsimp only
  rw [shapeCast_self]
  rfl

theorem f_out (h : Fin 8) (r : Fin 128) : k0_pay18 (k0_pay12 x g w) b (ix3 0 h r)
    = lsig (tz x g w (ix2 r ⟨2560 + h.val, by have := h.isLt; omega⟩) + b (ix2 0 ⟨h.val, by have := h.isLt; omega⟩)) := by
  unfold k0_pay18
  try dsimp only
  rw [up_apply, f_eq]
  refine (top_apply _ slices_S128x128_o0_0_S8x128 h r (⟨h.val, by have := h.isLt; omega⟩ : Fin 128) rfl).trans ?_
  rw [flip_apply]
  exact f_sum x g w b r _

end

section
variable (c : Dev nD) (i : grid0.Coords) (a2 : Memref sig .tc .vmem S1x128x1024 .f32) (h2 : a2.IsWhole) (a3 : Memref sig .tc .vmem S1x1024 .f32) (h3 : a3.IsWhole) (a4 : Memref sig .tc .vmem S1024x2688 .bf16) (h4 : a4.IsWhole) (a5 : Memref sig .tc .vmem S1x128 .f32) (h5 : a5.IsWhole) (a6 : Memref sig .tc .vmem S128x128 .f32) (h6 : a6.IsWhole) (a7 : Memref sig .tc .vmem S1x128x512 .bf16) (h7 : a7.IsWhole) (a8 : Memref sig .tc .vmem S1x128x512 .f32) (h8 : a8.IsWhole) (a9 : Memref sig .tc .vmem S1x128x512 .f32) (h9 : a9.IsWhole) (a10 : Memref sig .tc .vmem S1x8x128 .f32) (h10 : a10.IsWhole) (a11 : Memref sig .tc .vmem S1x128x512 .f32) (h11 : a11.IsWhole) (a12 : Memref sig .tc .vmem S1x128x8 .f32) (h12 : a12.IsWhole) (a13 : Memref sig .tc .vmem S1x8x128 .f32) (h13 : a13.IsWhole) (a14 : Memref sig .tc .vmem S8x128 .f32) (h14 : a14.IsWhole)
   (x0 : Vec Ideal S1x128x1024 .f32) (x1 : Vec Ideal S1x1024 .f32) (x2 : Vec Ideal S1024x2688 .bf16) (x3 : Vec Ideal S1x128 .f32) (x4 : Vec Ideal S128x128 .f32)

theorem x_ld : (View.readAt (Elt Ideal) a2.view (Rect.unit (s := S1x128x1024) ![0, 0, 0] S1x128x1024.size inb_S1x128x1024_S1x128x1024_0_0_0).toLoadRect (h2.unread x0)) = x0 := by
  rw [View.readAt_eq_ld, h2.read_unread]
  exact View.ld_unit_lit _ x0 (by decide)

theorem g_ld : (View.readAt (Elt Ideal) a3.view (Rect.unit (s := S1x1024) ![0, 0] S1x1024.size inb_S1x1024_S1x1024_0_0).toLoadRect (h3.unread x1)) = x1 := by
  rw [View.readAt_eq_ld, h3.read_unread]
  exact View.ld_unit_lit _ x1 (by decide)

theorem w_ld : (View.readAt (Elt Ideal) a4.view (Rect.unit (s := S1024x2688) ![0, 0] S1024x2688.size inb_S1024x2688_S1024x2688_0_0).toLoadRect (h4.unread x2)) = x2 := by
  rw [View.readAt_eq_ld, h4.read_unread]
  exact View.ld_unit_lit _ x2 (by decide)

theorem b_ld : (View.readAt (Elt Ideal) a5.view (Rect.unit (s := S1x128) ![0, 0] S1x128.size inb_S1x128_S1x128_0_0).toLoadRect (h5.unread x3)) = x3 := by
  rw [View.readAt_eq_ld, h5.read_unread]
  exact View.ld_unit_lit _ x3 (by decide)

theorem outA_q (hc0 : cond0_0 i) (p : Fin 128) (s : Fin 512) :
    (out0_A_5 (F := Ideal) c i a2 h2 a3 h3 a4 h4 a5 h5 a6 h6 a7 h7 a8 h8 a9 h9 a10 h10 a11 h11 a12 h12 a13 h13 a14 h14 hc0 x0 x1 x2 x3 x4 (ix3 0 p s) : EReal) = tz x0 x1 x2 (ix2 p ⟨s.val, by have := s.isLt; omega⟩) * qscale := by
  unfold out0_A_5
  rw [View.read_writes_eq_canon _ _ _ (cover0_A_5 c i a2 h2 a3 h3 a4 h4 a5 h5 a6 h6 a7 h7 a8 h8 a9 h9 a10 h10 a11 h11 a12 h12 a13 h13 a14 h14 hc0 x0 x1 x2 x3 x4)]
  unfold kernelRun0_A
  try dsimp only
  rw [View.canon_cons_unit_lit _ _ _ (by decide)]
  refine Eq.trans (b := k0_pay13 (View.readAt (Elt Ideal) a2.view (Rect.unit (s := S1x128x1024) ![0, 0, 0] S1x128x1024.size inb_S1x128x1024_S1x128x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2)) (ix3 0 p s)) rfl ?_
  rw [x_ld, g_ld, w_ld]
  exact q_out x0 x1 x2 p s

theorem outA_k (hc0 : cond0_0 i) (p : Fin 128) (s : Fin 512) :
    (out0_A_6 (F := Ideal) c i a2 h2 a3 h3 a4 h4 a5 h5 a6 h6 a7 h7 a8 h8 a9 h9 a10 h10 a11 h11 a12 h12 a13 h13 a14 h14 hc0 x0 x1 x2 x3 x4 (ix3 0 p s) : EReal) = tz x0 x1 x2 (ix2 p ⟨512 + s.val, by have := s.isLt; omega⟩) := by
  unfold out0_A_6
  rw [View.read_writes_eq_canon _ _ _ (cover0_A_6 c i a2 h2 a3 h3 a4 h4 a5 h5 a6 h6 a7 h7 a8 h8 a9 h9 a10 h10 a11 h11 a12 h12 a13 h13 a14 h14 hc0 x0 x1 x2 x3 x4)]
  unfold kernelRun0_A
  try dsimp only
  rw [View.canon_cons_unit_lit _ _ _ (by decide)]
  refine Eq.trans (b := k0_pay14 (k0_pay8 (View.readAt (Elt Ideal) a2.view (Rect.unit (s := S1x128x1024) ![0, 0, 0] S1x128x1024.size inb_S1x128x1024_S1x128x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (ix3 0 p s)) rfl ?_
  rw [x_ld, g_ld, w_ld]
  exact k_out x0 x1 x2 p s

theorem outA_v (hc0 : cond0_0 i) (p : Fin 128) (s : Fin 512) :
    (out0_A_7 (F := Ideal) c i a2 h2 a3 h3 a4 h4 a5 h5 a6 h6 a7 h7 a8 h8 a9 h9 a10 h10 a11 h11 a12 h12 a13 h13 a14 h14 hc0 x0 x1 x2 x3 x4 (ix3 0 p s) : EReal) = tz x0 x1 x2 (ix2 p ⟨1024 + s.val, by have := s.isLt; omega⟩) := by
  unfold out0_A_7
  rw [View.read_writes_eq_canon _ _ _ (cover0_A_7 c i a2 h2 a3 h3 a4 h4 a5 h5 a6 h6 a7 h7 a8 h8 a9 h9 a10 h10 a11 h11 a12 h12 a13 h13 a14 h14 hc0 x0 x1 x2 x3 x4)]
  unfold kernelRun0_A
  try dsimp only
  rw [View.canon_cons_unit_lit _ _ _ (by decide)]
  refine Eq.trans (b := k0_pay15 (k0_pay9 (View.readAt (Elt Ideal) a2.view (Rect.unit (s := S1x128x1024) ![0, 0, 0] S1x128x1024.size inb_S1x128x1024_S1x128x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (ix3 0 p s)) rfl ?_
  rw [x_ld, g_ld, w_ld]
  exact v_out x0 x1 x2 p s

theorem outA_f (hc0 : cond0_0 i) (p : Fin 8) (s : Fin 128) :
    (out0_A_8 (F := Ideal) c i a2 h2 a3 h3 a4 h4 a5 h5 a6 h6 a7 h7 a8 h8 a9 h9 a10 h10 a11 h11 a12 h12 a13 h13 a14 h14 hc0 x0 x1 x2 x3 x4 (ix3 0 p s) : EReal) = lsig (tz x0 x1 x2 (ix2 s ⟨2560 + p.val, by have := p.isLt; omega⟩) + x3 (ix2 0 ⟨p.val, by have := p.isLt; omega⟩)) := by
  unfold out0_A_8
  rw [View.read_writes_eq_canon _ _ _ (cover0_A_8 c i a2 h2 a3 h3 a4 h4 a5 h5 a6 h6 a7 h7 a8 h8 a9 h9 a10 h10 a11 h11 a12 h12 a13 h13 a14 h14 hc0 x0 x1 x2 x3 x4)]
  unfold kernelRun0_A
  try dsimp only
  rw [View.canon_cons_unit_lit _ _ _ (by decide)]
  refine Eq.trans (b := k0_pay18 (k0_pay12 (View.readAt (Elt Ideal) a2.view (Rect.unit (s := S1x128x1024) ![0, 0, 0] S1x128x1024.size inb_S1x128x1024_S1x128x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (View.readAt (Elt Ideal) a5.view (Rect.unit (s := S1x128) ![0, 0] S1x128.size inb_S1x128_S1x128_0_0).toLoadRect (h5.unread x3)) (ix3 0 p s)) rfl ?_
  rw [x_ld, g_ld, w_ld, b_ld]
  exact f_out x0 x1 x2 x3 p s

theorem outA_u (hc0 : cond0_0 i) (p : Fin 128) (s : Fin 512) :
    (out0_A_9 (F := Ideal) c i a2 h2 a3 h3 a4 h4 a5 h5 a6 h6 a7 h7 a8 h8 a9 h9 a10 h10 a11 h11 a12 h12 a13 h13 a14 h14 hc0 x0 x1 x2 x3 x4 (ix3 0 p s) : EReal) = glu (tz x0 x1 x2 (ix2 p ⟨1536 + s.val, by have := s.isLt; omega⟩)) (tz x0 x1 x2 (ix2 p ⟨2048 + s.val, by have := s.isLt; omega⟩)) := by
  unfold out0_A_9
  rw [View.read_writes_eq_canon _ _ _ (cover0_A_9 c i a2 h2 a3 h3 a4 h4 a5 h5 a6 h6 a7 h7 a8 h8 a9 h9 a10 h10 a11 h11 a12 h12 a13 h13 a14 h14 hc0 x0 x1 x2 x3 x4)]
  unfold kernelRun0_A
  try dsimp only
  rw [View.canon_cons_unit_lit _ _ _ (by decide)]
  refine Eq.trans (b := k0_pay16 (k0_pay10 (View.readAt (Elt Ideal) a2.view (Rect.unit (s := S1x128x1024) ![0, 0, 0] S1x128x1024.size inb_S1x128x1024_S1x128x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (k0_pay11 (View.readAt (Elt Ideal) a2.view (Rect.unit (s := S1x128x1024) ![0, 0, 0] S1x128x1024.size inb_S1x128x1024_S1x128x1024_0_0_0).toLoadRect (h2.unread x0)) (View.readAt (Elt Ideal) a3.view (Rect.unit (s := S1x1024) ![0, 0] S1x1024.size inb_S1x1024_S1x1024_0_0).toLoadRect (h3.unread x1)) (View.readAt (Elt Ideal) a4.view (Rect.unit (s := S1024x2688) ![0, 0] S1024x2688.size inb_S1024x2688_S1024x2688_0_0).toLoadRect (h4.unread x2))) (ix3 0 p s)) rfl ?_
  rw [x_ld, g_ld, w_ld]
  exact u_out x0 x1 x2 p s

end

end Cert.InS
-- ==== Proof.InS.lean ====
/- The projection on the samples: what its result arrays hold. -/
module

public import proofs.«01_k».proof.Proof.InSTile
public import Idealize.ShloMosaic.Lib.IdealHost

@[expose] public section

set_option maxRecDepth 16384

noncomputable section

namespace Cert.InS

open Cert.Kernel6Ideal.Facts Cert.Ffn Cert.InProj
open Idealize.ShloMosaic Cert.Kernel6Ideal Cert.Kernel6Ideal.Gen Idealize.ShloMosaic.TcCoe Idealize.SL.Sem

/-! ## The prepared arrays and the blocks -/

theorem idx0 : ∀ t : Fin grid0.N, win0_0.index t = ![0, 0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx5 : ∀ t : Fin grid0.N, win0_5.index t = ![0, 0, 0] := by decide +kernel
theorem idx6 : ∀ t : Fin grid0.N, win0_6.index t = ![0, 0, 0] := by decide +kernel
theorem idx7 : ∀ t : Fin grid0.N, win0_7.index t = ![0, 0, 0] := by decide +kernel
theorem idx8 : ∀ t : Fin grid0.N, win0_8.index t = ![0, 0, 0] := by decide +kernel
theorem idx9 : ∀ t : Fin grid0.N, win0_9.index t = ![0, 0, 0] := by decide +kernel

variable (m : (ℓ : Loc nD τ sig) → Buf (Elt Ideal) ℓ) (c : Dev nD) (t : Fin cfg0.N)

abbrev ax : FVec Ideal S32x4x1024 .f32 := m ((c : Thread nD τ).loc main_arg0)
abbrev ag : FVec Ideal S1024 .f32 := m ((c : Thread nD τ).loc main_arg1)
abbrev aw : FVec Ideal S1024x2568 .f32 := m ((c : Thread nD τ).loc main_arg2)
abbrev ab : FVec Ideal S8 .f32 := m ((c : Thread nD τ).loc main_arg3)

theorem V_x : (V m c main_v25 : FVec Ideal S1x128x1024 .f32) = shapeCast S1x128x1024 (ax m c) shapeCasts_S32x4x1024_S1x128x1024 := by
  show StableHlo.after _ _ _ = _
  simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_g : (V m c main_v26 : FVec Ideal S1x1024 .f32) = shapeCast S1x1024 (ag m c) shapeCasts_S1024_S1x1024 := by
  show StableHlo.after _ _ _ = _
  simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_w : (V m c main_v5 : FVec Ideal S1024x2688 .bf16) = wideV (aw m c) (broadcastInDim S1024x120 ![] bcast_S_S1024x120 (constant S_ .f32 0x00000000#32))
    slices_S1024x2568_S1024x1536_0_0 slices_S1024x2568_S1024x1024_0_1544 slices_S1024x2568_S1024x8_0_1536
    concatenates_S1024x1536_S1024x1024_S1024x8_S1024x120_S1024x2688_d1 bitsLt_bf16_f32 := by
  show StableHlo.after _ _ _ = _
  simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_b : (V m c main_v8 : FVec Ideal S1x128 .f32) = shapeCast S1x128 (concatenate S128 0 [⟨S8, ab m c⟩,
    ⟨S120, broadcastInDim S120 ![] bcast_S_S120 (constant (F := Ideal) S_ .f32 0x00000000#32)⟩] concatenates_S8_S120_S128_d0) shapeCasts_S128_S1x128 := by
  show StableHlo.after _ _ _ = _
  simp only [hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

/-- The batch and the position of a row of the flat array. -/
def bat (R : Fin 128) : Fin 32 := ⟨R.val / 4, by have := R.isLt; omega⟩
def pos (R : Fin 128) : Fin 4 := ⟨R.val % 4, Nat.mod_lt _ (by omega)⟩

theorem x_at (r : Fin 128) (k : Fin 1024) : ((iblk m c 0 t : Vec Ideal S1x128x1024 .f32) (ix3 0 r k) : EReal) = ax m c (ix3 (bat r) (pos r) k) := by
  have e : (iblk m c 0 t : Vec Ideal S1x128x1024 .f32) (ix3 0 r k) = (V m c main_v25 : FVec Ideal S1x128x1024 .f32) (ix3 0 r k) := by
    unfold iblk
    generalize V m c (Pipeline.arrRef spec0 0) = X
    blk_ext [idx0 t]
  rw [e, V_x]
  refine shapeCast_apply _ _ _ _ ?_
  rw [Shape.rowMajor_val_three, Shape.rowMajor_val_three]
  show (r.val / 4 * 4 + r.val % 4) * 1024 + k.val = (0 * 128 + r.val) * 1024 + k.val
  rw [Nat.div_add_mod', Nat.zero_mul, Nat.zero_add]

theorem g_at (k : Fin 1024) : ((iblk m c 1 t : Vec Ideal S1x1024 .f32) (ix2 0 k) : EReal) = ag m c (ix1 k) := by
  have e : (iblk m c 1 t : Vec Ideal S1x1024 .f32) (ix2 0 k) = (V m c main_v26 : FVec Ideal S1x1024 .f32) (ix2 0 k) := by
    unfold iblk
    generalize V m c (Pipeline.arrRef spec0 1) = X
    blk_ext [idx1 t]
  rw [e, V_g]
  pointwise

theorem w_blk (k : Fin 1024) (J : Fin 2688) : ((iblk m c 2 t : Vec Ideal S1024x2688 .bf16) (ix2 k J) : EReal) = (V m c main_v5 : FVec Ideal S1024x2688 .bf16) (ix2 k J) := by
  unfold iblk
  generalize V m c (Pipeline.arrRef spec0 2) = X
  blk_ext [idx2 t]

theorem w_a (k : Fin 1024) (J : Fin 2688) (S : Fin 2568) (h : J.val < 1536) (hS : S.val = J.val) :
    ((iblk m c 2 t : Vec Ideal S1024x2688 .bf16) (ix2 k J) : EReal) = aw m c (ix2 k S) := by
  rw [w_blk, V_w]
  exact wide_a _ _ _ _ _ _ _ k J S h hS

theorem w_b (k : Fin 1024) (J : Fin 2688) (S : Fin 2568) (h : 1536 ≤ J.val) (h' : J.val < 2560) (hS : S.val = J.val + 8) :
    ((iblk m c 2 t : Vec Ideal S1024x2688 .bf16) (ix2 k J) : EReal) = aw m c (ix2 k S) := by
  rw [w_blk, V_w]
  exact wide_b _ _ _ _ _ _ _ k J S h h' hS

theorem w_c (k : Fin 1024) (J : Fin 2688) (S : Fin 2568) (h : 2560 ≤ J.val) (h' : J.val < 2568) (hS : S.val + 1024 = J.val) :
    ((iblk m c 2 t : Vec Ideal S1024x2688 .bf16) (ix2 k J) : EReal) = aw m c (ix2 k S) := by
  rw [w_blk, V_w]
  exact wide_c _ _ _ _ _ _ _ k J S h h' hS

theorem b_at (h : Fin 8) (J : Fin 128) (hJ : J.val = h.val) : ((iblk m c 3 t : Vec Ideal S1x128 .f32) (ix2 0 J) : EReal) = ab m c (ix1 h) := by
  have e : (iblk m c 3 t : Vec Ideal S1x128 .f32) (ix2 0 J) = (V m c main_v8 : FVec Ideal S1x128 .f32) (ix2 0 J) := by
    unfold iblk
    generalize V m c (Pipeline.arrRef spec0 3) = X
    blk_ext [idx3 t]
  rw [e, V_b]
  exact bias_at (ab m c) _ _ _ h J hJ

/-! ## The blocks as parts of projected rows -/

abbrev rowOf (R : Fin 128) (k : Fin 1024) : EReal := ax m c (ix3 (bat R) (pos R) k)
abbrev gainOf (k : Fin 1024) : EReal := ag m c (ix1 k)
abbrev weightOf (k : Fin 1024) (j : Fin 2568) : EReal := aw m c (ix2 k j)
abbrev biasOf (h : Fin 8) : EReal := ab m c (ix1 h)

theorem tz_a (r : Fin 128) (J : Fin 2688) (S : Fin 2568) (h : J.val < 1536) (hS : S.val = J.val) :
    tz (iblk m c 0 t) (iblk m c 1 t) (iblk m c 2 t) (ix2 r J) = proj (rowOf m c r) (gainOf m c) (weightOf m c) S :=
  zV_col _ _ _ _ _ _ _ _ _ r J _ _ _ S (fun k => x_at m c t r k) (fun k => g_at m c t k) (fun k => w_a m c t k J S h hS)

theorem tz_b (r : Fin 128) (J : Fin 2688) (S : Fin 2568) (h : 1536 ≤ J.val) (h' : J.val < 2560) (hS : S.val = J.val + 8) :
    tz (iblk m c 0 t) (iblk m c 1 t) (iblk m c 2 t) (ix2 r J) = proj (rowOf m c r) (gainOf m c) (weightOf m c) S :=
  zV_col _ _ _ _ _ _ _ _ _ r J _ _ _ S (fun k => x_at m c t r k) (fun k => g_at m c t k) (fun k => w_b m c t k J S h h' hS)

theorem tz_c (r : Fin 128) (J : Fin 2688) (S : Fin 2568) (h : 2560 ≤ J.val) (h' : J.val < 2568) (hS : S.val + 1024 = J.val) :
    tz (iblk m c 0 t) (iblk m c 1 t) (iblk m c 2 t) (ix2 r J) = proj (rowOf m c r) (gainOf m c) (weightOf m c) S :=
  zV_col _ _ _ _ _ _ _ _ _ r J _ _ _ S (fun k => x_at m c t r k) (fun k => g_at m c t k) (fun k => w_c m c t k J S h h' hS)

theorem atA_q : (outsAt0 m c t).1 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hcond0_0 t) (iblk m c 0 t) (iblk m c 1 t) (iblk m c 2 t) (iblk m c 3 t) (iblk m c 4 t) := by dsimp only [outsAt0]

theorem q_blk (r : Fin 128) (j : Fin 512) : ((outsAt0 m c t).1 (ix3 0 r j) : EReal) = query (rowOf m c r) (gainOf m c) (weightOf m c) j := by
  have hj := j.isLt
  refine Eq.trans (b := (tz (iblk m c 0 t) (iblk m c 1 t) (iblk m c 2 t) (ix2 r ⟨j.val, by omega⟩) : EReal) * qscale) ?_ ?_
  · rw [atA_q m c t]
    exact outA_q ..
  · exact congrArg (· * qscale) (tz_a m c t r _ ⟨j.val, by omega⟩ (by show j.val < 1536; omega) rfl)

theorem atA_k : (outsAt0 m c t).2.1 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hcond0_0 t) (iblk m c 0 t) (iblk m c 1 t) (iblk m c 2 t) (iblk m c 3 t) (iblk m c 4 t) := by dsimp only [outsAt0]

theorem k_blk (r : Fin 128) (j : Fin 512) : ((outsAt0 m c t).2.1 (ix3 0 r j) : EReal) = key (rowOf m c r) (gainOf m c) (weightOf m c) j := by
  have hj := j.isLt
  refine Eq.trans (b := (tz (iblk m c 0 t) (iblk m c 1 t) (iblk m c 2 t) (ix2 r ⟨512 + j.val, by omega⟩) : EReal)) ?_ ?_
  · rw [atA_k m c t]
    exact outA_k ..
  · exact tz_a m c t r _ ⟨512 + j.val, by omega⟩ (by show 512 + j.val < 1536; omega) rfl

theorem atA_v : (outsAt0 m c t).2.2.1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hcond0_0 t) (iblk m c 0 t) (iblk m c 1 t) (iblk m c 2 t) (iblk m c 3 t) (iblk m c 4 t) := by dsimp only [outsAt0]

theorem v_blk (r : Fin 128) (j : Fin 512) : ((outsAt0 m c t).2.2.1 (ix3 0 r j) : EReal) = value (rowOf m c r) (gainOf m c) (weightOf m c) j := by
  have hj := j.isLt
  refine Eq.trans (b := (tz (iblk m c 0 t) (iblk m c 1 t) (iblk m c 2 t) (ix2 r ⟨1024 + j.val, by omega⟩) : EReal)) ?_ ?_
  · rw [atA_v m c t]
    exact outA_v ..
  · exact tz_a m c t r _ ⟨1024 + j.val, by omega⟩ (by show 1024 + j.val < 1536; omega) rfl

theorem atA_f : (outsAt0 m c t).2.2.2.1 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hcond0_0 t) (iblk m c 0 t) (iblk m c 1 t) (iblk m c 2 t) (iblk m c 3 t) (iblk m c 4 t) := by dsimp only [outsAt0]

theorem f_blk (j : Fin 8) (r : Fin 128) : ((outsAt0 m c t).2.2.2.1 (ix3 0 j r) : EReal) = logf (rowOf m c r) (gainOf m c) (weightOf m c) (biasOf m c) j := by
  have hj := j.isLt
  refine Eq.trans (b := lsig ((tz (iblk m c 0 t) (iblk m c 1 t) (iblk m c 2 t) (ix2 r ⟨2560 + j.val, by omega⟩) : EReal) + (iblk m c 3 t : Vec Ideal S1x128 .f32) (ix2 0 ⟨j.val, by omega⟩))) ?_ ?_
  · rw [atA_f m c t]
    exact outA_f ..
  · rw [tz_c m c t r _ ⟨1536 + j.val, by omega⟩ (by show 2560 ≤ 2560 + j.val; omega) (by show 2560 + j.val < 2568; omega)
      (by show 1536 + j.val + 1024 = 2560 + j.val; omega), b_at m c t j _ rfl]
    rfl

theorem atA_u : (outsAt0 m c t).2.2.2.2.1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (hcond0_0 t) (iblk m c 0 t) (iblk m c 1 t) (iblk m c 2 t) (iblk m c 3 t) (iblk m c 4 t) := by dsimp only [outsAt0]

theorem u_blk (r : Fin 128) (j : Fin 512) : ((outsAt0 m c t).2.2.2.2.1 (ix3 0 r j) : EReal) = conv (rowOf m c r) (gainOf m c) (weightOf m c) j := by
  have hj := j.isLt
  refine Eq.trans (b := glu (tz (iblk m c 0 t) (iblk m c 1 t) (iblk m c 2 t) (ix2 r ⟨1536 + j.val, by omega⟩) : EReal) (tz (iblk m c 0 t) (iblk m c 1 t) (iblk m c 2 t) (ix2 r ⟨2048 + j.val, by omega⟩) : EReal)) ?_ ?_
  · rw [atA_u m c t]
    exact outA_u ..
  · rw [tz_b m c t r ⟨1536 + j.val, _⟩ ⟨1544 + j.val, by omega⟩ (by show 1536 ≤ 1536 + j.val; omega) (by show 1536 + j.val < 2560; omega)
      (by show 1544 + j.val = 1536 + j.val + 8; omega),
      tz_b m c t r ⟨2048 + j.val, _⟩ ⟨2056 + j.val, by omega⟩ (by show 1536 ≤ 2048 + j.val; omega) (by show 2048 + j.val < 2560; omega)
      (by show 2056 + j.val = 2048 + j.val + 8; omega)]
    rfl

/-! ## The result arrays -/

/-- The result array 1. -/
def G_q : FVec Ideal S1x128x512 .bf16 := fun i => query (rowOf m c (i 1)) (gainOf m c) (weightOf m c) (i 2)

theorem arr_q : (dats m 0 c).arrAt 5 cfg0.N = G_q m c := by
  refine (dats m 0 c).arrAt_eq_of_covers 5 (G_q m c) (by decide +kernel) (fun t hf i => ?_)
  idx_vars i
  obtain rfl : i0 = 0 := Subsingleton.elim _ _
  blk_simp
  rw [after0_5]
  refine (q_blk m c t i1 i2).trans ?_
  show G_q m c (ix3 0 i1 i2) = _
  refine congrArg (G_q m c) ?_
  blk_ext [idx5 t]

/-- The result array 2. -/
def G_k : FVec Ideal S1x128x512 .f32 := fun i => key (rowOf m c (i 1)) (gainOf m c) (weightOf m c) (i 2)

theorem arr_k : (dats m 0 c).arrAt 6 cfg0.N = G_k m c := by
  refine (dats m 0 c).arrAt_eq_of_covers 6 (G_k m c) (by decide +kernel) (fun t hf i => ?_)
  idx_vars i
  obtain rfl : i0 = 0 := Subsingleton.elim _ _
  blk_simp
  rw [after0_6]
  refine (k_blk m c t i1 i2).trans ?_
  show G_k m c (ix3 0 i1 i2) = _
  refine congrArg (G_k m c) ?_
  blk_ext [idx6 t]

/-- The result array 3. -/
def G_v : FVec Ideal S1x128x512 .f32 := fun i => value (rowOf m c (i 1)) (gainOf m c) (weightOf m c) (i 2)

theorem arr_v : (dats m 0 c).arrAt 7 cfg0.N = G_v m c := by
  refine (dats m 0 c).arrAt_eq_of_covers 7 (G_v m c) (by decide +kernel) (fun t hf i => ?_)
  idx_vars i
  obtain rfl : i0 = 0 := Subsingleton.elim _ _
  blk_simp
  rw [after0_7]
  refine (v_blk m c t i1 i2).trans ?_
  show G_v m c (ix3 0 i1 i2) = _
  refine congrArg (G_v m c) ?_
  blk_ext [idx7 t]

/-- The result array 4. -/
def G_f : FVec Ideal S1x8x128 .f32 := fun i => logf (rowOf m c (i 2)) (gainOf m c) (weightOf m c) (biasOf m c) (i 1)

theorem arr_f : (dats m 0 c).arrAt 8 cfg0.N = G_f m c := by
  refine (dats m 0 c).arrAt_eq_of_covers 8 (G_f m c) (by decide +kernel) (fun t hf i => ?_)
  idx_vars i
  obtain rfl : i0 = 0 := Subsingleton.elim _ _
  blk_simp
  rw [after0_8]
  refine (f_blk m c t i1 i2).trans ?_
  show G_f m c (ix3 0 i1 i2) = _
  refine congrArg (G_f m c) ?_
  blk_ext [idx8 t]

/-- The result array 5. -/
def G_u : FVec Ideal S1x128x512 .f32 := fun i => conv (rowOf m c (i 1)) (gainOf m c) (weightOf m c) (i 2)

theorem arr_u : (dats m 0 c).arrAt 9 cfg0.N = G_u m c := by
  refine (dats m 0 c).arrAt_eq_of_covers 9 (G_u m c) (by decide +kernel) (fun t hf i => ?_)
  idx_vars i
  obtain rfl : i0 = 0 := Subsingleton.elim _ _
  blk_simp
  rw [after0_9]
  refine (u_blk m c t i1 i2).trans ?_
  show G_u m c (ix3 0 i1 i2) = _
  refine congrArg (G_u m c) ?_
  blk_ext [idx9 t]

end Cert.InS
-- ==== Proof.InSRef.lean ====
/- The projection reference on the samples: its values at an entry are the parts of the entry's projected row; so the call and the reference end equal. -/
module

public import proofs.«01_k».proof.Proof.InS
public import proofs.«01_k».proof.Proof.Gen.Reference6Ideal.Run
public import proofs.«01_k».proof.Proof.Gen.Reference6Ideal.Read

@[expose] public section

set_option maxRecDepth 16384

noncomputable section

namespace Cert.InS.Plain

open Idealize.ShloMosaic Cert.Reference6Ideal Cert.Reference6Ideal.Read Cert.Ffn Cert.InProj

/-- The norm. -/
theorem norm_at (x0 : (⟨S32x4x1024, .f32⟩ : BufTy).Contents (Elt Ideal)) (x1 : (⟨S1024, .f32⟩ : BufTy).Contents (Elt Ideal)) (b : Fin 32) (n : Fin 4) (j : Fin 1024) :
    val_main_v12 (F := Ideal) x0 x1 (ix3 b n j) = rms (fun k => x0 (ix3 b n k)) (fun k => x1 (ix1 k)) j := by
  have e : ∀ k, idx_main_v1 (idx_main_v2 (idx_main_v8 (ix3 b n j))) k = ix3 b n k := fun k => funext fun a => Fin.ext (by
      match a with
      | ⟨0, _⟩ => rfl
      | ⟨1, _⟩ => rfl
      | ⟨2, _⟩ => rfl)
  have g : idx_main_v10 (idx_main_v11 (ix3 b n j)) = ix1 j := funext fun a => Fin.ext (by
      match a with
      | ⟨0, _⟩ => rfl)
  have z : FloatOps.ofBits (F := Ideal) .f32 0x00000000#32 = (0 : EReal) := Ideal.ofBits_zero_f32
  rw [val_main_v12_apply, val_main_v9_apply, val_main_v8_apply, val_main_v7_apply, val_main_v6_apply, val_main_v4_apply, val_main_v2_apply, val_main_v1_apply, val_main_v3_apply, val_main_v5_apply, val_main_v11_apply, val_main_v10_apply, val_main_cst_apply, val_main_cst_0_apply, val_main_cst_1_apply, g, z, zero_add]
  simp only [val_main_v0_apply, e]
  rfl

variable (x0 : (⟨S32x4x1024, .f32⟩ : BufTy).Contents (Elt Ideal)) (x1 : (⟨S1024, .f32⟩ : BufTy).Contents (Elt Ideal)) (x2 : (⟨S1024x2568, .f32⟩ : BufTy).Contents (Elt Ideal)) (x3 : (⟨S8, .f32⟩ : BufTy).Contents (Elt Ideal)) (b : Fin 32) (n : Fin 4)

/-- The projection. -/
theorem proj_at (J : Fin 2568) : val_main_v13 (F := Ideal) x0 x1 x2 (ix3 b n J) = proj (fun k => x0 (ix3 b n k)) (fun k => x1 (ix1 k)) (fun k j => x2 (ix2 k j)) J := by
  rw [val_main_v13_apply]
  refine Finset.sum_congr rfl fun k _ => ?_
  have el : lidx_main_v13 (ix3 b n J) k = ix3 b n k := funext fun a => Fin.ext (by
      match a with
      | ⟨0, _⟩ => rfl
      | ⟨1, _⟩ => rfl
      | ⟨2, _⟩ => rfl)
  have er : ridx_main_v13 (ix3 b n J) k = ix2 k J := funext fun a => Fin.ext (by
      match a with
      | ⟨0, _⟩ => rfl
      | ⟨1, _⟩ => rfl)
  rw [el, er, norm_at]

theorem q_part (j : Fin 512) : val_main_v14 (F := Ideal) x0 x1 x2 (ix3 b n j) = proj (fun k => x0 (ix3 b n k)) (fun k => x1 (ix1 k)) (fun k j => x2 (ix2 k j)) ⟨j.val, by have := j.isLt; omega⟩ := by
  have hj := j.isLt
  have e : idx_main_v14 (ix3 b n j) = ix3 b n (⟨j.val, by omega⟩ : Fin 2568) := funext fun a => Fin.ext (by
    match a with
    | ⟨0, _⟩ => first | rfl | exact Nat.zero_add _ | exact Nat.add_zero _
    | ⟨1, _⟩ => first | rfl | exact Nat.zero_add _ | exact Nat.add_zero _
    | ⟨2, _⟩ => first | rfl | exact Nat.zero_add _ | exact Nat.add_comm _ _)
  rw [val_main_v14_apply, e, proj_at]

theorem k_part (j : Fin 512) : val_main_v15 (F := Ideal) x0 x1 x2 (ix3 b n j) = proj (fun k => x0 (ix3 b n k)) (fun k => x1 (ix1 k)) (fun k j => x2 (ix2 k j)) ⟨512 + j.val, by have := j.isLt; omega⟩ := by
  have hj := j.isLt
  have e : idx_main_v15 (ix3 b n j) = ix3 b n (⟨512 + j.val, by omega⟩ : Fin 2568) := funext fun a => Fin.ext (by
    match a with
    | ⟨0, _⟩ => first | rfl | exact Nat.zero_add _ | exact Nat.add_zero _
    | ⟨1, _⟩ => first | rfl | exact Nat.zero_add _ | exact Nat.add_zero _
    | ⟨2, _⟩ => first | rfl | exact Nat.zero_add _ | exact Nat.add_comm _ _)
  rw [val_main_v15_apply, e, proj_at]

theorem v_part (j : Fin 512) : val_main_v16 (F := Ideal) x0 x1 x2 (ix3 b n j) = proj (fun k => x0 (ix3 b n k)) (fun k => x1 (ix1 k)) (fun k j => x2 (ix2 k j)) ⟨1024 + j.val, by have := j.isLt; omega⟩ := by
  have hj := j.isLt
  have e : idx_main_v16 (ix3 b n j) = ix3 b n (⟨1024 + j.val, by omega⟩ : Fin 2568) := funext fun a => Fin.ext (by
    match a with
    | ⟨0, _⟩ => first | rfl | exact Nat.zero_add _ | exact Nat.add_zero _
    | ⟨1, _⟩ => first | rfl | exact Nat.zero_add _ | exact Nat.add_zero _
    | ⟨2, _⟩ => first | rfl | exact Nat.zero_add _ | exact Nat.add_comm _ _)
  rw [val_main_v16_apply, e, proj_at]

theorem f_part (j : Fin 8) : val_main_v17 (F := Ideal) x0 x1 x2 (ix3 b n j) = proj (fun k => x0 (ix3 b n k)) (fun k => x1 (ix1 k)) (fun k j => x2 (ix2 k j)) ⟨1536 + j.val, by have := j.isLt; omega⟩ := by
  have hj := j.isLt
  have e : idx_main_v17 (ix3 b n j) = ix3 b n (⟨1536 + j.val, by omega⟩ : Fin 2568) := funext fun a => Fin.ext (by
    match a with
    | ⟨0, _⟩ => first | rfl | exact Nat.zero_add _ | exact Nat.add_zero _
    | ⟨1, _⟩ => first | rfl | exact Nat.zero_add _ | exact Nat.add_zero _
    | ⟨2, _⟩ => first | rfl | exact Nat.zero_add _ | exact Nat.add_comm _ _)
  rw [val_main_v17_apply, e, proj_at]

theorem a_part (j : Fin 512) : val_main_v18 (F := Ideal) x0 x1 x2 (ix3 b n j) = proj (fun k => x0 (ix3 b n k)) (fun k => x1 (ix1 k)) (fun k j => x2 (ix2 k j)) ⟨1544 + j.val, by have := j.isLt; omega⟩ := by
  have hj := j.isLt
  have e : idx_main_v18 (ix3 b n j) = ix3 b n (⟨1544 + j.val, by omega⟩ : Fin 2568) := funext fun a => Fin.ext (by
    match a with
    | ⟨0, _⟩ => first | rfl | exact Nat.zero_add _ | exact Nat.add_zero _
    | ⟨1, _⟩ => first | rfl | exact Nat.zero_add _ | exact Nat.add_zero _
    | ⟨2, _⟩ => first | rfl | exact Nat.zero_add _ | exact Nat.add_comm _ _)
  rw [val_main_v18_apply, e, proj_at]

theorem b_part (j : Fin 512) : val_main_v19 (F := Ideal) x0 x1 x2 (ix3 b n j) = proj (fun k => x0 (ix3 b n k)) (fun k => x1 (ix1 k)) (fun k j => x2 (ix2 k j)) ⟨2056 + j.val, by have := j.isLt; omega⟩ := by
  have hj := j.isLt
  have e : idx_main_v19 (ix3 b n j) = ix3 b n (⟨2056 + j.val, by omega⟩ : Fin 2568) := funext fun a => Fin.ext (by
    match a with
    | ⟨0, _⟩ => first | rfl | exact Nat.zero_add _ | exact Nat.add_zero _
    | ⟨1, _⟩ => first | rfl | exact Nat.zero_add _ | exact Nat.add_zero _
    | ⟨2, _⟩ => first | rfl | exact Nat.zero_add _ | exact Nat.add_comm _ _)
  rw [val_main_v19_apply, e, proj_at]

theorem query_at (j : Fin 512) : (val_main_v33 (F := Ideal) x0 x1 x2 (ix3 b n j) : EReal) = query (fun k => x0 (ix3 b n k)) (fun k => x1 (ix1 k)) (fun k j => x2 (ix2 k j)) j := by
  rw [val_main_v33_apply, val_main_v32_apply, val_main_v31_apply, val_main_cst_4_apply, q_part]
  rfl

theorem conv_at (j : Fin 512) : val_main_v30 (F := Ideal) x0 x1 x2 (ix3 b n j) = conv (fun k => x0 (ix3 b n k)) (fun k => x1 (ix1 k)) (fun k j => x2 (ix2 k j)) j := by
  have o1 : FloatOps.ofBits (F := Ideal) .f32 0x3F800000#32 = (1 : EReal) := one_word
  rw [val_main_v30_apply, val_main_v29_apply, val_main_v28_apply, val_main_v27_apply, val_main_v26_apply, val_main_v25_apply, val_main_v24_apply, val_main_cst_2_apply, val_main_cst_3_apply, o1, a_part, b_part]
  rfl

theorem gate_at (h : Fin 8) : val_main_v22 (F := Ideal) x0 x1 x2 x3 (ix3 b n h) = proj (fun k => x0 (ix3 b n k)) (fun k => x1 (ix1 k)) (fun k j => x2 (ix2 k j)) ⟨1536 + h.val, by have := h.isLt; omega⟩ + x3 (ix1 h) := by
  have e : idx_main_v20 (idx_main_v21 (ix3 b n h)) = ix1 h := funext fun a => Fin.ext (by
    match a with
    | ⟨0, _⟩ => rfl)
  rw [val_main_v22_apply, val_main_v21_apply, val_main_v20_apply, e, f_part]
  rfl

theorem logf_at (h : Fin 8) : val_main_v23 (F := Ideal) x0 x1 x2 x3 (ix3 b n h) = logf (fun k => x0 (ix3 b n k)) (fun k => x1 (ix1 k)) (fun k j => x2 (ix2 k j)) (fun h => x3 (ix1 h)) h := by
  have z : FloatOps.ofBits (F := Ideal) .f32 0x00000000#32 = (0 : EReal) := Ideal.ofBits_zero_f32
  rw [val_main_v23_apply, val_main_call0_v1_apply, val_main_call0_call0_v4_apply, select_self, val_main_call0_call0_v11_apply, val_main_call0_call0_v1_apply,
    val_main_call0_call0_v10_apply, val_main_call0_call0_v9_apply, val_main_call0_call0_v8_apply, val_main_call0_call0_v7_apply, val_main_call0_call0_v3_apply,
    val_main_call0_call0_v2_apply, val_main_call0_call0_v0_apply, val_main_call0_call0_cst_apply, val_main_call0_v0_apply, gate_at, z]
  exact lsig_eq _

omit b n

theorem queries_at (R : Fin 128) (j : Fin 512) : (val_main_v34 (F := Ideal) x0 x1 x2 (ix3 0 R j) : EReal) = query (fun k => x0 (ix3 (bat R) (pos R) k)) (fun k => x1 (ix1 k)) (fun k j => x2 (ix2 k j)) j := by
  have hR := R.isLt
  have hj := j.isLt
  have e : idx_main_v34 (ix3 0 R j) = ix3 (bat R) (pos R) j := funext fun a => Fin.ext (by
    match a with
    | ⟨0, _⟩ => show ((0 * 128 + R.val) * 512 + j.val) / 2048 = R.val / 4; omega
    | ⟨1, _⟩ => show ((0 * 128 + R.val) * 512 + j.val) / 512 % 4 = R.val % 4; omega
    | ⟨2, _⟩ => show ((0 * 128 + R.val) * 512 + j.val) % 512 = j.val; omega)
  rw [val_main_v34_apply, e, query_at]

theorem keys_at (R : Fin 128) (j : Fin 512) : (val_main_v35 (F := Ideal) x0 x1 x2 (ix3 0 R j) : EReal) = key (fun k => x0 (ix3 (bat R) (pos R) k)) (fun k => x1 (ix1 k)) (fun k j => x2 (ix2 k j)) j := by
  have hR := R.isLt
  have hj := j.isLt
  have e : idx_main_v35 (ix3 0 R j) = ix3 (bat R) (pos R) j := funext fun a => Fin.ext (by
    match a with
    | ⟨0, _⟩ => show ((0 * 128 + R.val) * 512 + j.val) / 2048 = R.val / 4; omega
    | ⟨1, _⟩ => show ((0 * 128 + R.val) * 512 + j.val) / 512 % 4 = R.val % 4; omega
    | ⟨2, _⟩ => show ((0 * 128 + R.val) * 512 + j.val) % 512 = j.val; omega)
  rw [val_main_v35_apply, e, k_part]
  rfl

theorem values_at (R : Fin 128) (j : Fin 512) : (val_main_v36 (F := Ideal) x0 x1 x2 (ix3 0 R j) : EReal) = value (fun k => x0 (ix3 (bat R) (pos R) k)) (fun k => x1 (ix1 k)) (fun k j => x2 (ix2 k j)) j := by
  have hR := R.isLt
  have hj := j.isLt
  have e : idx_main_v36 (ix3 0 R j) = ix3 (bat R) (pos R) j := funext fun a => Fin.ext (by
    match a with
    | ⟨0, _⟩ => show ((0 * 128 + R.val) * 512 + j.val) / 2048 = R.val / 4; omega
    | ⟨1, _⟩ => show ((0 * 128 + R.val) * 512 + j.val) / 512 % 4 = R.val % 4; omega
    | ⟨2, _⟩ => show ((0 * 128 + R.val) * 512 + j.val) % 512 = j.val; omega)
  rw [val_main_v36_apply, e, v_part]
  rfl

theorem convs_at (R : Fin 128) (j : Fin 512) : (val_main_v39 (F := Ideal) x0 x1 x2 (ix3 0 R j) : EReal) = conv (fun k => x0 (ix3 (bat R) (pos R) k)) (fun k => x1 (ix1 k)) (fun k j => x2 (ix2 k j)) j := by
  have hR := R.isLt
  have hj := j.isLt
  have e : idx_main_v39 (ix3 0 R j) = ix3 (bat R) (pos R) j := funext fun a => Fin.ext (by
    match a with
    | ⟨0, _⟩ => show ((0 * 128 + R.val) * 512 + j.val) / 2048 = R.val / 4; omega
    | ⟨1, _⟩ => show ((0 * 128 + R.val) * 512 + j.val) / 512 % 4 = R.val % 4; omega
    | ⟨2, _⟩ => show ((0 * 128 + R.val) * 512 + j.val) % 512 = j.val; omega)
  rw [val_main_v39_apply, e, conv_at]

theorem gates_at (h : Fin 8) (R : Fin 128) : val_main_v38 (F := Ideal) x0 x1 x2 x3 (ix3 0 h R) = logf (fun k => x0 (ix3 (bat R) (pos R) k)) (fun k => x1 (ix1 k)) (fun k j => x2 (ix2 k j)) (fun h => x3 (ix1 h)) h := by
  have hR := R.isLt
  have hh := h.isLt
  have e' : idx_main_v38 (ix3 0 h R) = ix3 0 R h := funext fun a => Fin.ext (by
    match a with
    | ⟨0, _⟩ => rfl
    | ⟨1, _⟩ => rfl
    | ⟨2, _⟩ => rfl)
  have e : idx_main_v37 (ix3 0 R h) = ix3 (bat R) (pos R) h := funext fun a => Fin.ext (by
    match a with
    | ⟨0, _⟩ => show ((0 * 128 + R.val) * 8 + h.val) / 32 = R.val / 4; omega
    | ⟨1, _⟩ => show ((0 * 128 + R.val) * 8 + h.val) / 8 % 4 = R.val % 4; omega
    | ⟨2, _⟩ => show ((0 * 128 + R.val) * 8 + h.val) % 8 = h.val; omega)
  rw [val_main_v38_apply, e', val_main_v37_apply, e, logf_at]

end Cert.InS.Plain

namespace Cert.InS

open Idealize.ShloMosaic Cert.Kernel6Ideal Cert.Kernel6Ideal.Gen Idealize.ShloMosaic.TcCoe

variable (m : (ℓ : Loc nD τ sig) → Buf (Elt Ideal) ℓ) (c : Dev nD)

theorem res_q : (dats m 0 c).arrAt 5 cfg0.N = Cert.Reference6Ideal.Read.val_main_v34 (F := Ideal) (ax m c) (ag m c) (aw m c) := by
  rw [arr_q]
  funext i
  idx_vars i
  obtain rfl : i0 = 0 := Subsingleton.elim _ _
  exact (Plain.queries_at _ _ _ i1 i2).symm

theorem res_k : (dats m 0 c).arrAt 6 cfg0.N = Cert.Reference6Ideal.Read.val_main_v35 (F := Ideal) (ax m c) (ag m c) (aw m c) := by
  rw [arr_k]
  funext i
  idx_vars i
  obtain rfl : i0 = 0 := Subsingleton.elim _ _
  exact (Plain.keys_at _ _ _ i1 i2).symm

theorem res_v : (dats m 0 c).arrAt 7 cfg0.N = Cert.Reference6Ideal.Read.val_main_v36 (F := Ideal) (ax m c) (ag m c) (aw m c) := by
  rw [arr_v]
  funext i
  idx_vars i
  obtain rfl : i0 = 0 := Subsingleton.elim _ _
  exact (Plain.values_at _ _ _ i1 i2).symm

theorem res_f : (dats m 0 c).arrAt 8 cfg0.N = Cert.Reference6Ideal.Read.val_main_v38 (F := Ideal) (ax m c) (ag m c) (aw m c) (ab m c) := by
  rw [arr_f]
  funext i
  idx_vars i
  obtain rfl : i0 = 0 := Subsingleton.elim _ _
  exact (Plain.gates_at _ _ _ _ i1 i2).symm

theorem res_u : (dats m 0 c).arrAt 9 cfg0.N = Cert.Reference6Ideal.Read.val_main_v39 (F := Ideal) (ax m c) (ag m c) (aw m c) := by
  rw [arr_u]
  funext i
  idx_vars i
  obtain rfl : i0 = 0 := Subsingleton.elim _ _
  exact (Plain.convs_at _ _ _ i1 i2).symm

end Cert.InS
-- ==== Proof.lean ====
/- The certificate: the frames, the named mask constant, and the values of the attention, the feed-forward layer, the pooling mixer and the mixer's projection. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Value
public import proofs.«01_k».proof.Proof.FfnPRef
public import proofs.«01_k».proof.Proof.FfnSRef
public import proofs.«01_k».proof.Proof.PoolEqual
public import proofs.«01_k».proof.Proof.InPRef
public import proofs.«01_k».proof.Proof.InSRef
public import Idealize.ShloMosaic.Adequacy
public import Idealize.ShloMosaic.Init

@[expose] public section

noncomputable section

namespace Cert.Proof

open Idealize.ShloMosaic Idealize.SL.Sem

/-- The plain attention runs and keeps its arguments; it has no semaphores. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The attention call and the plain attention end with equal results. -/
theorem attention [hPre : Cert.Pre_finite.Facts] : Cert.algebraic_KernelIdeal_ReferenceIdeal_pre_finite := by
  intro m g m' g' hpre hagree
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨h0, h1, h3⟩ := Cert.Attn.real_of_pre _ _ _ _ (hpre c)
  obtain ⟨e0, e1, e2, e3⟩ := hagree c
  rw [Cert.ReferenceIdeal.Read.val_main_v32_eq]
  refine Eq.trans ?_ (Cert.Attn.result m c h0 h1 h3).symm
  exact (congr (congr (congr (congrArg (Cert.ReferenceIdeal.Read.val_main_v32 (F := Ideal)) e0) e1) e2) e3)

/-- The plain feed-forward layer on the prompt runs and keeps its arguments; it has no semaphores. -/
theorem frame_ref2 (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
        ∧ r.2.sem = fun _ => 0) :=
  (θ_run Cert.Reference2Ideal.defs _ _).mono (fun r h => ⟨fun c => (h c).2, sem_eq_zero_of_no_sems (by decide) r.2⟩)
    (Cert.Reference2Ideal.Value.run (F := Ideal) m g)

/-- The feed-forward call on the prompt and the plain layer end with equal results. -/
theorem ffn_prompt : Cert.algebraic_Kernel2Ideal_Reference2Ideal := by
  intro m g m' g' _ hagree
  refine ⟨fun c => (Cert.Kernel2Ideal.Gen.dats m 0 c).arrAt 6 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run (F := Ideal) m' g')
  obtain ⟨e0, e1, e2, e3, e4, e5⟩ := hagree c
  rw [Cert.Reference2Ideal.Read.val_main_v34_eq]
  refine Eq.trans ?_ (Cert.FfnP.result m c).symm
  exact congr (congr (congr (congr (congr (congrArg (Cert.Reference2Ideal.Read.val_main_v34 (F := Ideal)) e0) e1) e2) e3) e4) e5

/-- The plain feed-forward layer on the samples runs and keeps its arguments; it has no semaphores. -/
theorem frame_ref3 (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
        ∧ r.2.sem = fun _ => 0) :=
  (θ_run Cert.Reference3Ideal.defs _ _).mono (fun r h => ⟨fun c => (h c).2, sem_eq_zero_of_no_sems (by decide) r.2⟩)
    (Cert.Reference3Ideal.Value.run (F := Ideal) m g)

/-- The feed-forward call on the samples and the plain layer end with equal results. -/
theorem ffn_samples : Cert.algebraic_Kernel3Ideal_Reference3Ideal := by
  intro m g m' g' _ hagree
  refine ⟨fun c => (Cert.Kernel3Ideal.Gen.dats m 0 c).arrAt 6 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run (F := Ideal) m' g')
  obtain ⟨e0, e1, e2, e3, e4, e5⟩ := hagree c
  rw [Cert.Reference3Ideal.Read.val_main_v34_eq]
  refine Eq.trans ?_ (Cert.FfnS.result m c).symm
  exact congr (congr (congr (congr (congr (congrArg (Cert.Reference3Ideal.Read.val_main_v34 (F := Ideal)) e0) e1) e2) e3) e4) e5

/-- The plain pooling mixer runs and keeps its arguments; it has no semaphores. -/
theorem frame_ref4 (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
        ∧ r.2.sem = fun _ => 0) :=
  (θ_run Cert.Reference4Ideal.defs _ _).mono (fun r h => ⟨fun c => (h c).2.2, sem_eq_zero_of_no_sems (by decide) r.2⟩)
    (Cert.Reference4Ideal.Value.run (F := Ideal) m g)

/-- The pooling call and the plain mixer end with equal results. -/
theorem pooling : Cert.algebraic_Kernel4Ideal_Reference4Ideal := by
  intro m g m' g' _ hagree
  refine ⟨fun c => (Cert.Kernel4Ideal.Gen.dats m 0 c).arrAt 6 Cert.Kernel4Ideal.cfg0.N, fun c => (Cert.Kernel4Ideal.Gen.dats m 0 c).arrAt 7 Cert.Kernel4Ideal.cfg0.N,
    Cert.Kernel4Ideal.Value.run_blocks m g, ?_⟩
  refine (θ_run Cert.Reference4Ideal.defs _ _).mono (fun r h c => ⟨(h c).1.trans ?_, (h c).2.1.trans ?_, (h c).2.2⟩) (Cert.Reference4Ideal.Value.run (F := Ideal) m' g')
  all_goals obtain ⟨e0, e1, e2, e3, e4⟩ := hagree c
  · rw [Cert.Reference4Ideal.Read.val_main_v141_eq]
    refine Eq.trans ?_ (Cert.Pool.result m c).symm
    exact congr (congr (congr (congr (congrArg (Cert.Reference4Ideal.Read.val_main_v141 (F := Ideal)) e0) e1) e2) e3) e4
  · rw [Cert.Reference4Ideal.Read.val_main_v142_eq]
    refine Eq.trans ?_ (Cert.Pool.tail m c).symm
    exact congr (congrArg (Cert.Reference4Ideal.Read.val_main_v142 (F := Ideal)) e0) e1

/-- The plain projection of the prompt runs and keeps its arguments; it has no semaphores. -/
theorem frame_ref5 (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩
      (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
        ∧ r.2.sem = fun _ => 0) :=
  (θ_run Cert.Reference5Ideal.defs _ _).mono (fun r h => ⟨fun c => (h c).2.2.2.2.2.2.2, sem_eq_zero_of_no_sems (by decide) r.2⟩)
    (Cert.Reference5Ideal.Value.run (F := Ideal) m g)

set_option maxHeartbeats 2000000 in
/-- The projection call on the prompt and the plain projection end with equal results. -/
theorem proj_prompt : Cert.algebraic_Kernel5Ideal_Reference5Ideal := by
  intro m g m' g' _ hagree
  refine ⟨fun c => (Cert.Kernel5Ideal.Gen.dats m 0 c).arrAt 5 Cert.Kernel5Ideal.cfg0.N,
    fun c => (Cert.Kernel5Ideal.Gen.dats m 0 c).arrAt 6 Cert.Kernel5Ideal.cfg0.N,
    fun c => (Cert.Kernel5Ideal.Gen.dats m 0 c).arrAt 7 Cert.Kernel5Ideal.cfg0.N,
    fun c => (Cert.Kernel5Ideal.Gen.dats m 0 c).arrAt 8 Cert.Kernel5Ideal.cfg0.N,
    fun c => (Cert.Kernel5Ideal.Gen.dats m 0 c).arrAt 9 Cert.Kernel5Ideal.cfg0.N,
    fun c => (Cert.Kernel5Ideal.Gen.dats m 0 c).arrAt 10 Cert.Kernel5Ideal.cfg0.N,
    fun c => (Cert.Kernel5Ideal.Gen.dats m 0 c).arrAt 11 Cert.Kernel5Ideal.cfg0.N,
    (θ_run Cert.Kernel5Ideal.defs _ _).mono (fun r h c => ⟨(h c).1, (h c).2.1, (h c).2.2.1, (h c).2.2.2.1, (h c).2.2.2.2.1, (h c).2.2.2.2.2.1, (h c).2.2.2.2.2.2.1, (h c).2.2.2.2.2.2.2.2.2⟩) (Cert.Kernel5Ideal.Value.run_blocks m g), ?_⟩
  refine (θ_run Cert.Reference5Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.Reference5Ideal.Value.run (F := Ideal) m' g')
  all_goals obtain ⟨e0, e1, e2, e3⟩ := hagree c
  · refine Eq.trans (Cert.Reference5Ideal.Read.val_main_v33_eq _ _ _) ?_
    refine Eq.trans ?_ (Cert.InP.res_q m c).symm
    exact congr (congr (congrArg (Cert.Reference5Ideal.Read.val_main_v33 (F := Ideal)) e0) e1) e2
  · refine Eq.trans (Cert.Reference5Ideal.Read.val_main_v34_eq _ _ _) ?_
    refine Eq.trans ?_ (Cert.InP.res_k m c).symm
    exact congr (congr (congrArg (Cert.Reference5Ideal.Read.val_main_v34 (F := Ideal)) e0) e1) e2
  · refine Eq.trans (Cert.Reference5Ideal.Read.val_main_v35_eq _ _ _) ?_
    refine Eq.trans ?_ (Cert.InP.res_v m c).symm
    exact congr (congr (congrArg (Cert.Reference5Ideal.Read.val_main_v35 (F := Ideal)) e0) e1) e2
  · refine Eq.trans (Cert.Reference5Ideal.Read.val_main_v37_eq _ _ _) ?_
    refine Eq.trans ?_ (Cert.InP.res_kb m c).symm
    exact congr (congr (congrArg (Cert.Reference5Ideal.Read.val_main_v37 (F := Ideal)) e0) e1) e2
  · refine Eq.trans (Cert.Reference5Ideal.Read.val_main_v38_eq _ _ _) ?_
    refine Eq.trans ?_ (Cert.InP.res_vb m c).symm
    exact congr (congr (congrArg (Cert.Reference5Ideal.Read.val_main_v38 (F := Ideal)) e0) e1) e2
  · refine Eq.trans (Cert.Reference5Ideal.Read.val_main_v39_eq m' c) ?_
    refine Eq.trans ?_ (Cert.InP.res_f m c).symm
    exact congr (congr (congr (congrArg (Cert.Reference5Ideal.Read.val_main_v39 (F := Ideal)) e0) e1) e2) e3
  · refine Eq.trans (Cert.Reference5Ideal.Read.val_main_v30_eq _ _ _) ?_
    refine Eq.trans ?_ (Cert.InP.res_u m c).symm
    exact congr (congr (congrArg (Cert.Reference5Ideal.Read.val_main_v30 (F := Ideal)) e0) e1) e2

/-- The plain projection of the samples runs and keeps its arguments; it has no semaphores. -/
theorem frame_ref6 (m : (ℓ : Loc Cert.Reference6Ideal.nD Cert.Reference6Ideal.τ Cert.Reference6Ideal.sig) → Buf (Elt Ideal) ℓ)
    (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩
      (fun r => (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
        ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
        ∧ r.2.sem = fun _ => 0) :=
  (θ_run Cert.Reference6Ideal.defs _ _).mono (fun r h => ⟨fun c => (h c).2.2.2.2.2, sem_eq_zero_of_no_sems (by decide) r.2⟩)
    (Cert.Reference6Ideal.Value.run (F := Ideal) m g)

set_option maxHeartbeats 2000000 in
/-- The projection call on the samples and the plain projection end with equal results. -/
theorem proj_samples : Cert.algebraic_Kernel6Ideal_Reference6Ideal := by
  intro m g m' g' _ hagree
  refine ⟨fun c => (Cert.Kernel6Ideal.Gen.dats m 0 c).arrAt 5 Cert.Kernel6Ideal.cfg0.N,
    fun c => (Cert.Kernel6Ideal.Gen.dats m 0 c).arrAt 6 Cert.Kernel6Ideal.cfg0.N,
    fun c => (Cert.Kernel6Ideal.Gen.dats m 0 c).arrAt 7 Cert.Kernel6Ideal.cfg0.N,
    fun c => (Cert.Kernel6Ideal.Gen.dats m 0 c).arrAt 8 Cert.Kernel6Ideal.cfg0.N,
    fun c => (Cert.Kernel6Ideal.Gen.dats m 0 c).arrAt 9 Cert.Kernel6Ideal.cfg0.N,
    (θ_run Cert.Kernel6Ideal.defs _ _).mono (fun r h c => ⟨(h c).1, (h c).2.1, (h c).2.2.1, (h c).2.2.2.1, (h c).2.2.2.2.1, (h c).2.2.2.2.2.2.2⟩) (Cert.Kernel6Ideal.Value.run_blocks m g), ?_⟩
  refine (θ_run Cert.Reference6Ideal.defs _ _).mono (fun r h c => ⟨(h c).1.trans ?_, (h c).2.1.trans ?_, (h c).2.2.1.trans ?_, (h c).2.2.2.1.trans ?_, (h c).2.2.2.2.1.trans ?_, (h c).2.2.2.2.2⟩) (Cert.Reference6Ideal.Value.run (F := Ideal) m' g')
  all_goals obtain ⟨e0, e1, e2, e3⟩ := hagree c
  · refine Eq.trans (Cert.Reference6Ideal.Read.val_main_v34_eq _ _ _) ?_
    refine Eq.trans ?_ (Cert.InS.res_q m c).symm
    exact congr (congr (congrArg (Cert.Reference6Ideal.Read.val_main_v34 (F := Ideal)) e0) e1) e2
  · refine Eq.trans (Cert.Reference6Ideal.Read.val_main_v35_eq _ _ _) ?_
    refine Eq.trans ?_ (Cert.InS.res_k m c).symm
    exact congr (congr (congrArg (Cert.Reference6Ideal.Read.val_main_v35 (F := Ideal)) e0) e1) e2
  · refine Eq.trans (Cert.Reference6Ideal.Read.val_main_v36_eq _ _ _) ?_
    refine Eq.trans ?_ (Cert.InS.res_v m c).symm
    exact congr (congr (congrArg (Cert.Reference6Ideal.Read.val_main_v36 (F := Ideal)) e0) e1) e2
  · refine Eq.trans (Cert.Reference6Ideal.Read.val_main_v38_eq m' c) ?_
    refine Eq.trans ?_ (Cert.InS.res_f m c).symm
    exact congr (congr (congr (congrArg (Cert.Reference6Ideal.Read.val_main_v38 (F := Ideal)) e0) e1) e2) e3
  · refine Eq.trans (Cert.Reference6Ideal.Read.val_main_v39_eq _ _ _) ?_
    refine Eq.trans ?_ (Cert.InS.res_u m c).symm
    exact congr (congr (congrArg (Cert.Reference6Ideal.Read.val_main_v39 (F := Ideal)) e0) e1) e2

theorem claim : Cert.Claim :=
  haveI := Cert.Attn.pre_facts
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
    Cert.Attn.pre_facts,
    fun m g _ => Cert.Kernel.Gen.frame m g,
    fun m g _ => Cert.KernelIdeal.Gen.frame m g,
    fun m g _ => Cert.KernelIdeal.Gen.frame m g,
    fun m g _ => frame_ref m g,
    fun m g _ => frame_ref m g,
    fun m g _ => Cert.Kernel2.Gen.frame m g,
    fun m g _ => Cert.Kernel2Ideal.Gen.frame m g,
    fun m g _ => frame_ref2 m g,
    fun m g _ => Cert.Kernel3.Gen.frame m g,
    fun m g _ => Cert.Kernel3Ideal.Gen.frame m g,
    fun m g _ => frame_ref3 m g,
    fun m g _ => Cert.Kernel4.Gen.frame m g,
    fun m g _ => Cert.Kernel4Ideal.Gen.frame m g,
    fun m g _ => frame_ref4 m g,
    fun m g _ => Cert.Kernel5.Gen.frame m g,
    fun m g _ => Cert.Kernel5Ideal.Gen.frame m g,
    fun m g _ => frame_ref5 m g,
    fun m g _ => Cert.Kernel6.Gen.frame m g,
    fun m g _ => Cert.Kernel6Ideal.Gen.frame m g,
    fun m g _ => frame_ref6 m g,
    IdealRules.named_const.statement Cert.KernelIdeal.κ "mask" .f32 0xF149F2CA#32 ⊥ rfl,
    attention,
    trivial,
    ffn_prompt,
    trivial,
    ffn_samples,
    trivial,
    pooling,
    trivial,
    proj_prompt,
    trivial,
    proj_samples⟩

end Cert.Proof

end
